-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1152x4608 : Shape := ⟨2, ![1152, 4608]⟩
abbrev S6912x1152 : Shape := ⟨2, ![6912, 1152]⟩
abbrev S6912x36 : Shape := ⟨2, ![6912, 36]⟩
abbrev S1152x6912 : Shape := ⟨2, ![1152, 6912]⟩
abbrev S1152x216 : Shape := ⟨2, ![1152, 216]⟩
abbrev S4608x1152 : Shape := ⟨2, ![4608, 1152]⟩
abbrev S4608x6912 : Shape := ⟨2, ![4608, 6912]⟩
abbrev S4608x216 : Shape := ⟨2, ![4608, 216]⟩
abbrev S1152x768 : Shape := ⟨2, ![1152, 768]⟩
abbrev S768x1152 : Shape := ⟨2, ![768, 1152]⟩
abbrev S768x36 : Shape := ⟨2, ![768, 36]⟩
abbrev S128x1152 : Shape := ⟨2, ![128, 1152]⟩
abbrev S128x36 : Shape := ⟨2, ![128, 36]⟩
abbrev S192x768 : Shape := ⟨2, ![192, 768]⟩
abbrev S192x216 : Shape := ⟨2, ![192, 216]⟩
abbrev S768x768 : Shape := ⟨2, ![768, 768]⟩
abbrev S768x216 : Shape := ⟨2, ![768, 216]⟩
abbrev S2x768x1152 : Shape := ⟨3, ![2, 768, 1152]⟩
abbrev S2x1152x768 : Shape := ⟨3, ![2, 1152, 768]⟩
abbrev S6x1152x768 : Shape := ⟨3, ![6, 1152, 768]⟩
abbrev S6x216x768 : Shape := ⟨3, ![6, 216, 768]⟩
abbrev S128x92 : Shape := ⟨2, ![128, 92]⟩
abbrev S128x128 : Shape := ⟨2, ![128, 128]⟩
abbrev S128x128x1 : Shape := ⟨3, ![128, 128, 1]⟩
abbrev S1x128x1152 : Shape := ⟨3, ![1, 128, 1152]⟩
abbrev S128x768 : Shape := ⟨2, ![128, 768]⟩
abbrev S128x216 : Shape := ⟨2, ![128, 216]⟩
abbrev S128x40 : Shape := ⟨2, ![128, 40]⟩
abbrev S128x256 : Shape := ⟨2, ![128, 256]⟩
abbrev S1x128x768 : Shape := ⟨3, ![1, 128, 768]⟩
abbrev S1x1152x768 : Shape := ⟨3, ![1, 1152, 768]⟩
abbrev S192x40 : Shape := ⟨2, ![192, 40]⟩
abbrev S192x256 : Shape := ⟨2, ![192, 256]⟩
abbrev S192x128 : Shape := ⟨2, ![192, 128]⟩
abbrev S192x128x1 : Shape := ⟨3, ![192, 128, 1]⟩
abbrev S1x192x768 : Shape := ⟨3, ![1, 192, 768]⟩
abbrev S1152x256 : Shape := ⟨2, ![1152, 256]⟩
abbrev S1x768x1152 : Shape := ⟨3, ![1, 768, 1152]⟩
abbrev S768x256 : Shape := ⟨2, ![768, 256]⟩
abbrev S24x32x256 : Shape := ⟨3, ![24, 32, 256]⟩
abbrev S24x256 : Shape := ⟨2, ![24, 256]⟩
abbrev S24x1x256 : Shape := ⟨3, ![24, 1, 256]⟩
abbrev S256x768 : Shape := ⟨2, ![256, 768]⟩
abbrev S1x24x256 : Shape := ⟨3, ![1, 24, 256]⟩
abbrev S1x1152x256 : Shape := ⟨3, ![1, 1152, 256]⟩
abbrev S1x216x768 : Shape := ⟨3, ![1, 216, 768]⟩
abbrev S216x768 : Shape := ⟨2, ![216, 768]⟩
abbrev S40x768 : Shape := ⟨2, ![40, 768]⟩

abbrev nBuf : Space → Nat
  | .hbm => 11
  | .vmem => 33
  | .smem => 0
  | _ => 0

abbrev bufTy : (tb : Table) → Fin (tcTables nBuf tb) → BufTy
  | .hbm, ⟨0, _⟩ => ⟨S1152x4608, .bf16⟩
  | .hbm, ⟨1, _⟩ => ⟨S1152x4608, .f32⟩
  | .hbm, ⟨2, _⟩ => ⟨S6912x1152, .fp8e4m3⟩
  | .hbm, ⟨3, _⟩ => ⟨S6912x36, .i8⟩
  | .hbm, ⟨4, _⟩ => ⟨S6912x1152, .fp8e4m3⟩
  | .hbm, ⟨5, _⟩ => ⟨S6912x36, .i8⟩
  | .hbm, ⟨6, _⟩ => ⟨S1152x6912, .fp8e4m3⟩
  | .hbm, ⟨7, _⟩ => ⟨S1152x216, .i8⟩
  | .hbm, ⟨8, _⟩ => ⟨S4608x1152, .bf16⟩
  | .hbm, ⟨9, _⟩ => ⟨S4608x6912, .fp8e4m3⟩
  | .hbm, ⟨10, _⟩ => ⟨S4608x216, .i8⟩
  | .local _ .vmem, ⟨0, _⟩ => ⟨S1152x768, .bf16⟩
  | .local _ .vmem, ⟨1, _⟩ => ⟨S1152x768, .bf16⟩
  | .local _ .vmem, ⟨2, _⟩ => ⟨S1152x768, .f32⟩
  | .local _ .vmem, ⟨3, _⟩ => ⟨S1152x768, .f32⟩
  | .local _ .vmem, ⟨4, _⟩ => ⟨S768x1152, .fp8e4m3⟩
  | .local _ .vmem, ⟨5, _⟩ => ⟨S768x36, .i8⟩
  | .local _ .vmem, ⟨6, _⟩ => ⟨S768x1152, .fp8e4m3⟩
  | .local _ .vmem, ⟨7, _⟩ => ⟨S768x36, .i8⟩
  | .local _ .vmem, ⟨8, _⟩ => ⟨S1152x768, .fp8e4m3⟩
  | .local _ .vmem, ⟨9, _⟩ => ⟨S128x1152, .fp8e4m3⟩
  | .local _ .vmem, ⟨10, _⟩ => ⟨S128x1152, .fp8e4m3⟩
  | .local _ .vmem, ⟨11, _⟩ => ⟨S128x36, .i8⟩
  | .local _ .vmem, ⟨12, _⟩ => ⟨S128x36, .i8⟩
  | .local _ .vmem, ⟨13, _⟩ => ⟨S128x1152, .fp8e4m3⟩
  | .local _ .vmem, ⟨14, _⟩ => ⟨S128x1152, .fp8e4m3⟩
  | .local _ .vmem, ⟨15, _⟩ => ⟨S128x36, .i8⟩
  | .local _ .vmem, ⟨16, _⟩ => ⟨S128x36, .i8⟩
  | .local _ .vmem, ⟨17, _⟩ => ⟨S192x768, .fp8e4m3⟩
  | .local _ .vmem, ⟨18, _⟩ => ⟨S192x768, .fp8e4m3⟩
  | .local _ .vmem, ⟨19, _⟩ => ⟨S192x216, .i8⟩
  | .local _ .vmem, ⟨20, _⟩ => ⟨S192x216, .i8⟩
  | .local _ .vmem, ⟨21, _⟩ => ⟨S1152x216, .i8⟩
  | .local _ .vmem, ⟨22, _⟩ => ⟨S768x1152, .bf16⟩
  | .local _ .vmem, ⟨23, _⟩ => ⟨S768x1152, .bf16⟩
  | .local _ .vmem, ⟨24, _⟩ => ⟨S768x768, .fp8e4m3⟩
  | .local _ .vmem, ⟨25, _⟩ => ⟨S768x768, .fp8e4m3⟩
  | .local _ .vmem, ⟨26, _⟩ => ⟨S768x216, .i8⟩
  | .local _ .vmem, ⟨27, _⟩ => ⟨S768x216, .i8⟩
  | .local _ .vmem, ⟨28, _⟩ => ⟨S2x768x1152, .bf16⟩
  | .local _ .vmem, ⟨29, _⟩ => ⟨S2x768x1152, .bf16⟩
  | .local _ .vmem, ⟨30, _⟩ => ⟨S2x1152x768, .bf16⟩
  | .local _ .vmem, ⟨31, _⟩ => ⟨S6x1152x768, .f32⟩
  | .local _ .vmem, ⟨32, _⟩ => ⟨S6x216x768, .i32⟩
  | _, _ => ⟨S1152x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![54], ![false]⟩

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let c0_i32_18 : BitVec 32 := 0#32
  let v41 : BitVec 1 := Scalar.cmpi .eq v16 c0_i32_18
  let v42 : BitVec 32 := Scalar.extui v41
  let c0_i32_19 : BitVec 32 := 0#32
  let v43 : BitVec 1 := Scalar.cmpi .ne v42 c0_i32_19
  v43

def k0_off1 (i : grid0.Coords) : Fin 3 → Nat :=
  let arg0 : BitVec 32 := BitVec.ofNat 32 (i 0).val
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1617 : Index := Scalar.indexCast v26
  let c0_492 : Index := 0#32
  let c0_493 : Index := 0#32
  ![v1617.toNat, 0, 0]
def k0_off2 (i : grid0.Coords) : Fin 3 → Nat :=
  let c1_i32_15 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi v16 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let v37 : BitVec 32 := Scalar.subi c1_i32_15 v36
  let v423 : Index := Scalar.indexCast v37
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c128_i32_113 : BitVec 32 := 128#32
  let v422 : BitVec 32 := Scalar.muli v26 c128_i32_113
  let v424 : Index := Scalar.indexCast v422
  let c0_114 : Index := 0#32
  ![v423.toNat, v424.toNat, 0]
def k0_off3 (i : grid0.Coords) : Fin 3 → Nat :=
  let c1_i32_15 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi v16 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let v37 : BitVec 32 := Scalar.subi c1_i32_15 v36
  let v1167 : Index := Scalar.indexCast v37
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c192_i32 : BitVec 32 := 192#32
  let v1166 : BitVec 32 := Scalar.muli v26 c192_i32
  let v1168 : Index := Scalar.indexCast v1166
  let c0_321 : Index := 0#32
  ![v1167.toNat, v1168.toNat, 0]
def k0_off4 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi v16 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let v1173 : Index := Scalar.indexCast v36
  let c0_324 : Index := 0#32
  let c0_325 : Index := 0#32
  ![v1173.toNat, 0, 0]
def k0_off5 (i : grid0.Coords) : Fin 3 → Nat :=
  let arg0 : BitVec 32 := BitVec.ofNat 32 (i 0).val
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1311 : Index := Scalar.indexCast v26
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let c24_i32_374 : BitVec 32 := 24#32
  let v1310 : BitVec 32 := Scalar.muli v16 c24_i32_374
  let v1312 : Index := Scalar.indexCast v1310
  let c0_375 : Index := 0#32
  ![v1311.toNat, v1312.toNat, 0]
def k0_off6 (i : grid0.Coords) : Fin 3 → Nat :=
  let arg0 : BitVec 32 := BitVec.ofNat 32 (i 0).val
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1316 : Index := Scalar.indexCast v26
  let c0_376 : Index := 0#32
  let c0_377 : Index := 0#32
  ![v1316.toNat, 0, 0]
def k0_off7 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi v16 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let v1319 : Index := Scalar.indexCast v36
  let c0_378 : Index := 0#32
  let c0_379 : Index := 0#32
  ![v1319.toNat, 0, 0]
def k0_off8 (i : grid0.Coords) : Fin 3 → Nat :=
  let arg0 : BitVec 32 := BitVec.ofNat 32 (i 0).val
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1458 : Index := Scalar.indexCast v26
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let c24_i32_430 : BitVec 32 := 24#32
  let v1457 : BitVec 32 := Scalar.muli v16 c24_i32_430
  let v1459 : Index := Scalar.indexCast v1457
  let c256_431 : Index := 256#32
  ![v1458.toNat, v1459.toNat, 256]
def k0_off9 (i : grid0.Coords) : Fin 3 → Nat :=
  let arg0 : BitVec 32 := BitVec.ofNat 32 (i 0).val
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1463 : Index := Scalar.indexCast v26
  let c0_432 : Index := 0#32
  let c256_433 : Index := 256#32
  ![v1463.toNat, 0, 256]
def k0_off10 (i : grid0.Coords) : Fin 3 → Nat :=
  let arg0 : BitVec 32 := BitVec.ofNat 32 (i 0).val
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1596 : Index := Scalar.indexCast v26
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let c24_i32_479 : BitVec 32 := 24#32
  let v1595 : BitVec 32 := Scalar.muli v16 c24_i32_479
  let v1597 : Index := Scalar.indexCast v1595
  let c512_480 : Index := 512#32
  ![v1596.toNat, v1597.toNat, 512]
def k0_off11 (i : grid0.Coords) : Fin 3 → Nat :=
  let arg0 : BitVec 32 := BitVec.ofNat 32 (i 0).val
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1601 : Index := Scalar.indexCast v26
  let c0_481 : Index := 0#32
  let c512_482 : Index := 512#32
  ![v1601.toNat, 0, 512]
def k0_cond3 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c6_i32 : BitVec 32 := 6#32
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let v0 : BitVec 32 := Scalar.divsi arg0 c6_i32
  let c1_i32 : BitVec 32 := 1#32
  let v15 : BitVec 32 := Scalar.subi v0 c1_i32
  let v16 : BitVec 32 := Scalar.select v14 v15 v0
  let c8_i32_488 : BitVec 32 := 8#32
  let v1613 : BitVec 1 := Scalar.cmpi .eq v16 c8_i32_488
  let v1614 : BitVec 32 := Scalar.extui v1613
  let c0_i32_489 : BitVec 32 := 0#32
  let v1615 : BitVec 1 := Scalar.cmpi .ne v1614 c0_i32_489
  v1615

def k0_off12 (i : grid0.Coords) : Fin 3 → Nat :=
  let arg0 : BitVec 32 := BitVec.ofNat 32 (i 0).val
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1616 : Index := Scalar.indexCast v26
  let c0_490 : Index := 0#32
  let c0_491 : Index := 0#32
  ![v1616.toNat, 0, 0]
def k0_off13 (i : grid0.Coords) : Fin 3 → Nat :=
  let arg0 : BitVec 32 := BitVec.ofNat 32 (i 0).val
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v1622 : Index := Scalar.indexCast v26
  let c0_494 : Index := 0#32
  let c0_495 : Index := 0#32
  ![v1622.toNat, 0, 0]
def cc0_transform_0 (i : grid0.Coords) : Fin 2 → Nat :=
  let arg0 : BitVec 32 := BitVec.ofNat 32 (i 0).val
  let c6_i32 : BitVec 32 := 6#32
  let c0_i32 : BitVec 32 := 0#32
  let v0 : BitVec 1 := Scalar.cmpi .eq c6_i32 c0_i32
  let c1_i32 : BitVec 32 := 1#32
  let v1 : BitVec 32 := Scalar.select v0 c1_i32 c6_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_1 (i : grid0.Coords) : Fin 2 → Nat :=
  let arg0 : BitVec 32 := BitVec.ofNat 32 (i 0).val
  let c6_i32 : BitVec 32 := 6#32
  let v0 : BitVec 1 := Scalar.cmpi .slt arg0 c6_i32
  let c5_i32 : BitVec 32 := 5#32
  let v1 : BitVec 32 := Scalar.select v0 arg0 c5_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c8_i32 : BitVec 32 := 8#32
  let v18 : BitVec 32 := Scalar.minsi v17 c8_i32
  let c6_i32_5 : BitVec 32 := 6#32
  let v19 : BitVec 32 := Scalar.muli v18 c6_i32_5
  let c6_i32_6 : BitVec 32 := 6#32
  let c0_i32_7 : BitVec 32 := 0#32
  let v20 : BitVec 1 := Scalar.cmpi .eq c6_i32_6 c0_i32_7
  let c1_i32_8 : BitVec 32 := 1#32
  let v21 : BitVec 32 := Scalar.select v20 c1_i32_8 c6_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_12 : BitVec 32 := 0#32
  let c0_i32_13 : BitVec 32 := 0#32
  ![v30.toNat, c0_i32_12.toNat]

def cc0_transform_8 (i : grid0.Coords) : Fin 2 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c8_i32 : BitVec 32 := 8#32
  let v18 : BitVec 32 := Scalar.minsi v17 c8_i32
  let c6_i32_5 : BitVec 32 := 6#32
  let v19 : BitVec 32 := Scalar.muli v18 c6_i32_5
  let c6_i32_6 : BitVec 32 := 6#32
  let c0_i32_7 : BitVec 32 := 0#32
  let v20 : BitVec 1 := Scalar.cmpi .eq c6_i32_6 c0_i32_7
  let c1_i32_8 : BitVec 32 := 1#32
  let v21 : BitVec 32 := Scalar.select v20 c1_i32_8 c6_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_12 : BitVec 32 := 0#32
  let c0_i32_13 : BitVec 32 := 0#32
  ![v30.toNat, c0_i32_12.toNat]

def cc0_transform_9 (i : grid0.Coords) : Fin 2 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c8_i32 : BitVec 32 := 8#32
  let v18 : BitVec 32 := Scalar.minsi v17 c8_i32
  let c6_i32_5 : BitVec 32 := 6#32
  let v19 : BitVec 32 := Scalar.muli v18 c6_i32_5
  let c6_i32_6 : BitVec 32 := 6#32
  let c0_i32_7 : BitVec 32 := 0#32
  let v20 : BitVec 1 := Scalar.cmpi .eq c6_i32_6 c0_i32_7
  let c1_i32_8 : BitVec 32 := 1#32
  let v21 : BitVec 32 := Scalar.select v20 c1_i32_8 c6_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_12 : BitVec 32 := 0#32
  let c0_i32_13 : BitVec 32 := 0#32
  ![v30.toNat, c0_i32_12.toNat]

def cc0_transform_10 (i : grid0.Coords) : Fin 2 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c8_i32 : BitVec 32 := 8#32
  let v18 : BitVec 32 := Scalar.minsi v17 c8_i32
  let c6_i32_5 : BitVec 32 := 6#32
  let v19 : BitVec 32 := Scalar.muli v18 c6_i32_5
  let c6_i32_6 : BitVec 32 := 6#32
  let c0_i32_7 : BitVec 32 := 0#32
  let v20 : BitVec 1 := Scalar.cmpi .eq c6_i32_6 c0_i32_7
  let c1_i32_8 : BitVec 32 := 1#32
  let v21 : BitVec 32 := Scalar.select v20 c1_i32_8 c6_i32_6
  let v22 : BitVec 32 := Scalar.remsi arg0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_12 : BitVec 32 := 0#32
  let c0_i32_13 : BitVec 32 := 0#32
  ![v30.toNat, c0_i32_12.toNat]

def cc0_transform_11 (i : grid0.Coords) : Fin 2 → Nat :=
  let arg0 : BitVec 32 := BitVec.ofNat 32 (i 0).val
  let c6_i32 : BitVec 32 := 6#32
  let c0_i32 : BitVec 32 := 0#32
  let v0 : BitVec 1 := Scalar.cmpi .eq c6_i32 c0_i32
  let c1_i32 : BitVec 32 := 1#32
  let v1 : BitVec 32 := Scalar.select v0 c1_i32 c6_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c6_i32_3 : BitVec 32 := 6#32
  let v10 : BitVec 32 := Scalar.divsi arg0 c6_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c6_i32_3 c0_i32_6
  let v17 : BitVec 32 := Scalar.extui v16
  let c0_i32_7 : BitVec 32 := 0#32
  let v18 : BitVec 1 := Scalar.cmpi .slt c6_i32_3 c0_i32_7
  let v19 : BitVec 32 := Scalar.extui v18
  let v20 : BitVec 32 := Scalar.subi v17 v19
  let v21 : BitVec 1 := Scalar.cmpi .ne v15 v20
  let v22 : BitVec 32 := Scalar.remsi arg0 c6_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi v26 c1_i32_10
  let c8_i32 : BitVec 32 := 8#32
  let v28 : BitVec 32 := Scalar.minsi v27 c8_i32
  let c0_i32_11 : BitVec 32 := 0#32
  ![v9.toNat, v28.toNat]

def cc0_transform_12 (i : grid0.Coords) : Fin 2 → Nat :=
  let arg0 : BitVec 32 := BitVec.ofNat 32 (i 0).val
  let c6_i32 : BitVec 32 := 6#32
  let c0_i32 : BitVec 32 := 0#32
  let v0 : BitVec 1 := Scalar.cmpi .eq c6_i32 c0_i32
  let c1_i32 : BitVec 32 := 1#32
  let v1 : BitVec 32 := Scalar.select v0 c1_i32 c6_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c48_i32 : BitVec 32 := 48#32
  let v0 : BitVec 32 := Scalar.subi arg0 c48_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c6_i32 : BitVec 32 := 6#32
  let c0_i32 : BitVec 32 := 0#32
  let v0 : BitVec 1 := Scalar.cmpi .eq c6_i32 c0_i32
  let c1_i32 : BitVec 32 := 1#32
  let v1 : BitVec 32 := Scalar.select v0 c1_i32 c6_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c6_i32_3 : BitVec 32 := 6#32
  let v10 : BitVec 32 := Scalar.divsi arg0 c6_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c6_i32_3 c0_i32_6
  let v17 : BitVec 32 := Scalar.extui v16
  let c0_i32_7 : BitVec 32 := 0#32
  let v18 : BitVec 1 := Scalar.cmpi .slt c6_i32_3 c0_i32_7
  let v19 : BitVec 32 := Scalar.extui v18
  let v20 : BitVec 32 := Scalar.subi v17 v19
  let v21 : BitVec 1 := Scalar.cmpi .ne v15 v20
  let v22 : BitVec 32 := Scalar.remsi arg0 c6_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_16 (i : grid0.Coords) : Fin 2 → Nat :=
  let arg0 : BitVec 32 := BitVec.ofNat 32 (i 0).val
  let c48_i32 : BitVec 32 := 48#32
  let v0 : BitVec 32 := Scalar.subi arg0 c48_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1152x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1152x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x36 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1152 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x36 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1152x768 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1152 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x36 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1152 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x36 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S192x768 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S192x216 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1152x216 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S768x1152 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S768x768 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S768x216 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S1152x4608 : Shape := ⟨2, ![1152, 4608]⟩
abbrev S6912x1152 : Shape := ⟨2, ![6912, 1152]⟩
abbrev S6912x36 : Shape := ⟨2, ![6912, 36]⟩
abbrev S1152x6912 : Shape := ⟨2, ![1152, 6912]⟩
abbrev S1152x216 : Shape := ⟨2, ![1152, 216]⟩
abbrev S4608x1152 : Shape := ⟨2, ![4608, 1152]⟩
abbrev S4608x6912 : Shape := ⟨2, ![4608, 6912]⟩
abbrev S4608x216 : Shape := ⟨2, ![4608, 216]⟩
abbrev S6912x36x32 : Shape := ⟨3, ![6912, 36, 32]⟩
abbrev S6912x36x1 : Shape := ⟨3, ![6912, 36, 1]⟩
abbrev S4608x216x32 : Shape := ⟨3, ![4608, 216, 32]⟩
abbrev S255x4608x216 : Shape := ⟨3, ![255, 4608, 216]⟩
abbrev S1x4608x216 : Shape := ⟨3, ![1, 4608, 216]⟩
abbrev S4608x216x1 : Shape := ⟨3, ![4608, 216, 1]⟩
abbrev S1152x216x32 : Shape := ⟨3, ![1152, 216, 32]⟩
abbrev S1152x216x1 : Shape := ⟨3, ![1152, 216, 1]⟩

abbrev nBuf : Space → Nat
  | .hbm => 11
  | .vmem => 11
  | .smem => 0
  | _ => 0

abbrev bufTy : (tb : Table) → Fin (tcTables nBuf tb) → BufTy
  | .hbm, ⟨0, _⟩ => ⟨S1152x4608, .bf16⟩
  | .hbm, ⟨1, _⟩ => ⟨S1152x4608, .f32⟩
  | .hbm, ⟨2, _⟩ => ⟨S6912x1152, .fp8e4m3⟩
  | .hbm, ⟨3, _⟩ => ⟨S6912x36, .i8⟩
  | .hbm, ⟨4, _⟩ => ⟨S6912x1152, .fp8e4m3⟩
  | .hbm, ⟨5, _⟩ => ⟨S6912x36, .i8⟩
  | .hbm, ⟨6, _⟩ => ⟨S1152x6912, .fp8e4m3⟩
  | .hbm, ⟨7, _⟩ => ⟨S1152x216, .i8⟩
  | .hbm, ⟨8, _⟩ => ⟨S4608x1152, .bf16⟩
  | .hbm, ⟨9, _⟩ => ⟨S4608x6912, .fp8e4m3⟩
  | .hbm, ⟨10, _⟩ => ⟨S4608x216, .i8⟩
  | .local _ .vmem, ⟨0, _⟩ => ⟨S1152x4608, .bf16⟩
  | .local _ .vmem, ⟨1, _⟩ => ⟨S1152x4608, .f32⟩
  | .local _ .vmem, ⟨2, _⟩ => ⟨S6912x1152, .fp8e4m3⟩
  | .local _ .vmem, ⟨3, _⟩ => ⟨S6912x36, .i8⟩
  | .local _ .vmem, ⟨4, _⟩ => ⟨S6912x1152, .fp8e4m3⟩
  | .local _ .vmem, ⟨5, _⟩ => ⟨S6912x36, .i8⟩
  | .local _ .vmem, ⟨6, _⟩ => ⟨S1152x6912, .fp8e4m3⟩
  | .local _ .vmem, ⟨7, _⟩ => ⟨S1152x216, .i8⟩
  | .local _ .vmem, ⟨8, _⟩ => ⟨S4608x1152, .bf16⟩
  | .local _ .vmem, ⟨9, _⟩ => ⟨S4608x6912, .fp8e4m3⟩
  | .local _ .vmem, ⟨10, _⟩ => ⟨S4608x216, .i8⟩
  | _, _ => ⟨S1152x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1152x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x1152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6912x36 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6912x1152 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6912x36 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1152x6912 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1152x216 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4608x1152 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4608x6912 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4608x216 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Runs.lean ====
module

public import proofs.«01_k».proof.Proof.Gen.Kernel.Frame
public import proofs.«01_k».proof.Proof.Gen.Kernel.Skeleton
public import proofs.«01_k».proof.Proof.Gen.Kernel.Launch
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The offsets the body computes, in closed form -/

/-- `k0_off1` in closed form, to rewrite the access's rectangle by (`simp only [k0_off1_eq]`). -/
theorem k0_off1_eq : ∀ i : grid0.Coords, k0_off1 i = ![((i 0).val % 6), 0, 0] := by decide +kernel
instance closedOff_k0_off1 (i : grid0.Coords) : ClosedOff (k0_off1 i) := ⟨![((i 0).val % 6), 0, 0], k0_off1_eq i⟩
/-- `k0_off2` in closed form, to rewrite the access's rectangle by (`simp only [k0_off2_eq]`). -/
theorem k0_off2_eq : ∀ i : grid0.Coords, k0_off2 i = ![1 - (((i 0).val / 6) % 2), 128 * ((i 0).val % 6), 0] := by decide +kernel
instance closedOff_k0_off2 (i : grid0.Coords) : ClosedOff (k0_off2 i) := ⟨![1 - (((i 0).val / 6) % 2), 128 * ((i 0).val % 6), 0], k0_off2_eq i⟩
/-- `k0_off3` in closed form, to rewrite the access's rectangle by (`simp only [k0_off3_eq]`). -/
theorem k0_off3_eq : ∀ i : grid0.Coords, k0_off3 i = ![1 - (((i 0).val / 6) % 2), 192 * ((i 0).val % 6), 0] := by decide +kernel
instance closedOff_k0_off3 (i : grid0.Coords) : ClosedOff (k0_off3 i) := ⟨![1 - (((i 0).val / 6) % 2), 192 * ((i 0).val % 6), 0], k0_off3_eq i⟩
/-- `k0_off4` in closed form, to rewrite the access's rectangle by (`simp only [k0_off4_eq]`). -/
theorem k0_off4_eq : ∀ i : grid0.Coords, k0_off4 i = ![(((i 0).val / 6) % 2), 0, 0] := by decide +kernel
instance closedOff_k0_off4 (i : grid0.Coords) : ClosedOff (k0_off4 i) := ⟨![(((i 0).val / 6) % 2), 0, 0], k0_off4_eq i⟩
/-- `k0_off5` in closed form, to rewrite the access's rectangle by (`simp only [k0_off5_eq]`). -/
theorem k0_off5_eq : ∀ i : grid0.Coords, k0_off5 i = ![((i 0).val % 6), 24 * ((i 0).val / 6), 0] := by decide +kernel
instance closedOff_k0_off5 (i : grid0.Coords) : ClosedOff (k0_off5 i) := ⟨![((i 0).val % 6), 24 * ((i 0).val / 6), 0], k0_off5_eq i⟩
/-- `k0_off6` in closed form, to rewrite the access's rectangle by (`simp only [k0_off6_eq]`). -/
theorem k0_off6_eq : ∀ i : grid0.Coords, k0_off6 i = ![((i 0).val % 6), 0, 0] := by decide +kernel
instance closedOff_k0_off6 (i : grid0.Coords) : ClosedOff (k0_off6 i) := ⟨![((i 0).val % 6), 0, 0], k0_off6_eq i⟩
/-- `k0_off7` in closed form, to rewrite the access's rectangle by (`simp only [k0_off7_eq]`). -/
theorem k0_off7_eq : ∀ i : grid0.Coords, k0_off7 i = ![(((i 0).val / 6) % 2), 0, 0] := by decide +kernel
instance closedOff_k0_off7 (i : grid0.Coords) : ClosedOff (k0_off7 i) := ⟨![(((i 0).val / 6) % 2), 0, 0], k0_off7_eq i⟩
/-- `k0_off8` in closed form, to rewrite the access's rectangle by (`simp only [k0_off8_eq]`). -/
theorem k0_off8_eq : ∀ i : grid0.Coords, k0_off8 i = ![((i 0).val % 6), 24 * ((i 0).val / 6), 256] := by decide +kernel
instance closedOff_k0_off8 (i : grid0.Coords) : ClosedOff (k0_off8 i) := ⟨![((i 0).val % 6), 24 * ((i 0).val / 6), 256], k0_off8_eq i⟩
/-- `k0_off9` in closed form, to rewrite the access's rectangle by (`simp only [k0_off9_eq]`). -/
theorem k0_off9_eq : ∀ i : grid0.Coords, k0_off9 i = ![((i 0).val % 6), 0, 256] := by decide +kernel
instance closedOff_k0_off9 (i : grid0.Coords) : ClosedOff (k0_off9 i) := ⟨![((i 0).val % 6), 0, 256], k0_off9_eq i⟩
/-- `k0_off10` in closed form, to rewrite the access's rectangle by (`simp only [k0_off10_eq]`). -/
theorem k0_off10_eq : ∀ i : grid0.Coords, k0_off10 i = ![((i 0).val % 6), 24 * ((i 0).val / 6), 512] := by decide +kernel
instance closedOff_k0_off10 (i : grid0.Coords) : ClosedOff (k0_off10 i) := ⟨![((i 0).val % 6), 24 * ((i 0).val / 6), 512], k0_off10_eq i⟩
/-- `k0_off11` in closed form, to rewrite the access's rectangle by (`simp only [k0_off11_eq]`). -/
theorem k0_off11_eq : ∀ i : grid0.Coords, k0_off11 i = ![((i 0).val % 6), 0, 512] := by decide +kernel
instance closedOff_k0_off11 (i : grid0.Coords) : ClosedOff (k0_off11 i) := ⟨![((i 0).val % 6), 0, 512], k0_off11_eq i⟩
/-- `k0_off12` in closed form, to rewrite the access's rectangle by (`simp only [k0_off12_eq]`). -/
theorem k0_off12_eq : ∀ i : grid0.Coords, k0_off12 i = ![((i 0).val % 6), 0, 0] := by decide +kernel
instance closedOff_k0_off12 (i : grid0.Coords) : ClosedOff (k0_off12 i) := ⟨![((i 0).val % 6), 0, 0], k0_off12_eq i⟩
/-- `k0_off13` in closed form, to rewrite the access's rectangle by (`simp only [k0_off13_eq]`). -/
theorem k0_off13_eq : ∀ i : grid0.Coords, k0_off13 i = ![((i 0).val % 6), 0, 0] := by decide +kernel
instance closedOff_k0_off13 (i : grid0.Coords) : ClosedOff (k0_off13 i) := ⟨![((i 0).val % 6), 0, 0], k0_off13_eq i⟩

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 54 = 0 :=
  (fun t => by
    have ht : t.val < 54 := Nat.lt_of_lt_of_eq t.isLt N_0
    have e0 : (grid0.coords t 0).val = t.val / 1 % 54 := Pipeline.Grid.coords_val t 0 (by decide) rfl
    simp only [cond0_0, e0]
    word_cmp
   : ∀ t : Fin grid0.N, cond0_0 (grid0.coords t) ↔ t.val % 54 = 0)

/-- The condition of the body's `scf.if` 1 (`k0_h2`), from the grid coordinates (the skeleton's scalar
    chain substituted). -/
abbrev cond0_1 (i : grid0.Coords) : Prop := k0_cond2 i = 1#1
/-- It holds at the points before point 6 — decided over the grid. -/
theorem hcond0_1 : ∀ t : Fin cfg0.N, cond0_1 (grid0.coords t) ↔ t.val < 6 :=
  (by decide +kernel : ∀ t : Fin grid0.N, cond0_1 (grid0.coords t) ↔ t.val < 6)

/-- The condition of the body's `scf.if` 2 (`k0_h3`), from the grid coordinates (the skeleton's scalar
    chain substituted). -/
abbrev cond0_2 (i : grid0.Coords) : Prop := k0_cond3 i = 1#1
/-- It holds at the points from point 48 on — decided over the grid. -/
theorem hcond0_2 : ∀ t : Fin cfg0.N, cond0_2 (grid0.coords t) ↔ 48 ≤ t.val :=
  (by decide +kernel : ∀ t : Fin grid0.N, cond0_2 (grid0.coords t) ↔ 48 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1152x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1152x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x1152 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x36 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x1152 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x36 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1152x768 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1152 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x36 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1152 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x36 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S192x768 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S192x216 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1152x216 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S768x1152 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S768x768 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S768x216 .i8 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S2x768x1152 .bf16 := Memref.whole cc0_scratch0
abbrev scM0_1 : Memref sig .tc .vmem S2x768x1152 .bf16 := Memref.whole cc0_scratch1
abbrev scM0_2 : Memref sig .tc .vmem S2x1152x768 .bf16 := Memref.whole cc0_scratch2
abbrev scM0_3 : Memref sig .tc .vmem S6x1152x768 .f32 := Memref.whole cc0_scratch3
abbrev scM0_4 : Memref sig .tc .vmem S6x216x768 .i32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Run

end
-- ==== Proof.Kernel.RunA.lean ====
module

public import proofs.«01_k».proof.Proof.Kernel.Runs

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2964000 in
/-- The body's triple IN CASE A (`scf.if` 0 taken, `scf.if` 1 taken, `scf.if` 2 not taken: points 0): on whole staging memrefs — the inputs' at their contents,
    the FORGOTTEN outputs' (14, 15, 16) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : cond0_0 i) (hc1 : cond0_1 i) (hc2 : ¬cond0_2 i)
    (x0 : Vec F S1152x768 .bf16) (x1 : Vec F S1152x768 .f32) (x2 : Vec F S768x1152 .fp8e4m3) (x3 : Vec F S768x36 .i8) (x4 : Vec F S768x1152 .fp8e4m3) (x5 : Vec F S768x36 .i8) (x6 : Vec F S1152x768 .fp8e4m3) (x7 : Vec F S128x1152 .fp8e4m3) (x8 : Vec F S128x36 .i8) (x9 : Vec F S128x1152 .fp8e4m3) (x10 : Vec F S128x36 .i8) (x11 : Vec F S192x768 .fp8e4m3) (x12 : Vec F S192x216 .i8) (x13 : Vec F S1152x216 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_mlp_eq_skeleton]; unfold cc0_mlp_skel
    simp only [k0_part203_eq_skeleton, k0_part168_eq_skeleton, k0_part169_eq_skeleton, k0_part166_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part167_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Run

end
-- ==== Proof.Kernel.RunB.lean ====
module

public import proofs.«01_k».proof.Proof.Kernel.RunA

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1600000 in
/-- The body's triple IN CASE B (`scf.if` 0 not taken, `scf.if` 1 taken, `scf.if` 2 not taken: points 1, 2, 3, 4, 5): on whole staging memrefs — the inputs' at their contents,
    the FORGOTTEN outputs' (14, 15, 16) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : ¬cond0_0 i) (hc1 : cond0_1 i) (hc2 : ¬cond0_2 i)
    (x0 : Vec F S1152x768 .bf16) (x1 : Vec F S1152x768 .f32) (x2 : Vec F S768x1152 .fp8e4m3) (x3 : Vec F S768x36 .i8) (x4 : Vec F S768x1152 .fp8e4m3) (x5 : Vec F S768x36 .i8) (x6 : Vec F S1152x768 .fp8e4m3) (x7 : Vec F S128x1152 .fp8e4m3) (x8 : Vec F S128x36 .i8) (x9 : Vec F S128x1152 .fp8e4m3) (x10 : Vec F S128x36 .i8) (x11 : Vec F S192x768 .fp8e4m3) (x12 : Vec F S192x216 .i8) (x13 : Vec F S1152x216 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_mlp_eq_skeleton]; unfold cc0_mlp_skel
    simp only [k0_part203_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Run

end
-- ==== Proof.Kernel.RunC.lean ====
module

public import proofs.«01_k».proof.Proof.Kernel.RunB

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1600000 in
/-- The body's triple IN CASE C (`scf.if` 0 not taken, `scf.if` 1 not taken, `scf.if` 2 not taken: points 6, 7, … 47: 42 of 54): on whole staging memrefs — the inputs' at their contents,
    the FORGOTTEN outputs' (14, 15, 16) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : ¬cond0_0 i) (hc1 : ¬cond0_1 i) (hc2 : ¬cond0_2 i)
    (x0 : Vec F S1152x768 .bf16) (x1 : Vec F S1152x768 .f32) (x2 : Vec F S768x1152 .fp8e4m3) (x3 : Vec F S768x36 .i8) (x4 : Vec F S768x1152 .fp8e4m3) (x5 : Vec F S768x36 .i8) (x6 : Vec F S1152x768 .fp8e4m3) (x7 : Vec F S128x1152 .fp8e4m3) (x8 : Vec F S128x36 .i8) (x9 : Vec F S128x1152 .fp8e4m3) (x10 : Vec F S128x36 .i8) (x11 : Vec F S192x768 .fp8e4m3) (x12 : Vec F S192x216 .i8) (x13 : Vec F S1152x216 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_mlp_eq_skeleton]; unfold cc0_mlp_skel
    simp only [k0_part203_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Run

end
-- ==== Proof.Kernel.RunD.lean ====
module

public import proofs.«01_k».proof.Proof.Kernel.RunC

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1600000 in
/-- The body's triple IN CASE D (`scf.if` 0 not taken, `scf.if` 1 not taken, `scf.if` 2 taken: points 48, 49, 50, 51, 52, 53): on whole staging memrefs — the inputs' at their contents,
    the FORGOTTEN outputs' (14, 15, 16) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : ¬cond0_0 i) (hc1 : ¬cond0_1 i) (hc2 : cond0_2 i)
    (x0 : Vec F S1152x768 .bf16) (x1 : Vec F S1152x768 .f32) (x2 : Vec F S768x1152 .fp8e4m3) (x3 : Vec F S768x36 .i8) (x4 : Vec F S768x1152 .fp8e4m3) (x5 : Vec F S768x36 .i8) (x6 : Vec F S1152x768 .fp8e4m3) (x7 : Vec F S128x1152 .fp8e4m3) (x8 : Vec F S128x36 .i8) (x9 : Vec F S128x1152 .fp8e4m3) (x10 : Vec F S128x36 .i8) (x11 : Vec F S192x768 .fp8e4m3) (x12 : Vec F S192x216 .i8) (x13 : Vec F S1152x216 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_mlp_eq_skeleton]; unfold cc0_mlp_skel
    simp only [k0_part203_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Run

end
-- ==== Proof.Kernel.Frame.lean ====
module

public import proofs.«01_k».proof.Proof.Kernel.RunD
public import Idealize.ShloMosaic.Lib.Claim

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (14, 15, 16): nothing reads what the kernel leaves in them, so nothing
    of it is named (Lib/Pipeline/Dat.lean `Dat.toRForget`). -/
def forgets0 : Fin 17 → Bool := fun w => w.val == 14 || w.val == 15 || w.val == 16

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The body leaves window 1 as it was. -/
theorem after0_1 (c : Dev nD) (t : Fin cfg0.N) : (dats m 0 c).after 1 t = iblk m c 1 t := by dsimp only [dats]
/-- The body leaves window 2 as it was. -/
theorem after0_2 (c : Dev nD) (t : Fin cfg0.N) : (dats m 0 c).after 2 t = iblk m c 2 t := by dsimp only [dats]
/-- The body leaves window 3 as it was. -/
theorem after0_3 (c : Dev nD) (t : Fin cfg0.N) : (dats m 0 c).after 3 t = iblk m c 3 t := by dsimp only [dats]
/-- The body leaves window 4 as it was. -/
theorem after0_4 (c : Dev nD) (t : Fin cfg0.N) : (dats m 0 c).after 4 t = iblk m c 4 t := by dsimp only [dats]
/-- The body leaves window 5 as it was. -/
theorem after0_5 (c : Dev nD) (t : Fin cfg0.N) : (dats m 0 c).after 5 t = iblk m c 5 t := by dsimp only [dats]
/-- The body leaves window 6 as it was. -/
theorem after0_6 (c : Dev nD) (t : Fin cfg0.N) : (dats m 0 c).after 6 t = iblk m c 6 t := by dsimp only [dats]
/-- The body leaves window 7 as it was. -/
theorem after0_7 (c : Dev nD) (t : Fin cfg0.N) : (dats m 0 c).after 7 t = iblk m c 7 t := by dsimp only [dats]
/-- The body leaves window 8 as it was. -/
theorem after0_8 (c : Dev nD) (t : Fin cfg0.N) : (dats m 0 c).after 8 t = iblk m c 8 t := by dsimp only [dats]
/-- The body leaves window 9 as it was. -/
theorem after0_9 (c : Dev nD) (t : Fin cfg0.N) : (dats m 0 c).after 9 t = iblk m c 9 t := by dsimp only [dats]
/-- The body leaves window 10 as it was. -/
theorem after0_10 (c : Dev nD) (t : Fin cfg0.N) : (dats m 0 c).after 10 t = iblk m c 10 t := by dsimp only [dats]
/-- The body leaves window 11 as it was. -/
theorem after0_11 (c : Dev nD) (t : Fin cfg0.N) : (dats m 0 c).after 11 t = iblk m c 11 t := by dsimp only [dats]
/-- The body leaves window 12 as it was. -/
theorem after0_12 (c : Dev nD) (t : Fin cfg0.N) : (dats m 0 c).after 12 t = iblk m c 12 t := by dsimp only [dats]
/-- The body leaves window 13 as it was. -/
theorem after0_13 (c : Dev nD) (t : Fin cfg0.N) : (dats m 0 c).after 13 t = iblk m c 13 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1 holds its block at every point. -/
theorem before0_1 (c : Dev nD) (t : Fin cfg0.N) (d) : (dats m 0 c).before 1 t d = iblk m c 1 t :=
  before0_1_of m (dats m 0 c) (A_eq m c 1) (after0_1 m c) t d
/-- Window 2 holds its block at every point. -/
theorem before0_2 (c : Dev nD) (t : Fin cfg0.N) (d) : (dats m 0 c).before 2 t d = iblk m c 2 t :=
  before0_2_of m (dats m 0 c) (A_eq m c 2) (after0_2 m c) t d
/-- Window 3 holds its block at every point. -/
theorem before0_3 (c : Dev nD) (t : Fin cfg0.N) (d) : (dats m 0 c).before 3 t d = iblk m c 3 t :=
  before0_3_of m (dats m 0 c) (A_eq m c 3) (after0_3 m c) t d
/-- Window 4 holds its block at every point. -/
theorem before0_4 (c : Dev nD) (t : Fin cfg0.N) (d) : (dats m 0 c).before 4 t d = iblk m c 4 t :=
  before0_4_of m (dats m 0 c) (A_eq m c 4) (after0_4 m c) t d
/-- Window 5 holds its block at every point. -/
theorem before0_5 (c : Dev nD) (t : Fin cfg0.N) (d) : (dats m 0 c).before 5 t d = iblk m c 5 t :=
  before0_5_of m (dats m 0 c) (A_eq m c 5) (after0_5 m c) t d
/-- Window 6 holds its block at every point. -/
theorem before0_6 (c : Dev nD) (t : Fin cfg0.N) (d) : (dats m 0 c).before 6 t d = iblk m c 6 t :=
  before0_6_of m (dats m 0 c) (A_eq m c 6) (after0_6 m c) t d
/-- Window 7 holds its block at every point. -/
theorem before0_7 (c : Dev nD) (t : Fin cfg0.N) (d) : (dats m 0 c).before 7 t d = iblk m c 7 t :=
  before0_7_of m (dats m 0 c) (A_eq m c 7) (after0_7 m c) t d
/-- Window 8 holds its block at every point. -/
theorem before0_8 (c : Dev nD) (t : Fin cfg0.N) (d) : (dats m 0 c).before 8 t d = iblk m c 8 t :=
  before0_8_of m (dats m 0 c) (A_eq m c 8) (after0_8 m c) t d
/-- Window 9 holds its block at every point. -/
theorem before0_9 (c : Dev nD) (t : Fin cfg0.N) (d) : (dats m 0 c).before 9 t d = iblk m c 9 t :=
  before0_9_of m (dats m 0 c) (A_eq m c 9) (after0_9 m c) t d
/-- Window 10 holds its block at every point. -/
theorem before0_10 (c : Dev nD) (t : Fin cfg0.N) (d) : (dats m 0 c).before 10 t d = iblk m c 10 t :=
  before0_10_of m (dats m 0 c) (A_eq m c 10) (after0_10 m c) t d
/-- Window 11 holds its block at every point. -/
theorem before0_11 (c : Dev nD) (t : Fin cfg0.N) (d) : (dats m 0 c).before 11 t d = iblk m c 11 t :=
  before0_11_of m (dats m 0 c) (A_eq m c 11) (after0_11 m c) t d
/-- Window 12 holds its block at every point. -/
theorem before0_12 (c : Dev nD) (t : Fin cfg0.N) (d) : (dats m 0 c).before 12 t d = iblk m c 12 t :=
  before0_12_of m (dats m 0 c) (A_eq m c 12) (after0_12 m c) t d
/-- Window 13 holds its block at every point. -/
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d)
    ∗ (∃ d, owns (c : Thread nD τ) (ms0_15 t) fullShare d)
    ∗ (∃ d, owns (c : Thread nD τ) (ms0_16 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (∃ d, owns (c : Thread nD τ) (ms0_14 t) fullShare d)
    ∗ (∃ d, owns (c : Thread nD τ) (ms0_15 t) fullShare d)
    ∗ (∃ d, owns (c : Thread nD τ) (ms0_16 t) fullShare d))

set_option maxHeartbeats 8000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 54 := lt_of_lt_of_eq t.isLt (show cfg0.N = 54 from N_0)
  by_cases h0 : t.val % 54 = 0
  · by_cases h1 : t.val < 6
    · by_cases h2 : 48 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, H16, HS0, HS1, HS2, HS3, HS4⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · iexact HS3
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16
    · exfalso; omega
  · by_cases h1 : t.val < 6
    · by_cases h2 : 48 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, H16, HS0, HS1, HS2, HS3, HS4⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · iexact HS3
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16
    · by_cases h2 : 48 ≤ t.val
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_D c (grid0.coords t) _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, H16, HS0, HS1, HS2, HS3, HS4⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · iexact HS3
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_C c (grid0.coords t) _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexists _; iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, H11, H12, H13, H14, H15, H16, HS0, HS1, HS2, HS3, HS4⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · iexact HS3
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 14, 15, 16) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 1020000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 7 rfl).trans ((hA c 7).trans (V_main_arg2 m c)),
      (Pipeline.RDat.FramePost.arr_in h c 8 rfl).trans ((hA c 8).trans (V_main_arg3 m c)),
      (Pipeline.RDat.FramePost.arr_in h c 9 rfl).trans ((hA c 9).trans (V_main_arg4 m c)),
      (Pipeline.RDat.FramePost.arr_in h c 10 rfl).trans ((hA c 10).trans (V_main_arg5 m c)),
      (Pipeline.RDat.FramePost.arr_in h c 11 rfl).trans ((hA c 11).trans (V_main_arg6 m c)),
      (Pipeline.RDat.FramePost.arr_in h c 13 rfl).trans ((hA c 13).trans (V_main_arg7 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Run

end
-- ==== Proof.KernelIdeal.Act.lean ====
/-
  What the kernel computes for 256 tokens of one slice of 768 hidden features: the gate and up products, the gated
  activation, the quantisation of the activation in groups of 32 features, and the product added to the output's
  accumulator. The body spells this out three times, once per 256 tokens; here it is stated once, and each of the three
  spellings is it.
-/
module

public import proofs.«01_k».proof.Proof.Gen.KernelIdeal.Skeleton
public import Idealize.ShloMosaic.Lib.Pointwise

@[expose] public section

set_option maxRecDepth 16384

noncomputable section

namespace Cert.KernelIdeal.Pure

open Cert.KernelIdeal.Gen
open Idealize.ShloMosaic

section Generic

variable {F : FTy → Type} [FloatOps F]

/-- A slice of 768 dequantised weight rows times 256 tokens. -/
def gemm (w : Vec F S1x768x1152 .bf16) (x : Vec F S1152x256 .bf16) : FVec F S768x256 .f32 :=
  matmul dot_S768x1152_S1152x256_S768x256_1_0_0_1_n_n none (shapeCast S768x1152 w shapeCasts_S1x768x1152_S768x1152) x
    (constant S768x256 .f32 0x00000000#32)

/-- The gated activation, gate · (1 / (1 + exp (0 - gate))) · up, in groups of 32 features. -/
def act (g u : FVec F S768x256 .f32) : FVec F S24x32x256 .f32 :=
  shapeCast S24x32x256 (mulf (mulf g (divf (broadcast S768x256 (Scalar.ofBits .f32 0x3F800000#32))
    (addf (broadcast S768x256 (Scalar.ofBits .f32 0x3F800000#32)) (exp (subf (broadcast S768x256 (Scalar.ofBits .f32 0x00000000#32)) g)))))
    u) shapeCasts_S768x256_S24x32x256

/-- The largest magnitude of each group. -/
def amax (a : FVec F S24x32x256 .f32) : FVec F S24x1x256 .f32 :=
  shapeCast S24x1x256 (multiReduction .maximumf [1] S24x256 (absf a) 0xFF800000#32 reduces_S24x32x256_S24x256 (.inl rfl) rfl)
    shapeCasts_S24x256_S24x1x256

/-- One step of the search for the exponent: add `b` to the lower bound `e` unless the maximum lies below the power of two
    with biased exponent `e + b`. -/
def bitStep (a : FVec F S24x1x256 .f32) (e : IVec S24x1x256 32) (b : BitVec 32) : IVec S24x1x256 32 :=
  select (cmpf .olt a (bitcastToFloat .f32 (shli (addi e (broadcast S24x1x256 b)) (broadcast S24x1x256 23#32)))) e
    (addi e (broadcast S24x1x256 b))

/-- The largest biased exponent whose power of two does not exceed the maximum, by eight steps. -/
def search (a : FVec F S24x1x256 .f32) : IVec S24x1x256 32 :=
  bitStep a (bitStep a (bitStep a (bitStep a (bitStep a (bitStep a (bitStep a (bitStep a (broadcast S24x1x256 0#32) 128#32) 64#32) 32#32) 16#32) 8#32) 4#32) 2#32) 1#32

/-- The scale byte from the exponent. -/
def toByte (e : IVec S24x1x256 32) : IVec S24x1x256 32 :=
  select (cmpi .eq e (broadcast S24x1x256 0#32)) (broadcast S24x1x256 127#32)
    (maxsi (subi e (broadcast S24x1x256 8#32)) (broadcast S24x1x256 0#32))

/-- The codes: the activation over its scale, clamped to the largest e4m3 value. -/
def codes (a : FVec F S24x32x256 .f32) (b : IVec S24x1x256 32) : FVec F S24x32x256 .fp8e4m3 :=
  truncf .fp8e4m3 (minimumf (broadcast S24x32x256 (Scalar.ofBits .f32 0x43E00000#32))
    (maximumf (broadcast S24x32x256 (Scalar.ofBits .f32 0xC3E00000#32))
      (mulf a (broadcastTo S24x32x256 (bitcastToFloat .f32 (shli (subi (broadcast S24x1x256 254#32) b) (broadcast S24x1x256 23#32)))
        broadcasts_S24x1x256_S24x32x256)))) bitsLt_fp8e4m3_f32

/-- The codes decoded again. -/
def decoded (a : FVec F S24x32x256 .f32) (b : IVec S24x1x256 32) : FVec F S768x256 .bf16 :=
  shapeCast S768x256 (truncf .bf16 (mulf (extf .f32 (codes a b) bitsLt_fp8e4m3_f32)
    (broadcastTo S24x32x256 (bitcastToFloat .f32 (shli b (broadcast S24x1x256 23#32))) broadcasts_S24x1x256_S24x32x256))
    bitsLt_bf16_f32) shapeCasts_S24x32x256_S768x256

/-- The codes as stored: tokens by features. -/
def codesT (a : FVec F S24x32x256 .f32) (b : IVec S24x1x256 32) : FVec F S256x768 .fp8e4m3 :=
  truncf .fp8e4m3 (transpose S256x768 [1, 0] (extf .bf16 (shapeCast S768x256 (codes a b) shapeCasts_S24x32x256_S768x256) bitsLt_fp8e4m3_bf16)
    transposes_S768x256_p1_0_S256x768) bitsLt_fp8e4m3_bf16

/-- The bytes as stored. -/
def bytes (b : IVec S24x1x256 32) : IVec S1x24x256 32 :=
  shapeCast S1x24x256 (shapeCast S24x256 b shapeCasts_S24x1x256_S24x256) shapeCasts_S24x256_S1x24x256

/-- The accumulator plus the down product. -/
def accum (d : FVec F S768x256 .bf16) (p : Vec F S1x1152x256 .f32) (w : Vec F S1x1152x768 .bf16) : FVec F S1x1152x256 .f32 :=
  shapeCast S1x1152x256 (addf (shapeCast S1152x256 p shapeCasts_S1x1152x256_S1152x256)
    (matmul dot_S1152x768_S768x256_S1152x256_1_0_0_1_n_n none (shapeCast S1152x768 w shapeCasts_S1x1152x768_S1152x768) d
      (constant S1152x256 .f32 0x00000000#32))) shapeCasts_S1152x256_S1x1152x256

/-- The activation of 256 tokens from the two weight slices. -/
def actOf (wg wu : Vec F S1x768x1152 .bf16) (x : Vec F S1152x256 .bf16) : FVec F S24x32x256 .f32 := act (gemm wg x) (gemm wu x)

/-- Its scale bytes. -/
def byteOf (a : FVec F S24x32x256 .f32) : IVec S24x1x256 32 := toByte (search (amax a))

end Generic

end Cert.KernelIdeal.Pure
-- ==== Proof.KernelIdeal.Decode.lean ====
/-
  What the kernel's dequantisation computes: a rows × columns block of e4m3 codes, each code times the power of two its
  32-wide group's scale byte states. The kernel looks the scale up lane by lane in a row of scale words; here the
  lookup is read at an index.
-/
module

public import proofs.«01_k».proof.Proof.Gen.KernelIdeal.Skeleton
public import Idealize.ShloMosaic.Lib.Pointwise

@[expose] public section

set_option maxRecDepth 16384

noncomputable section

namespace Cert.KernelIdeal.Pure

open Cert.KernelIdeal.Gen
open Idealize.ShloMosaic

section Generic

variable {F : FTy → Type} [FloatOps F]

/-- The lane numbers 0, 1, … 127 of each of 128 rows. -/
def lanes : IVec S128x128 32 := iota .tc S128x128 32 [1] iota_S128x128_d1_w32

/-- One 128-wide column of the dequantised block: the codes from column `o` on, times the scales looked up at
    `b + lane / 32`. -/
def guCol (o : Nat) (h : S128x1152.Slices ![0, o] S128x128) (b : BitVec 32) (codes : Vec F S128x1152 .fp8e4m3) (words : IVec S128x128 32) :
    FVec F S128x128 .bf16 :=
  let idx := andi (addi (broadcast S128x128 b) (k0_pay571 lanes)) (broadcast S128x128 127#32)
  let idx' := select (cmpi .slt idx (broadcast S128x128 0#32)) (addi idx (broadcast S128x128 128#32)) idx
  let w := dynamicGather 1 words
    (shapeCast S128x128 (shapeCast S128x128x1 idx' shapeCasts_S128x128_S128x128x1) shapeCasts_S128x128x1_S128x128)
  mulf (extf .bf16 (extractStridedSlice S128x128 ![0, o] codes h) bitsLt_fp8e4m3_bf16)
    (truncf .bf16 (bitcastToFloat .f32 w) bitsLt_bf16_f32)

/-- The dequantised block of 128 rows of the gate or up weights, as the kernel stores it. -/
def decGU (codes : Vec F S128x1152 .fp8e4m3) (scales : Vec F S128x36 .i8) : FVec F S1x128x1152 .bf16 :=
  shapeCast S1x128x1152 (concatenate S128x1152 1
    [⟨S128x128, guCol 0 slices_S128x1152_o0_0_S128x128 0#32 codes (k0_pay550 scales)⟩,
     ⟨S128x128, guCol 128 slices_S128x1152_o0_128_S128x128 4#32 codes (k0_pay550 scales)⟩,
     ⟨S128x128, guCol 256 slices_S128x1152_o0_256_S128x128 8#32 codes (k0_pay550 scales)⟩,
     ⟨S128x128, guCol 384 slices_S128x1152_o0_384_S128x128 12#32 codes (k0_pay550 scales)⟩,
     ⟨S128x128, guCol 512 slices_S128x1152_o0_512_S128x128 16#32 codes (k0_pay550 scales)⟩,
     ⟨S128x128, guCol 640 slices_S128x1152_o0_640_S128x128 20#32 codes (k0_pay550 scales)⟩,
     ⟨S128x128, guCol 768 slices_S128x1152_o0_768_S128x128 24#32 codes (k0_pay550 scales)⟩,
     ⟨S128x128, guCol 896 slices_S128x1152_o0_896_S128x128 28#32 codes (k0_pay550 scales)⟩,
     ⟨S128x128, guCol 1024 slices_S128x1152_o0_1024_S128x128 32#32 codes (k0_pay550 scales)⟩]
    concatenates_S128x128_S128x128_S128x128_S128x128_S128x128_S128x128_S128x128_S128x128_S128x128_S128x1152_d1)
    shapeCasts_S128x1152_S1x128x1152

/-- The gate weights' store is that block. -/
theorem gate_store (x : Vec F S128x1152 .fp8e4m3) (s : Vec F S128x36 .i8) :
    k0_pay575 x (k0_pay550 s) (k0_pay552 x (k0_pay550 s) k0_pay551 127#32)
      (k0_pay556 x (k0_pay550 s) (k0_pay553 lanes) (k0_pay554 lanes) (k0_pay555 lanes))
      (k0_pay559 (k0_pay557 x) (k0_pay558 (k0_pay550 s) lanes)) (k0_pay560 x (k0_pay550 s) lanes)
      (k0_pay563 x (k0_pay550 s) lanes 32#32 (k0_pay561 lanes) (k0_pay562 lanes))
      (k0_pay566 x (k0_pay550 s) lanes 32#32 (k0_pay564 lanes) (k0_pay565 lanes) 1#32)
      (k0_pay570 x (k0_pay550 s) (k0_pay567 lanes) (k0_pay568 lanes) (k0_pay569 lanes))
      (k0_pay572 x (k0_pay550 s) (k0_pay571 lanes)) (k0_pay573 lanes) k0_pay574 = decGU x s := rfl

/-- The up weights' store is that block. -/
theorem up_store (x : Vec F S128x1152 .fp8e4m3) (s : Vec F S128x36 .i8) :
    k0_pay600 x (k0_pay576 s) (k0_pay580 x (k0_pay576 s) k0_pay577 k0_pay578 k0_pay579)
      (k0_pay582 x (k0_pay576 s) (k0_pay581 lanes)) (k0_pay585 x (k0_pay576 s) (k0_pay583 lanes) k0_pay584)
      (k0_pay587 x (k0_pay586 (k0_pay576 s) lanes)) (k0_pay588 x (k0_pay576 s) lanes)
      (k0_pay590 x (k0_pay576 s) lanes 32#32 (k0_pay589 lanes))
      (k0_pay594 x (k0_pay576 s) lanes 32#32 (k0_pay591 lanes) (k0_pay592 lanes) (k0_pay593 lanes))
      (k0_pay597 x (k0_pay576 s) lanes 32#32 (k0_pay595 lanes) (k0_pay596 lanes) 1#32)
      (k0_pay598 lanes) (k0_pay599 lanes) = decGU x s := rfl

/-- The lane numbers 0, 1, … 127 of each of 192 rows, divided by 32 and rounded down. -/
def groups192 : IVec S192x128 32 :=
  let l : IVec S192x128 32 := iota .tc S192x128 32 [1] iota_S192x128_d1_w32
  let z : IVec S192x128 32 := broadcast S192x128 0#32
  let q : IVec S192x128 32 := divsi l (broadcast S192x128 32#32)
  select (andi (cmpi .ne (subi (extui 32 (cmpi .sgt l z) natLt_1_32) (extui 32 (cmpi .slt l z) natLt_1_32)) (broadcast S192x128 1#32))
    (cmpi .ne (remsi l (broadcast S192x128 32#32)) z)) (subi q (broadcast S192x128 1#32)) q

/-- A scale word looked up in one half of the row of scale words, at a lane index wrapped to 0, …, 127. -/
def look192 (words : IVec S192x128 32) (i : IVec S192x128 32) : IVec S192x128 32 :=
  let idx := andi i (broadcast S192x128 127#32)
  let idx' := select (cmpi .slt idx (broadcast S192x128 0#32)) (addi idx (broadcast S192x128 128#32)) idx
  dynamicGather 1 words (shapeCast S192x128 (shapeCast S192x128x1 idx' shapeCasts_S192x128_S192x128x1) shapeCasts_S192x128x1_S192x128)

/-- One 128-wide column of a dequantised block of 192 rows of the down weights. -/
def dCol192 (o : Nat) (h : S192x768.Slices ![0, o] S192x128) (b : BitVec 32) (codes : Vec F S192x768 .fp8e4m3) (words : IVec S192x256 32) :
    FVec F S192x128 .bf16 :=
  let i : IVec S192x128 32 := addi (broadcast S192x128 b) groups192
  mulf (extf .bf16 (extractStridedSlice S192x128 ![0, o] codes h) bitsLt_fp8e4m3_bf16)
    (truncf .bf16 (bitcastToFloat .f32 (select (cmpi .sge i (broadcast S192x128 128#32))
      (look192 (extractStridedSlice S192x128 ![0, 128] words slices_S192x256_o0_128_S192x128) i)
      (look192 (extractStridedSlice S192x128 ![0, 0] words slices_S192x256_o0_0_S192x128) i))) bitsLt_bf16_f32)

/-- The dequantised block of 192 rows of the down weights, the first group of its columns being group `b`. -/
def decD192 (b : BitVec 32) (codes : Vec F S192x768 .fp8e4m3) (scales : Vec F S192x216 .i8) : FVec F S1x192x768 .bf16 :=
  shapeCast S1x192x768 (concatenate S192x768 1
    [⟨S192x128, dCol192 0 slices_S192x768_o0_0_S192x128 (Scalar.addi b 0#32) codes (k0_pay601 scales)⟩,
     ⟨S192x128, dCol192 128 slices_S192x768_o0_128_S192x128 (Scalar.addi b 4#32) codes (k0_pay601 scales)⟩,
     ⟨S192x128, dCol192 256 slices_S192x768_o0_256_S192x128 (Scalar.addi b 8#32) codes (k0_pay601 scales)⟩,
     ⟨S192x128, dCol192 384 slices_S192x768_o0_384_S192x128 (Scalar.addi b 12#32) codes (k0_pay601 scales)⟩,
     ⟨S192x128, dCol192 512 slices_S192x768_o0_512_S192x128 (Scalar.addi b 16#32) codes (k0_pay601 scales)⟩,
     ⟨S192x128, dCol192 640 slices_S192x768_o0_640_S192x128 (Scalar.addi b 20#32) codes (k0_pay601 scales)⟩]
    concatenates_S192x128_S192x128_S192x128_S192x128_S192x128_S192x128_S192x768_d1)
    shapeCasts_S192x768_S1x192x768

/-- The lane numbers 0, 1, … 127 of each of 128 rows, divided by 32 and rounded down. -/
def groups128 : IVec S128x128 32 :=
  let l : IVec S128x128 32 := iota .tc S128x128 32 [1] iota_S128x128_d1_w32
  let z : IVec S128x128 32 := broadcast S128x128 0#32
  let q : IVec S128x128 32 := divsi l (broadcast S128x128 32#32)
  select (andi (cmpi .ne (subi (extui 32 (cmpi .sgt l z) natLt_1_32) (extui 32 (cmpi .slt l z) natLt_1_32)) (broadcast S128x128 1#32))
    (cmpi .ne (remsi l (broadcast S128x128 32#32)) z)) (subi q (broadcast S128x128 1#32)) q

/-- A scale word looked up in one half of the row of scale words, at a lane index wrapped to 0, …, 127. -/
def look128 (words : IVec S128x128 32) (i : IVec S128x128 32) : IVec S128x128 32 :=
  let idx := andi i (broadcast S128x128 127#32)
  let idx' := select (cmpi .slt idx (broadcast S128x128 0#32)) (addi idx (broadcast S128x128 128#32)) idx
  dynamicGather 1 words (shapeCast S128x128 (shapeCast S128x128x1 idx' shapeCasts_S128x128_S128x128x1) shapeCasts_S128x128x1_S128x128)

/-- One 128-wide column of a dequantised block of 128 rows of the down weights. -/
def dCol128 (o : Nat) (h : S128x768.Slices ![0, o] S128x128) (b : BitVec 32) (codes : Vec F S128x768 .fp8e4m3) (words : IVec S128x256 32) :
    FVec F S128x128 .bf16 :=
  let i : IVec S128x128 32 := addi (broadcast S128x128 b) groups128
  mulf (extf .bf16 (extractStridedSlice S128x128 ![0, o] codes h) bitsLt_fp8e4m3_bf16)
    (truncf .bf16 (bitcastToFloat .f32 (select (cmpi .sge i (broadcast S128x128 128#32))
      (look128 (extractStridedSlice S128x128 ![0, 128] words slices_S128x256_o0_128_S128x128) i)
      (look128 (extractStridedSlice S128x128 ![0, 0] words slices_S128x256_o0_0_S128x128) i))) bitsLt_bf16_f32)

/-- The dequantised block of 128 rows of the down weights, the first group of its columns being group `b`. -/
def decD128 (b : BitVec 32) (codes : Vec F S128x768 .fp8e4m3) (scales : Vec F S128x216 .i8) : FVec F S1x128x768 .bf16 :=
  shapeCast S1x128x768 (concatenate S128x768 1
    [⟨S128x128, dCol128 0 slices_S128x768_o0_0_S128x128 (Scalar.addi b 0#32) codes (k0_pay438 scales)⟩,
     ⟨S128x128, dCol128 128 slices_S128x768_o0_128_S128x128 (Scalar.addi b 4#32) codes (k0_pay438 scales)⟩,
     ⟨S128x128, dCol128 256 slices_S128x768_o0_256_S128x128 (Scalar.addi b 8#32) codes (k0_pay438 scales)⟩,
     ⟨S128x128, dCol128 384 slices_S128x768_o0_384_S128x128 (Scalar.addi b 12#32) codes (k0_pay438 scales)⟩,
     ⟨S128x128, dCol128 512 slices_S128x768_o0_512_S128x128 (Scalar.addi b 16#32) codes (k0_pay438 scales)⟩,
     ⟨S128x128, dCol128 640 slices_S128x768_o0_640_S128x128 (Scalar.addi b 20#32) codes (k0_pay438 scales)⟩]
    concatenates_S128x128_S128x128_S128x128_S128x128_S128x128_S128x128_S128x768_d1)
    shapeCasts_S128x768_S1x128x768

end Generic

/-- Lane `l` lies in group `l / 32` of its column: the kernel's rounded-down division, read at a lane. -/
theorem lanes_div (r : Fin 128) (l : Fin 128) : k0_pay571 lanes (ix2 r l) = BitVec.ofNat 32 (l.val / 32) := by
  pointwise [k0_pay571, lanes]
  revert l
  decide +kernel

/-- The looked-up lane of a column whose first group is `4 * b`: the number `4 * b + l / 32`, after the kernel's wrap to 0, …, 127. -/
theorem lane_toNat : ∀ (b : Fin 9) (l : Fin 128),
    (Scalar.select (IntOp.cmpi CmpIPredicate.slt (IntOp.andi (IntOp.addi (BitVec.ofNat 32 (4 * b.val)) (BitVec.ofNat 32 (l.val / 32))) 127#32) 0#32)
      (IntOp.addi (IntOp.andi (IntOp.addi (BitVec.ofNat 32 (4 * b.val)) (BitVec.ofNat 32 (l.val / 32))) 127#32) 128#32)
      (IntOp.andi (IntOp.addi (BitVec.ofNat 32 (4 * b.val)) (BitVec.ofNat 32 (l.val / 32))) 127#32)).toNat % 128 = 4 * b.val + l.val / 32 := by
  decide +kernel

/-- The scale words of 128 rows: the scale byte shifted into the exponent field. -/
theorem words_apply (s : Vec Ideal S128x36 .i8) (r : Fin 128) (g : Fin 128) (hg : g.val < 36) :
    k0_pay550 (F := Ideal) s (ix2 r g) = (BitVec.setWidth 32 (s (ix2 r ⟨g.val, hg⟩))) <<< (23 : Nat) := by
  pointwise [k0_pay550]
  rw [dif_pos hg]
  rfl

/-- A column of the dequantised block, read at an index. -/
theorem guCol_apply (b : Fin 9) (h : S128x1152.Slices ![0, 128 * b.val] S128x128) (x : Vec Ideal S128x1152 .fp8e4m3) (w : IVec S128x128 32)
    (r : Fin 128) (l : Fin 128) :
    guCol (F := Ideal) (128 * b.val) h (BitVec.ofNat 32 (4 * b.val)) x w (ix2 r l)
      = x (ix2 r ⟨128 * b.val + l.val, by omega⟩) * Ideal.ofBits .f32 (w (ix2 r ⟨4 * b.val + l.val / 32, by omega⟩)) := by
  have e := lane_toNat b l
  pointwise [guCol, lanes_div]
  simp only [e]

/-- A column of the dequantised block, read at column `k` of the block. -/
theorem guCol_at (b : Fin 9) (h : S128x1152.Slices ![0, 128 * b.val] S128x128) (x : Vec Ideal S128x1152 .fp8e4m3) (s : Vec Ideal S128x36 .i8)
    (r : Fin 128) (l : Fin 128) (k : Fin 1152) (hk : k.val = 128 * b.val + l.val) :
    guCol (F := Ideal) (128 * b.val) h (BitVec.ofNat 32 (4 * b.val)) x (k0_pay550 s) (ix2 r l)
      = x (ix2 r k) * Ideal.ofBits .f32 ((BitVec.setWidth 32 (s (ix2 r ⟨k.val / 32, by omega⟩))) <<< (23 : Nat)) := by
  rw [guCol_apply, words_apply _ _ _ (by show 4 * b.val + l.val / 32 < 36; omega)]
  have e1 : (⟨128 * b.val + l.val, by omega⟩ : Fin 1152) = k := Fin.ext hk.symm
  have e2 : (⟨4 * b.val + l.val / 32, by omega⟩ : Fin 36) = ⟨k.val / 32, by omega⟩ := Fin.ext (by show 4 * b.val + l.val / 32 = k.val / 32; omega)
  rw [e1]
  exact congrArg (fun g => x (ix2 r k) * Ideal.ofBits .f32 ((BitVec.setWidth 32 (s (ix2 r g))) <<< (23 : Nat))) e2

/-- The dequantised block of gate or up weights, read at an index: the code times its group's scale. -/
theorem decGU_apply (x : Vec Ideal S128x1152 .fp8e4m3) (s : Vec Ideal S128x36 .i8) (z : Fin 1) (r : Fin 128) (k : Fin 1152) :
    decGU (F := Ideal) x s (ix3 z r k)
      = x (ix2 r k) * Ideal.ofBits .f32 ((BitVec.setWidth 32 (s (ix2 r ⟨k.val / 32, by omega⟩))) <<< (23 : Nat)) := by
  pointwise [decGU]
  by_cases h0 : k.val < 128
  · rw [dif_pos h0]
    exact guCol_at ⟨0, by omega⟩ slices_S128x1152_o0_0_S128x128 x s r ⟨k.val, by omega⟩ k (by show k.val = 128 * 0 + (k.val); omega)
  rw [dif_neg h0]
  by_cases h1 : k.val - 128 < 128
  · rw [dif_pos h1]
    exact guCol_at ⟨1, by omega⟩ slices_S128x1152_o0_128_S128x128 x s r ⟨k.val - 128, by omega⟩ k (by show k.val = 128 * 1 + (k.val - 128); omega)
  rw [dif_neg h1]
  by_cases h2 : k.val - 128 - 128 < 128
  · rw [dif_pos h2]
    exact guCol_at ⟨2, by omega⟩ slices_S128x1152_o0_256_S128x128 x s r ⟨k.val - 128 - 128, by omega⟩ k (by show k.val = 128 * 2 + (k.val - 128 - 128); omega)
  rw [dif_neg h2]
  by_cases h3 : k.val - 128 - 128 - 128 < 128
  · rw [dif_pos h3]
    exact guCol_at ⟨3, by omega⟩ slices_S128x1152_o0_384_S128x128 x s r ⟨k.val - 128 - 128 - 128, by omega⟩ k (by show k.val = 128 * 3 + (k.val - 128 - 128 - 128); omega)
  rw [dif_neg h3]
  by_cases h4 : k.val - 128 - 128 - 128 - 128 < 128
  · rw [dif_pos h4]
    exact guCol_at ⟨4, by omega⟩ slices_S128x1152_o0_512_S128x128 x s r ⟨k.val - 128 - 128 - 128 - 128, by omega⟩ k (by show k.val = 128 * 4 + (k.val - 128 - 128 - 128 - 128); omega)
  rw [dif_neg h4]
  by_cases h5 : k.val - 128 - 128 - 128 - 128 - 128 < 128
  · rw [dif_pos h5]
    exact guCol_at ⟨5, by omega⟩ slices_S128x1152_o0_640_S128x128 x s r ⟨k.val - 128 - 128 - 128 - 128 - 128, by omega⟩ k (by show k.val = 128 * 5 + (k.val - 128 - 128 - 128 - 128 - 128); omega)
  rw [dif_neg h5]
  by_cases h6 : k.val - 128 - 128 - 128 - 128 - 128 - 128 < 128
  · rw [dif_pos h6]
    exact guCol_at ⟨6, by omega⟩ slices_S128x1152_o0_768_S128x128 x s r ⟨k.val - 128 - 128 - 128 - 128 - 128 - 128, by omega⟩ k (by show k.val = 128 * 6 + (k.val - 128 - 128 - 128 - 128 - 128 - 128); omega)
  rw [dif_neg h6]
  by_cases h7 : k.val - 128 - 128 - 128 - 128 - 128 - 128 - 128 < 128
  · rw [dif_pos h7]
    exact guCol_at ⟨7, by omega⟩ slices_S128x1152_o0_896_S128x128 x s r ⟨k.val - 128 - 128 - 128 - 128 - 128 - 128 - 128, by omega⟩ k (by show k.val = 128 * 7 + (k.val - 128 - 128 - 128 - 128 - 128 - 128 - 128); omega)
  rw [dif_neg h7]
  exact guCol_at ⟨8, by omega⟩ slices_S128x1152_o0_1024_S128x128 x s r ⟨k.val - 128 - 128 - 128 - 128 - 128 - 128 - 128 - 128, by omega⟩ k (by show k.val = 128 * 8 + (k.val - 128 - 128 - 128 - 128 - 128 - 128 - 128 - 128); omega)

/-- A selection on the bit 1 is its first choice. -/
theorem sel1 {α : Type} (x y : α) : Scalar.select 1#1 x y = x := rfl
/-- A selection on the bit 0 is its second choice. -/
theorem sel0 {α : Type} (x y : α) : Scalar.select 0#1 x y = y := rfl

/-- A group number below 216 as a 32-bit word: the half of the row it lies in, and its lane there after the kernel's wrap. -/
theorem look_bits : ∀ n : Fin 216, IntOp.cmpi .sge (BitVec.ofNat 32 n.val) 128#32 = (if 128 ≤ n.val then 1#1 else 0#1) ∧
    (Scalar.select (IntOp.cmpi CmpIPredicate.slt (IntOp.andi (BitVec.ofNat 32 n.val) 127#32) 0#32)
      (IntOp.addi (IntOp.andi (BitVec.ofNat 32 n.val) 127#32) 128#32)
      (IntOp.andi (BitVec.ofNat 32 n.val) 127#32)).toNat % 128 = n.val % 128 := by
  decide +kernel

/-- Lane `l` lies in group `l / 32` of its column. -/
theorem groups192_apply (r : Fin 192) (l : Fin 128) : groups192 (ix2 r l) = BitVec.ofNat 32 (l.val / 32) := by
  pointwise [groups192]
  revert l
  decide +kernel

/-- A column of the dequantised block of 192 rows of the down weights, read at column `k` of the block. -/
theorem dCol192_at (c : Fin 9) (j : Fin 6) (h : S192x768.Slices ![0, 128 * j.val] S192x128) (x : Vec Ideal S192x768 .fp8e4m3) (s : Vec Ideal S192x216 .i8)
    (r : Fin 192) (l : Fin 128) (k : Fin 768) (hk : k.val = 128 * j.val + l.val) :
    dCol192 (F := Ideal) (128 * j.val) h (Scalar.addi (BitVec.ofNat 32 (24 * c.val)) (BitVec.ofNat 32 (4 * j.val))) x (k0_pay601 (F := Ideal) s) (ix2 r l)
      = x (ix2 r k) * Ideal.ofBits .f32 ((BitVec.setWidth 32 (s (ix2 r ⟨24 * c.val + k.val / 32, by omega⟩))) <<< (23 : Nat)) := by
  have hn : 24 * c.val + 4 * j.val + l.val / 32 = 24 * c.val + k.val / 32 := by omega
  have e0 : IntOp.addi (Scalar.addi (BitVec.ofNat 32 (24 * c.val)) (BitVec.ofNat 32 (4 * j.val))) (BitVec.ofNat 32 (l.val / 32))
      = BitVec.ofNat 32 (24 * c.val + k.val / 32) := by
    rw [← hn]
    show BitVec.ofNat 32 _ + BitVec.ofNat 32 _ + BitVec.ofNat 32 _ = _
    rw [← BitVec.ofNat_add, ← BitVec.ofNat_add]
  have e1 : (⟨128 * j.val + l.val, by omega⟩ : Fin 768) = k := Fin.ext hk.symm
  obtain ⟨b1, b2⟩ := look_bits ⟨24 * c.val + k.val / 32, by omega⟩
  pointwise [dCol192, groups192_apply, look192, k0_pay601]
  simp only [e0, e1, b1, b2]
  refine congrArg (fun w => x (ix2 r k) * Ideal.ofBits .f32 w) ?_
  by_cases hb : 128 ≤ 24 * c.val + k.val / 32
  · rw [if_pos hb]
    refine (sel1 _ _).trans ?_
    rw [dif_pos (by omega)]
    have e2 : (⟨128 + (24 * c.val + k.val / 32) % 128, by omega⟩ : Fin 216) = ⟨24 * c.val + k.val / 32, by omega⟩ := Fin.ext (by simp only; omega)
    exact congrArg (fun g => (BitVec.setWidth 32 (s (ix2 r g))) <<< (23 : Nat)) e2
  · rw [if_neg hb]
    refine (sel0 _ _).trans ?_
    rw [dif_pos (by omega)]
    have e2 : (⟨(24 * c.val + k.val / 32) % 128, by omega⟩ : Fin 216) = ⟨24 * c.val + k.val / 32, by omega⟩ := Fin.ext (by simp only; omega)
    exact congrArg (fun g => (BitVec.setWidth 32 (s (ix2 r g))) <<< (23 : Nat)) e2

/-- The dequantised block of 192 rows of the down weights, read at an index: the code times its group's scale. -/
theorem decD192_apply (c : Fin 9) (x : Vec Ideal S192x768 .fp8e4m3) (s : Vec Ideal S192x216 .i8) (z : Fin 1) (r : Fin 192) (k : Fin 768) :
    decD192 (F := Ideal) (BitVec.ofNat 32 (24 * c.val)) x s (ix3 z r k)
      = x (ix2 r k) * Ideal.ofBits .f32 ((BitVec.setWidth 32 (s (ix2 r ⟨24 * c.val + k.val / 32, by omega⟩))) <<< (23 : Nat)) := by
  pointwise [decD192]
  by_cases h0 : k.val < 128
  · rw [dif_pos h0]
    exact dCol192_at c ⟨0, by omega⟩ slices_S192x768_o0_0_S192x128 x s r ⟨k.val, by omega⟩ k (by show k.val = 128 * 0 + (k.val); omega)
  rw [dif_neg h0]
  by_cases h1 : k.val - 128 < 128
  · rw [dif_pos h1]
    exact dCol192_at c ⟨1, by omega⟩ slices_S192x768_o0_128_S192x128 x s r ⟨k.val - 128, by omega⟩ k (by show k.val = 128 * 1 + (k.val - 128); omega)
  rw [dif_neg h1]
  by_cases h2 : k.val - 128 - 128 < 128
  · rw [dif_pos h2]
    exact dCol192_at c ⟨2, by omega⟩ slices_S192x768_o0_256_S192x128 x s r ⟨k.val - 128 - 128, by omega⟩ k (by show k.val = 128 * 2 + (k.val - 128 - 128); omega)
  rw [dif_neg h2]
  by_cases h3 : k.val - 128 - 128 - 128 < 128
  · rw [dif_pos h3]
    exact dCol192_at c ⟨3, by omega⟩ slices_S192x768_o0_384_S192x128 x s r ⟨k.val - 128 - 128 - 128, by omega⟩ k (by show k.val = 128 * 3 + (k.val - 128 - 128 - 128); omega)
  rw [dif_neg h3]
  by_cases h4 : k.val - 128 - 128 - 128 - 128 < 128
  · rw [dif_pos h4]
    exact dCol192_at c ⟨4, by omega⟩ slices_S192x768_o0_512_S192x128 x s r ⟨k.val - 128 - 128 - 128 - 128, by omega⟩ k (by show k.val = 128 * 4 + (k.val - 128 - 128 - 128 - 128); omega)
  rw [dif_neg h4]
  exact dCol192_at c ⟨5, by omega⟩ slices_S192x768_o0_640_S192x128 x s r ⟨k.val - 128 - 128 - 128 - 128 - 128, by omega⟩ k (by show k.val = 128 * 5 + (k.val - 128 - 128 - 128 - 128 - 128); omega)

/-- Lane `l` lies in group `l / 32` of its column. -/
theorem groups128_apply (r : Fin 128) (l : Fin 128) : groups128 (ix2 r l) = BitVec.ofNat 32 (l.val / 32) := by
  pointwise [groups128]
  revert l
  decide +kernel

/-- A column of the dequantised block of 128 rows of the down weights, read at column `k` of the block. -/
theorem dCol128_at (c : Fin 9) (j : Fin 6) (h : S128x768.Slices ![0, 128 * j.val] S128x128) (x : Vec Ideal S128x768 .fp8e4m3) (s : Vec Ideal S128x216 .i8)
    (r : Fin 128) (l : Fin 128) (k : Fin 768) (hk : k.val = 128 * j.val + l.val) :
    dCol128 (F := Ideal) (128 * j.val) h (Scalar.addi (BitVec.ofNat 32 (24 * c.val)) (BitVec.ofNat 32 (4 * j.val))) x (k0_pay438 (F := Ideal) s) (ix2 r l)
      = x (ix2 r k) * Ideal.ofBits .f32 ((BitVec.setWidth 32 (s (ix2 r ⟨24 * c.val + k.val / 32, by omega⟩))) <<< (23 : Nat)) := by
  have hn : 24 * c.val + 4 * j.val + l.val / 32 = 24 * c.val + k.val / 32 := by omega
  have e0 : IntOp.addi (Scalar.addi (BitVec.ofNat 32 (24 * c.val)) (BitVec.ofNat 32 (4 * j.val))) (BitVec.ofNat 32 (l.val / 32))
      = BitVec.ofNat 32 (24 * c.val + k.val / 32) := by
    rw [← hn]
    show BitVec.ofNat 32 _ + BitVec.ofNat 32 _ + BitVec.ofNat 32 _ = _
    rw [← BitVec.ofNat_add, ← BitVec.ofNat_add]
  have e1 : (⟨128 * j.val + l.val, by omega⟩ : Fin 768) = k := Fin.ext hk.symm
  obtain ⟨b1, b2⟩ := look_bits ⟨24 * c.val + k.val / 32, by omega⟩
  pointwise [dCol128, groups128_apply, look128, k0_pay438]
  simp only [e0, e1, b1, b2]
  refine congrArg (fun w => x (ix2 r k) * Ideal.ofBits .f32 w) ?_
  by_cases hb : 128 ≤ 24 * c.val + k.val / 32
  · rw [if_pos hb]
    refine (sel1 _ _).trans ?_
    rw [dif_pos (by omega)]
    have e2 : (⟨128 + (24 * c.val + k.val / 32) % 128, by omega⟩ : Fin 216) = ⟨24 * c.val + k.val / 32, by omega⟩ := Fin.ext (by simp only; omega)
    exact congrArg (fun g => (BitVec.setWidth 32 (s (ix2 r g))) <<< (23 : Nat)) e2
  · rw [if_neg hb]
    refine (sel0 _ _).trans ?_
    rw [dif_pos (by omega)]
    have e2 : (⟨(24 * c.val + k.val / 32) % 128, by omega⟩ : Fin 216) = ⟨24 * c.val + k.val / 32, by omega⟩ := Fin.ext (by simp only; omega)
    exact congrArg (fun g => (BitVec.setWidth 32 (s (ix2 r g))) <<< (23 : Nat)) e2

/-- The dequantised block of 128 rows of the down weights, read at an index: the code times its group's scale. -/
theorem decD128_apply (c : Fin 9) (x : Vec Ideal S128x768 .fp8e4m3) (s : Vec Ideal S128x216 .i8) (z : Fin 1) (r : Fin 128) (k : Fin 768) :
    decD128 (F := Ideal) (BitVec.ofNat 32 (24 * c.val)) x s (ix3 z r k)
      = x (ix2 r k) * Ideal.ofBits .f32 ((BitVec.setWidth 32 (s (ix2 r ⟨24 * c.val + k.val / 32, by omega⟩))) <<< (23 : Nat)) := by
  pointwise [decD128]
  by_cases h0 : k.val < 128
  · rw [dif_pos h0]
    exact dCol128_at c ⟨0, by omega⟩ slices_S128x768_o0_0_S128x128 x s r ⟨k.val, by omega⟩ k (by show k.val = 128 * 0 + (k.val); omega)
  rw [dif_neg h0]
  by_cases h1 : k.val - 128 < 128
  · rw [dif_pos h1]
    exact dCol128_at c ⟨1, by omega⟩ slices_S128x768_o0_128_S128x128 x s r ⟨k.val - 128, by omega⟩ k (by show k.val = 128 * 1 + (k.val - 128); omega)
  rw [dif_neg h1]
  by_cases h2 : k.val - 128 - 128 < 128
  · rw [dif_pos h2]
    exact dCol128_at c ⟨2, by omega⟩ slices_S128x768_o0_256_S128x128 x s r ⟨k.val - 128 - 128, by omega⟩ k (by show k.val = 128 * 2 + (k.val - 128 - 128); omega)
  rw [dif_neg h2]
  by_cases h3 : k.val - 128 - 128 - 128 < 128
  · rw [dif_pos h3]
    exact dCol128_at c ⟨3, by omega⟩ slices_S128x768_o0_384_S128x128 x s r ⟨k.val - 128 - 128 - 128, by omega⟩ k (by show k.val = 128 * 3 + (k.val - 128 - 128 - 128); omega)
  rw [dif_neg h3]
  by_cases h4 : k.val - 128 - 128 - 128 - 128 < 128
  · rw [dif_pos h4]
    exact dCol128_at c ⟨4, by omega⟩ slices_S128x768_o0_512_S128x128 x s r ⟨k.val - 128 - 128 - 128 - 128, by omega⟩ k (by show k.val = 128 * 4 + (k.val - 128 - 128 - 128 - 128); omega)
  rw [dif_neg h4]
  exact dCol128_at c ⟨5, by omega⟩ slices_S128x768_o0_640_S128x128 x s r ⟨k.val - 128 - 128 - 128 - 128 - 128, by omega⟩ k (by show k.val = 128 * 5 + (k.val - 128 - 128 - 128 - 128 - 128); omega)

end Cert.KernelIdeal.Pure
-- ==== Proof.KernelIdeal.Step.lean ====
/-
  One grid step of the kernel on the contents of its buffers: the rows it decodes, the 768 by 768 block of codes it
  computes, the scale bytes and the partial sums it stores, as functions of what the buffers held.
-/
module

public import proofs.«01_k».proof.Proof.KernelIdeal.Decode
public import proofs.«01_k».proof.Proof.KernelIdeal.Act
public import Idealize.ShloMosaic.Lib.VecWindow

@[expose] public section

set_option maxRecDepth 16384

noncomputable section

namespace Cert.KernelIdeal.Pure

open Cert.KernelIdeal.Gen
open Idealize.ShloMosaic Idealize.ShloMosaic.TcCoe

variable {F : FTy → Type} [FloatOps F]

/-- The first group of the down weights' columns that step `i` decodes, as the kernel computes it. -/
def word (i : grid0.Coords) : BitVec 32 :=
  let v0 := Scalar.divsi (BitVec.ofNat 32 (i 0)) 6#32
  let v5 := Scalar.subi (Scalar.extui (Scalar.cmpi .sgt (BitVec.ofNat 32 (i 0)) 0#32)) (Scalar.extui (Scalar.cmpi .slt (BitVec.ofNat 32 (i 0)) 0#32))
  let v11 := Scalar.cmpi .ne v5 1#32
  let v13 := Scalar.cmpi .ne (Scalar.remsi (BitVec.ofNat 32 (i 0)) 6#32) 0#32
  let v16 := Scalar.select (Scalar.andi v11 v13) (Scalar.subi v0 1#32) v0
  Scalar.muli (Scalar.minsi (Scalar.addi v16 1#32) 8#32) 24#32

/-- It is 24 times the number of the next slice of 768 features (the last slice's own after it). -/
theorem word_eq : ∀ i : grid0.Coords, word i = BitVec.ofNat 32 (24 * min ((i 0).val / 6 + 1) 8) := by decide +kernel

/-- The stores into the gate (or up) weights' buffer: 128 decoded rows, over the earlier stores `L`. -/
def guPieces (i : grid0.Coords) (x : Vec F S128x1152 .fp8e4m3) (s : Vec F S128x36 .i8) (L : List (View.Piece (Elt F) S2x768x1152 .bf16)) :
    List (View.Piece (Elt F) S2x768x1152 .bf16) :=
  ⟨Rect.unit (k0_off2 i) S1x128x1152.size (k0_off2_inb i), decGU x s⟩ :: L

/-- The stores into the down weights' buffer: 192 decoded rows, over the earlier stores `L`. -/
def dPieces (i : grid0.Coords) (x : Vec F S192x768 .fp8e4m3) (s : Vec F S192x216 .i8) (L : List (View.Piece (Elt F) S2x1152x768 .bf16)) :
    List (View.Piece (Elt F) S2x1152x768 .bf16) :=
  ⟨Rect.unit (k0_off3 i) S1x192x768.size (k0_off3_inb i), decD192 (word i) x s⟩ :: L

/-- The stores of the codes. -/
def codePieces (g u : Vec F S1x768x1152 .bf16) (x0 x1 x2 : Vec F S1152x256 .bf16) : List (View.Piece (Elt F) S768x768 .fp8e4m3) :=
  [⟨Rect.unit ![512, 0] S256x768.size inb_S768x768_S256x768_512_0, codesT (actOf g u x2) (byteOf (actOf g u x2))⟩,
   ⟨Rect.unit ![256, 0] S256x768.size inb_S768x768_S256x768_256_0, codesT (actOf g u x1) (byteOf (actOf g u x1))⟩,
   ⟨Rect.unit ![0, 0] S256x768.size inb_S768x768_S256x768_0_0, codesT (actOf g u x0) (byteOf (actOf g u x0))⟩]

/-- The stores of the scale bytes. -/
def bytePieces (i : grid0.Coords) (g u : Vec F S1x768x1152 .bf16) (x0 x1 x2 : Vec F S1152x256 .bf16) : List (View.Piece (Elt F) S6x216x768 .i32) :=
  [⟨Rect.unit (k0_off10 i) S1x24x256.size (k0_off10_inb i), bytes (byteOf (actOf g u x2))⟩,
   ⟨Rect.unit (k0_off8 i) S1x24x256.size (k0_off8_inb i), bytes (byteOf (actOf g u x1))⟩,
   ⟨Rect.unit (k0_off5 i) S1x24x256.size (k0_off5_inb i), bytes (byteOf (actOf g u x0))⟩]

/-- What a sub-block adds to its 256 columns of the accumulator, which held `a`. -/
def accVal (g u : Vec F S1x768x1152 .bf16) (x : Vec F S1152x256 .bf16) (d : Vec F S1x1152x768 .bf16) (a : Vec F S1x1152x256 .f32) : FVec F S1x1152x256 .f32 :=
  accum (decoded (actOf g u x) (byteOf (actOf g u x))) a d

/-- The stores into the accumulator, over the earlier stores `L`. -/
def accPieces (i : grid0.Coords) (g u : Vec F S1x768x1152 .bf16) (x0 x1 x2 : Vec F S1152x256 .bf16) (d : Vec F S1x1152x768 .bf16) (a0 a1 a2 : Vec F S1x1152x256 .f32)
    (L : List (View.Piece (Elt F) S6x1152x768 .f32)) : List (View.Piece (Elt F) S6x1152x768 .f32) :=
  ⟨Rect.unit (k0_off11 i) S1x1152x256.size (k0_off11_inb i), accVal g u x2 d a2⟩ ::
  ⟨Rect.unit (k0_off9 i) S1x1152x256.size (k0_off9_inb i), accVal g u x1 d a1⟩ ::
  ⟨Rect.unit (k0_off6 i) S1x1152x256.size (k0_off6_inb i), accVal g u x0 d a0⟩ :: L

end Cert.KernelIdeal.Pure
-- ==== Proof.Spec.lean ====
/-
  The feed-forward layer as plain functions of numbers: dequantised weights, gate and up products, the gated activation,
  its quantisation in groups of 32 features, and the down product added to the residual. Rows and columns are counted by
  natural numbers.
-/
module

public import Idealize.ShloMosaic.Lib.Pointwise

@[expose] public section

noncomputable section

namespace Cert.Spec

open Idealize.ShloMosaic

/-- The arrays the layer is computed from: the normed activations and the residual (features by tokens), and of each of the three
    weights its e4m3 codes and its scale bytes, one per 32 columns. -/
structure In where
  n2 : ℕ → ℕ → EReal
  r1 : ℕ → ℕ → EReal
  wgc : ℕ → ℕ → EReal
  wgs : ℕ → ℕ → BitVec 8
  wuc : ℕ → ℕ → EReal
  wus : ℕ → ℕ → BitVec 8
  wdc : ℕ → ℕ → EReal
  wds : ℕ → ℕ → BitVec 8

/-- A two-axis array as a function of natural numbers, `d` outside it. -/
def at2 {α : Type} {A B : ℕ} (x : (⟨2, ![A, B]⟩ : Shape).Idx → α) (d : α) (i j : ℕ) : α :=
  if h : i < A ∧ j < B then x (ix2 ⟨i, h.1⟩ ⟨j, h.2⟩) else d

/-- Inside the array it is the element. -/
theorem at2_of {α : Type} {A B : ℕ} (x : (⟨2, ![A, B]⟩ : Shape).Idx → α) (d : α) (i j : ℕ) (y : (⟨2, ![A, B]⟩ : Shape).Idx)
    (hi : (y (0 : Fin 2)).val = i) (hj : (y (1 : Fin 2)).val = j) : x y = at2 x d i j := by
  subst hi hj
  unfold at2
  rw [dif_pos ⟨(y (0 : Fin 2)).isLt, (y (1 : Fin 2)).isLt⟩]
  refine congrArg x (funext fun k => ?_)
  fin_cases k <;> rfl

/-- The number with biased exponent `e` and no fraction: 2 ^ (e - 127), zero at 0 and infinity at 255. -/
def pow2 (e : BitVec 32) : EReal := Ideal.ofBits .f32 (e <<< (23 : Nat))

/-- The scale a byte states. -/
def sc (b : BitVec 8) : EReal := pow2 (BitVec.setWidth 32 b)

/-- One step of the search for the exponent of `a`. -/
def bit (a : EReal) (e b : BitVec 32) : BitVec 32 := if a < pow2 (e + b) then e else e + b

/-- The largest biased exponent whose power of two does not exceed `a`, found bit by bit. -/
def expo (a : EReal) : BitVec 32 := bit a (bit a (bit a (bit a (bit a (bit a (bit a (bit a 0#32 128#32) 64#32) 32#32) 16#32) 8#32) 4#32) 2#32) 1#32

/-- The scale byte of a group whose largest magnitude has biased exponent `e`. -/
def toByte (e : BitVec 32) : BitVec 32 := if e = 0#32 then 127#32 else IntOp.maxsi (e - 8#32) 0#32

/-- The layer's arrays from the program's arguments. -/
def In.of (x0 x1 : (⟨2, ![1152, 4608]⟩ : Shape).Idx → EReal) (x2 : (⟨2, ![6912, 1152]⟩ : Shape).Idx → EReal) (x3 : (⟨2, ![6912, 36]⟩ : Shape).Idx → BitVec 8)
    (x4 : (⟨2, ![6912, 1152]⟩ : Shape).Idx → EReal) (x5 : (⟨2, ![6912, 36]⟩ : Shape).Idx → BitVec 8)
    (x6 : (⟨2, ![1152, 6912]⟩ : Shape).Idx → EReal) (x7 : (⟨2, ![1152, 216]⟩ : Shape).Idx → BitVec 8) : In :=
  ⟨at2 x0 0, at2 x1 0, at2 x2 0, at2 x3 0, at2 x4 0, at2 x5 0, at2 x6 0, at2 x7 0⟩

namespace In

variable (a : In)

/-- The dequantised gate weights. -/
def Wg (f k : ℕ) : EReal := a.wgc f k * sc (a.wgs f (k / 32))
/-- The dequantised up weights. -/
def Wu (f k : ℕ) : EReal := a.wuc f k * sc (a.wus f (k / 32))
/-- The dequantised down weights. -/
def Wd (d f : ℕ) : EReal := a.wdc d f * sc (a.wds d (f / 32))
/-- The gate product. -/
def gate (f n : ℕ) : EReal := ∑ k : Fin 1152, a.Wg f k * a.n2 k n
/-- The up product. -/
def up (f n : ℕ) : EReal := ∑ k : Fin 1152, a.Wu f k * a.n2 k n
/-- The gated activation. -/
def act (f n : ℕ) : EReal := a.gate f n * Ideal.div 1 (1 + Ideal.exp (0 - a.gate f n)) * a.up f n
/-- The largest magnitude of a group of 32 features. -/
def amax (g n : ℕ) : EReal := Finset.fold max (Ideal.ofBits .f32 0xFF800000#32) (fun j : Fin 32 => FloatOps.absf (F := Ideal) (φ := .f32) (a.act (32 * g + j) n)) Finset.univ
/-- The group's scale byte. -/
def byte (g n : ℕ) : BitVec 32 := toByte (expo (a.amax g n))
/-- The activation's code: over its scale, clamped to the largest e4m3 value. -/
def code (f n : ℕ) : EReal := min (Ideal.ofBits .f32 0x43E00000#32) (max (Ideal.ofBits .f32 0xC3E00000#32) (a.act f n * pow2 (254#32 - a.byte (f / 32) n)))
/-- The code decoded again. -/
def dec (f n : ℕ) : EReal := a.code f n * pow2 (a.byte (f / 32) n)
/-- The residual plus the down product over the first `C` slices of 768 features. -/
def part (C d n : ℕ) : EReal := a.r1 d n + ∑ c ∈ Finset.range C, ∑ j : Fin 768, a.Wd d (768 * c + j) * a.dec (768 * c + j) n

/-- With no slice it is the residual. -/
theorem part_zero (d n : ℕ) : a.part 0 d n = a.r1 d n := by
  unfold part
  rw [Finset.range_zero, Finset.sum_empty, add_zero]

/-- One more slice. -/
theorem part_succ (C d n : ℕ) : a.part (C + 1) d n = a.part C d n + ∑ j : Fin 768, a.Wd d (768 * C + j) * a.dec (768 * C + j) n := by
  unfold part
  rw [Finset.sum_range_succ, add_assoc]

end In

end Cert.Spec
-- ==== Proof.KernelIdeal.ActVal.lean ====
/-
  What a sub-block of 256 tokens computes, over the extended reals: the layer's activation, scale bytes, codes and decoded codes at
  the features and tokens of the sub-block.
-/
module

public import proofs.«01_k».proof.Proof.KernelIdeal.Act
public import proofs.«01_k».proof.Proof.KernelIdeal.Step
public import proofs.«01_k».proof.Proof.Spec

@[expose] public section

set_option maxRecDepth 16384

noncomputable section

namespace Cert.KernelIdeal.Pure

open Cert.KernelIdeal.Gen
open Idealize.ShloMosaic Cert.Spec

/-- The product of a slice of weights with 256 tokens, at an index. -/
theorem gemm_apply (w : Vec Ideal S1x768x1152 .bf16) (x : Vec Ideal S1152x256 .bf16) (f : Fin 768) (n : Fin 256) :
    gemm (F := Ideal) w x (ix2 f n) = ∑ k : Fin 1152, (w (ix3 0 f k) : EReal) * x (ix2 k n) := by
  pointwise [gemm]

/-- The gated activation at an index. -/
theorem act_apply (g u : FVec Ideal S768x256 .f32) (q : Fin 24) (j : Fin 32) (n : Fin 256) (f : Fin 768) (hf : f.val = 32 * q.val + j.val) :
    act (F := Ideal) g u (ix3 q j n) = g (ix2 f n) * Ideal.div 1 (1 + Ideal.exp (0 - g (ix2 f n))) * u (ix2 f n) := by
  have e : (⟨q.val * 32 + j.val, by omega⟩ : Fin 768) = f := Fin.ext (by show q.val * 32 + j.val = f.val; omega)
  pointwise [act]
  rw [e]

/-- The largest magnitude of a group at an index. -/
theorem amax_apply (a : FVec Ideal S24x32x256 .f32) (q : Fin 24) (z : Fin 1) (n : Fin 256) :
    amax (F := Ideal) a (ix3 q z n) = Finset.fold max (Ideal.ofBits .f32 0xFF800000#32) (fun j : Fin 32 => FloatOps.absf (F := Ideal) (φ := .f32) (a (ix3 q j n))) Finset.univ := by
  pointwise [amax]

/-- A step of the exponent's search at an index. -/
theorem bitStep_apply (a : FVec Ideal S24x1x256 .f32) (e : IVec S24x1x256 32) (b : BitVec 32) (q : Fin 24) (z : Fin 1) (n : Fin 256) :
    bitStep (F := Ideal) a e b (ix3 q z n) = bit (a (ix3 q z n)) (e (ix3 q z n)) b := by
  pointwise [bitStep]
  rfl

/-- The search at an index. -/
theorem search_apply (a : FVec Ideal S24x1x256 .f32) (q : Fin 24) (z : Fin 1) (n : Fin 256) :
    search (F := Ideal) a (ix3 q z n) = expo (a (ix3 q z n)) := by
  unfold search
  simp only [bitStep_apply]
  rfl

/-- The scale byte at an index. -/
theorem toByte_apply (e : IVec S24x1x256 32) (q : Fin 24) (z : Fin 1) (n : Fin 256) :
    Pure.toByte e (ix3 q z n) = Spec.toByte (e (ix3 q z n)) := by
  pointwise [Pure.toByte]
  show Scalar.select (BitVec.ofBool (e (ix3 q z n) == 0#32)) _ _ = _
  unfold Spec.toByte
  by_cases h : e (ix3 q z n) = 0#32
  · rw [if_pos h, h]; rfl
  · rw [if_neg h, beq_eq_false_iff_ne.mpr h]; rfl

/-- A code at an index. -/
theorem codes_apply (a : FVec Ideal S24x32x256 .f32) (b : IVec S24x1x256 32) (q : Fin 24) (j : Fin 32) (n : Fin 256) :
    codes (F := Ideal) a b (ix3 q j n) = min (Ideal.ofBits .f32 0x43E00000#32) (max (Ideal.ofBits .f32 0xC3E00000#32) (a (ix3 q j n) * pow2 (254#32 - b (ix3 q 0 n)))) := by
  pointwise [codes]
  rfl

/-- A decoded code at an index. -/
theorem decoded_apply (a : FVec Ideal S24x32x256 .f32) (b : IVec S24x1x256 32) (f : Fin 768) (n : Fin 256) :
    decoded (F := Ideal) a b (ix2 f n) = codes (F := Ideal) a b (ix3 ⟨f.val / 32, by omega⟩ ⟨f.val % 32, by omega⟩ n) * pow2 (b (ix3 ⟨f.val / 32, by omega⟩ 0 n)) := by
  pointwise [decoded]
  rfl

/-- A stored code at an index. -/
theorem codesT_apply (a : FVec Ideal S24x32x256 .f32) (b : IVec S24x1x256 32) (n : Fin 256) (f : Fin 768) :
    codesT (F := Ideal) a b (ix2 n f) = codes (F := Ideal) a b (ix3 ⟨f.val / 32, by omega⟩ ⟨f.val % 32, by omega⟩ n) := by
  pointwise [codesT]

/-- A stored scale byte at an index. -/
theorem bytes_apply (b : IVec S24x1x256 32) (z : Fin 1) (q : Fin 24) (n : Fin 256) : bytes b (ix3 z q n) = b (ix3 q 0 n) := by
  pointwise [bytes]

/-- The accumulator plus the down product at an index. -/
theorem accum_apply (dd : FVec Ideal S768x256 .bf16) (p : Vec Ideal S1x1152x256 .f32) (w : Vec Ideal S1x1152x768 .bf16) (z : Fin 1) (d : Fin 1152) (n : Fin 256) :
    accum (F := Ideal) dd p w (ix3 z d n) = p (ix3 0 d n) + ∑ j : Fin 768, (w (ix3 0 d j) : EReal) * dd (ix2 j n) := by
  pointwise [accum]

/-- The output of 768 tokens is the accumulator transposed. -/
theorem pay2_apply (w : Vec Ideal S1x1152x768 .f32) (n : Fin 768) (d : Fin 1152) : k0_pay2 (F := Ideal) w (ix2 n d) = w (ix3 0 d n) := by
  pointwise [k0_pay2]

/-- The scale bytes of 768 tokens are the words kept, transposed and cut to bytes. -/
theorem pay3_apply (w : Vec Ideal S1x216x768 .i32) (n : Fin 768) (g : Fin 216) : k0_pay3 (F := Ideal) w (ix2 n g) = (w (ix3 0 g n)).setWidth 8 := by
  pointwise [k0_pay3]

/-- The residual as it enters the accumulator. -/
theorem pay549_apply (w : Vec Ideal S1152x768 .f32) (z : Fin 1) (d : Fin 1152) (n : Fin 768) : k0_pay549 (F := Ideal) w (ix3 z d n) = w (ix2 d n) := by
  pointwise [k0_pay549]

section Block

variable (a : In) (c N : ℕ) (g u : Vec Ideal S1x768x1152 .bf16) (x : Vec Ideal S1152x256 .bf16)

/-- The weights and tokens of a sub-block: slice `c` of the features, tokens from `N` on. -/
def IsSub : Prop := (∀ f k, g (ix3 0 f k) = a.Wg (768 * c + f.val) k.val) ∧ (∀ f k, u (ix3 0 f k) = a.Wu (768 * c + f.val) k.val)
  ∧ (∀ k n, x (ix2 k n) = a.n2 k.val (N + n.val))

variable {a c N g u x}

/-- The sub-block's activation is the layer's. -/
theorem actOf_apply (h : IsSub a c N g u x) (q : Fin 24) (j : Fin 32) (n : Fin 256) :
    actOf (F := Ideal) g u x (ix3 q j n) = a.act (32 * (24 * c + q.val) + j.val) (N + n.val) := by
  obtain ⟨hg, hu, hx⟩ := h
  have hf : 32 * (24 * c + q.val) + j.val = 768 * c + (32 * q.val + j.val) := by omega
  unfold actOf
  rw [act_apply _ _ q j n ⟨32 * q.val + j.val, by omega⟩ rfl, gemm_apply, gemm_apply, hf]
  simp only [hg, hu, hx]
  rfl

/-- The sub-block's scale bytes are the layer's. -/
theorem byteOf_apply (h : IsSub a c N g u x) (q : Fin 24) (z : Fin 1) (n : Fin 256) :
    byteOf (F := Ideal) (actOf (F := Ideal) g u x) (ix3 q z n) = a.byte (24 * c + q.val) (N + n.val) := by
  unfold byteOf
  rw [toByte_apply, search_apply, amax_apply]
  simp only [actOf_apply h]
  rfl

/-- The sub-block's codes are the layer's. -/
theorem codes_sub (h : IsSub a c N g u x) (f : Fin 768) (n : Fin 256) :
    codes (F := Ideal) (actOf (F := Ideal) g u x) (byteOf (F := Ideal) (actOf (F := Ideal) g u x)) (ix3 ⟨f.val / 32, by omega⟩ ⟨f.val % 32, by omega⟩ n)
      = a.code (768 * c + f.val) (N + n.val) := by
  have h1 : 32 * (24 * c + f.val / 32) + f.val % 32 = 768 * c + f.val := by omega
  have h2 : 24 * c + f.val / 32 = (768 * c + f.val) / 32 := by omega
  rw [codes_apply, actOf_apply h, byteOf_apply h]
  simp only [h1]
  rw [h2]
  rfl

/-- The sub-block's stored codes are the layer's, tokens by features. -/
theorem codesT_sub (h : IsSub a c N g u x) (n : Fin 256) (f : Fin 768) :
    codesT (F := Ideal) (actOf (F := Ideal) g u x) (byteOf (F := Ideal) (actOf (F := Ideal) g u x)) (ix2 n f) = a.code (768 * c + f.val) (N + n.val) := by
  rw [codesT_apply, codes_sub h]

/-- The sub-block's decoded codes are the layer's. -/
theorem decoded_sub (h : IsSub a c N g u x) (f : Fin 768) (n : Fin 256) :
    decoded (F := Ideal) (actOf (F := Ideal) g u x) (byteOf (F := Ideal) (actOf (F := Ideal) g u x)) (ix2 f n) = a.dec (768 * c + f.val) (N + n.val) := by
  have h2 : 24 * c + f.val / 32 = (768 * c + f.val) / 32 := by omega
  rw [decoded_apply, codes_sub h, byteOf_apply h]
  simp only [h2]
  rfl

/-- What the sub-block adds to the accumulator: the down product over the slice. -/
theorem accVal_sub (h : IsSub a c N g u x) {w : Vec Ideal S1x1152x768 .bf16} (hw : ∀ d j, w (ix3 0 d j) = a.Wd d.val (768 * c + j.val)) (p : Vec Ideal S1x1152x256 .f32)
    (z : Fin 1) (d : Fin 1152) (n : Fin 256) :
    accVal (F := Ideal) g u x w p (ix3 z d n) = p (ix3 0 d n) + ∑ j : Fin 768, a.Wd d.val (768 * c + j.val) * a.dec (768 * c + j.val) (N + n.val) := by
  unfold accVal
  rw [accum_apply]
  simp only [hw, decoded_sub h]

end Block

end Cert.KernelIdeal.Pure
-- ==== Proof.KernelIdeal.Runs.lean ====
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The offsets the body computes, in closed form -/

/-- `k0_off1` in closed form, to rewrite the access's rectangle by (`simp only [k0_off1_eq]`). -/
theorem k0_off1_eq : ∀ i : grid0.Coords, k0_off1 i = ![((i 0).val % 6), 0, 0] := by decide +kernel
instance closedOff_k0_off1 (i : grid0.Coords) : ClosedOff (k0_off1 i) := ⟨![((i 0).val % 6), 0, 0], k0_off1_eq i⟩
/-- `k0_off2` in closed form, to rewrite the access's rectangle by (`simp only [k0_off2_eq]`). -/
theorem k0_off2_eq : ∀ i : grid0.Coords, k0_off2 i = ![1 - (((i 0).val / 6) % 2), 128 * ((i 0).val % 6), 0] := by decide +kernel
instance closedOff_k0_off2 (i : grid0.Coords) : ClosedOff (k0_off2 i) := ⟨![1 - (((i 0).val / 6) % 2), 128 * ((i 0).val % 6), 0], k0_off2_eq i⟩
/-- `k0_off3` in closed form, to rewrite the access's rectangle by (`simp only [k0_off3_eq]`). -/
theorem k0_off3_eq : ∀ i : grid0.Coords, k0_off3 i = ![1 - (((i 0).val / 6) % 2), 192 * ((i 0).val % 6), 0] := by decide +kernel
instance closedOff_k0_off3 (i : grid0.Coords) : ClosedOff (k0_off3 i) := ⟨![1 - (((i 0).val / 6) % 2), 192 * ((i 0).val % 6), 0], k0_off3_eq i⟩
/-- `k0_off4` in closed form, to rewrite the access's rectangle by (`simp only [k0_off4_eq]`). -/
theorem k0_off4_eq : ∀ i : grid0.Coords, k0_off4 i = ![(((i 0).val / 6) % 2), 0, 0] := by decide +kernel
instance closedOff_k0_off4 (i : grid0.Coords) : ClosedOff (k0_off4 i) := ⟨![(((i 0).val / 6) % 2), 0, 0], k0_off4_eq i⟩
/-- `k0_off5` in closed form, to rewrite the access's rectangle by (`simp only [k0_off5_eq]`). -/
theorem k0_off5_eq : ∀ i : grid0.Coords, k0_off5 i = ![((i 0).val % 6), 24 * ((i 0).val / 6), 0] := by decide +kernel
instance closedOff_k0_off5 (i : grid0.Coords) : ClosedOff (k0_off5 i) := ⟨![((i 0).val % 6), 24 * ((i 0).val / 6), 0], k0_off5_eq i⟩
/-- `k0_off6` in closed form, to rewrite the access's rectangle by (`simp only [k0_off6_eq]`). -/
theorem k0_off6_eq : ∀ i : grid0.Coords, k0_off6 i = ![((i 0).val % 6), 0, 0] := by decide +kernel
instance closedOff_k0_off6 (i : grid0.Coords) : ClosedOff (k0_off6 i) := ⟨![((i 0).val % 6), 0, 0], k0_off6_eq i⟩
/-- `k0_off7` in closed form, to rewrite the access's rectangle by (`simp only [k0_off7_eq]`). -/
theorem k0_off7_eq : ∀ i : grid0.Coords, k0_off7 i = ![(((i 0).val / 6) % 2), 0, 0] := by decide +kernel
instance closedOff_k0_off7 (i : grid0.Coords) : ClosedOff (k0_off7 i) := ⟨![(((i 0).val / 6) % 2), 0, 0], k0_off7_eq i⟩
/-- `k0_off8` in closed form, to rewrite the access's rectangle by (`simp only [k0_off8_eq]`). -/
theorem k0_off8_eq : ∀ i : grid0.Coords, k0_off8 i = ![((i 0).val % 6), 24 * ((i 0).val / 6), 256] := by decide +kernel
instance closedOff_k0_off8 (i : grid0.Coords) : ClosedOff (k0_off8 i) := ⟨![((i 0).val % 6), 24 * ((i 0).val / 6), 256], k0_off8_eq i⟩
/-- `k0_off9` in closed form, to rewrite the access's rectangle by (`simp only [k0_off9_eq]`). -/
theorem k0_off9_eq : ∀ i : grid0.Coords, k0_off9 i = ![((i 0).val % 6), 0, 256] := by decide +kernel
instance closedOff_k0_off9 (i : grid0.Coords) : ClosedOff (k0_off9 i) := ⟨![((i 0).val % 6), 0, 256], k0_off9_eq i⟩
/-- `k0_off10` in closed form, to rewrite the access's rectangle by (`simp only [k0_off10_eq]`). -/
theorem k0_off10_eq : ∀ i : grid0.Coords, k0_off10 i = ![((i 0).val % 6), 24 * ((i 0).val / 6), 512] := by decide +kernel
instance closedOff_k0_off10 (i : grid0.Coords) : ClosedOff (k0_off10 i) := ⟨![((i 0).val % 6), 24 * ((i 0).val / 6), 512], k0_off10_eq i⟩
/-- `k0_off11` in closed form, to rewrite the access's rectangle by (`simp only [k0_off11_eq]`). -/
theorem k0_off11_eq : ∀ i : grid0.Coords, k0_off11 i = ![((i 0).val % 6), 0, 512] := by decide +kernel
instance closedOff_k0_off11 (i : grid0.Coords) : ClosedOff (k0_off11 i) := ⟨![((i 0).val % 6), 0, 512], k0_off11_eq i⟩
/-- `k0_off12` in closed form, to rewrite the access's rectangle by (`simp only [k0_off12_eq]`). -/
theorem k0_off12_eq : ∀ i : grid0.Coords, k0_off12 i = ![((i 0).val % 6), 0, 0] := by decide +kernel
instance closedOff_k0_off12 (i : grid0.Coords) : ClosedOff (k0_off12 i) := ⟨![((i 0).val % 6), 0, 0], k0_off12_eq i⟩
/-- `k0_off13` in closed form, to rewrite the access's rectangle by (`simp only [k0_off13_eq]`). -/
theorem k0_off13_eq : ∀ i : grid0.Coords, k0_off13 i = ![((i 0).val % 6), 0, 0] := by decide +kernel
instance closedOff_k0_off13 (i : grid0.Coords) : ClosedOff (k0_off13 i) := ⟨![((i 0).val % 6), 0, 0], k0_off13_eq i⟩

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 54 = 0 :=
  (fun t => by
    have ht : t.val < 54 := Nat.lt_of_lt_of_eq t.isLt N_0
    have e0 : (grid0.coords t 0).val = t.val / 1 % 54 := Pipeline.Grid.coords_val t 0 (by decide) rfl
    simp only [cond0_0, e0]
    word_cmp
   : ∀ t : Fin grid0.N, cond0_0 (grid0.coords t) ↔ t.val % 54 = 0)

/-- The condition of the body's `scf.if` 1 (`k0_h2`), from the grid coordinates (the skeleton's scalar
    chain substituted). -/
abbrev cond0_1 (i : grid0.Coords) : Prop := k0_cond2 i = 1#1
/-- It holds at the points before point 6 — decided over the grid. -/
theorem hcond0_1 : ∀ t : Fin cfg0.N, cond0_1 (grid0.coords t) ↔ t.val < 6 :=
  (by decide +kernel : ∀ t : Fin grid0.N, cond0_1 (grid0.coords t) ↔ t.val < 6)

/-- The condition of the body's `scf.if` 2 (`k0_h3`), from the grid coordinates (the skeleton's scalar
    chain substituted). -/
abbrev cond0_2 (i : grid0.Coords) : Prop := k0_cond3 i = 1#1
/-- It holds at the points from point 48 on — decided over the grid. -/
theorem hcond0_2 : ∀ t : Fin cfg0.N, cond0_2 (grid0.coords t) ↔ 48 ≤ t.val :=
  (by decide +kernel : ∀ t : Fin grid0.N, cond0_2 (grid0.coords t) ↔ 48 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 15 is never idle (an output stored at every point, under no condition). -/
theorem liveAt0_15 : ∀ t : Fin cfg0.N, cfg0.idle 15 (grid0.coords t) = false := fun _ => rfl
/-- At the points of case A the printed configuration (`Cfg.idle`) calls output 14 idle: the case stores nothing into it. -/
theorem idleAt0_14_A : ∀ t : Fin cfg0.N, cond0_0 (grid0.coords t) → cond0_1 (grid0.coords t) → ¬cond0_2 (grid0.coords t) → cfg0.idle 14 (grid0.coords t) = true := by decide +kernel
/-- At the points of case A the pipeline does not write output 14's block back. -/
theorem noFlush0_14_A : ∀ t : Fin cfg0.N, cond0_0 (grid0.coords t) → cond0_1 (grid0.coords t) → ¬cond0_2 (grid0.coords t) → (cfg0.win 14).flush t = false := by decide +kernel
/-- At the points of case B the printed configuration (`Cfg.idle`) calls output 14 idle: the case stores nothing into it. -/
theorem idleAt0_14_B : ∀ t : Fin cfg0.N, ¬cond0_0 (grid0.coords t) → cond0_1 (grid0.coords t) → ¬cond0_2 (grid0.coords t) → cfg0.idle 14 (grid0.coords t) = true := by decide +kernel
/-- At the points of case B the pipeline does not write output 14's block back. -/
theorem noFlush0_14_B : ∀ t : Fin cfg0.N, ¬cond0_0 (grid0.coords t) → cond0_1 (grid0.coords t) → ¬cond0_2 (grid0.coords t) → (cfg0.win 14).flush t = false := by decide +kernel
/-- At the points of case C the printed configuration (`Cfg.idle`) calls output 14 idle: the case stores nothing into it. -/
theorem idleAt0_14_C : ∀ t : Fin cfg0.N, ¬cond0_0 (grid0.coords t) → ¬cond0_1 (grid0.coords t) → ¬cond0_2 (grid0.coords t) → cfg0.idle 14 (grid0.coords t) = true := by decide +kernel
/-- At the points of case C the pipeline does not write output 14's block back. -/
theorem noFlush0_14_C : ∀ t : Fin cfg0.N, ¬cond0_0 (grid0.coords t) → ¬cond0_1 (grid0.coords t) → ¬cond0_2 (grid0.coords t) → (cfg0.win 14).flush t = false := by decide +kernel
/-- At the points of case D the printed configuration (`Cfg.idle`) calls output 14 live: the case stores into it. -/
theorem liveAt0_14_D : ∀ t : Fin cfg0.N, ¬cond0_0 (grid0.coords t) → ¬cond0_1 (grid0.coords t) → cond0_2 (grid0.coords t) → cfg0.idle 14 (grid0.coords t) = false := by decide +kernel
/-- At the points of case A the printed configuration (`Cfg.idle`) calls output 16 idle: the case stores nothing into it. -/
theorem idleAt0_16_A : ∀ t : Fin cfg0.N, cond0_0 (grid0.coords t) → cond0_1 (grid0.coords t) → ¬cond0_2 (grid0.coords t) → cfg0.idle 16 (grid0.coords t) = true := by decide +kernel
/-- At the points of case A the pipeline does not write output 16's block back. -/
theorem noFlush0_16_A : ∀ t : Fin cfg0.N, cond0_0 (grid0.coords t) → cond0_1 (grid0.coords t) → ¬cond0_2 (grid0.coords t) → (cfg0.win 16).flush t = false := by decide +kernel
/-- At the points of case B the printed configuration (`Cfg.idle`) calls output 16 idle: the case stores nothing into it. -/
theorem idleAt0_16_B : ∀ t : Fin cfg0.N, ¬cond0_0 (grid0.coords t) → cond0_1 (grid0.coords t) → ¬cond0_2 (grid0.coords t) → cfg0.idle 16 (grid0.coords t) = true := by decide +kernel
/-- At the points of case B the pipeline does not write output 16's block back. -/
theorem noFlush0_16_B : ∀ t : Fin cfg0.N, ¬cond0_0 (grid0.coords t) → cond0_1 (grid0.coords t) → ¬cond0_2 (grid0.coords t) → (cfg0.win 16).flush t = false := by decide +kernel
/-- At the points of case C the printed configuration (`Cfg.idle`) calls output 16 idle: the case stores nothing into it. -/
theorem idleAt0_16_C : ∀ t : Fin cfg0.N, ¬cond0_0 (grid0.coords t) → ¬cond0_1 (grid0.coords t) → ¬cond0_2 (grid0.coords t) → cfg0.idle 16 (grid0.coords t) = true := by decide +kernel
/-- At the points of case C the pipeline does not write output 16's block back. -/
theorem noFlush0_16_C : ∀ t : Fin cfg0.N, ¬cond0_0 (grid0.coords t) → ¬cond0_1 (grid0.coords t) → ¬cond0_2 (grid0.coords t) → (cfg0.win 16).flush t = false := by decide +kernel
/-- At the points of case D the printed configuration (`Cfg.idle`) calls output 16 live: the case stores into it. -/
theorem liveAt0_16_D : ∀ t : Fin cfg0.N, ¬cond0_0 (grid0.coords t) → ¬cond0_1 (grid0.coords t) → cond0_2 (grid0.coords t) → cfg0.idle 16 (grid0.coords t) = false := by decide +kernel

/-! ## The kernel body on any staging memrefs: a subtype the run finds -/

/-- One staging buffer of output window 14, through which its contents are stated (`View.read_writes_of_cover`: the
    choice does not matter). -/
abbrev VO0_14 : View sig .tc .vmem S768x1152 .bf16 := (Memref.whole cc0_stg14_0 : Memref sig .tc .vmem S768x1152 .bf16).view
/-- One staging buffer of output window 15, through which its contents are stated (`View.read_writes_of_cover`: the
    choice does not matter). -/
abbrev VO0_15 : View sig .tc .vmem S768x768 .fp8e4m3 := (Memref.whole cc0_stg15_0 : Memref sig .tc .vmem S768x768 .fp8e4m3).view
/-- One staging buffer of output window 16, through which its contents are stated (`View.read_writes_of_cover`: the
    choice does not matter). -/
abbrev VO0_16 : View sig .tc .vmem S768x216 .i8 := (Memref.whole cc0_stg16_0 : Memref sig .tc .vmem S768x216 .i8).view
/-- Each window's current staging memref at point `t`, spelled as the pipeline passes it (`bodyAt0`), and its wholeness. -/
abbrev ms0_0 (t : Fin cfg0.N) : Memref sig .tc .vmem S1152x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1152x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x1152 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x36 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x1152 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x36 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1152x768 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1152 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x36 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1152 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x36 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S192x768 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S192x216 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1152x216 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S768x1152 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S768x768 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S768x216 .i8 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S2x768x1152 .bf16 := Memref.whole cc0_scratch0
abbrev scM0_1 : Memref sig .tc .vmem S2x768x1152 .bf16 := Memref.whole cc0_scratch1
abbrev scM0_2 : Memref sig .tc .vmem S2x1152x768 .bf16 := Memref.whole cc0_scratch2
abbrev scM0_3 : Memref sig .tc .vmem S6x1152x768 .f32 := Memref.whole cc0_scratch3
abbrev scM0_4 : Memref sig .tc .vmem S6x216x768 .i32 := Memref.whole cc0_scratch4
/-- The scratch `arg18` the kernel carries between points, as a view: what it holds is stated through it. -/
abbrev VS0_0 : View sig .tc .vmem S2x768x1152 .bf16 := scM0_0.view
/-- The scratch `arg19` the kernel carries between points, as a view: what it holds is stated through it. -/
abbrev VS0_1 : View sig .tc .vmem S2x768x1152 .bf16 := scM0_1.view
/-- The scratch `arg20` the kernel carries between points, as a view: what it holds is stated through it. -/
abbrev VS0_2 : View sig .tc .vmem S2x1152x768 .bf16 := scM0_2.view
/-- The scratch `arg21` the kernel carries between points, as a view: what it holds is stated through it. -/
abbrev VS0_3 : View sig .tc .vmem S6x1152x768 .f32 := scM0_3.view
/-- The scratch `arg22` the kernel carries between points, as a view: what it holds is stated through it. -/
abbrev VS0_4 : View sig .tc .vmem S6x216x768 .i32 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Run

end
-- ==== Proof.KernelIdeal.Buf.lean ====
/-
  Reading a buffer of two or three axes after a list of stores, index by index.
-/
module

public import Idealize.ShloMosaic.Lib.VecWindow
public import Idealize.ShloMosaic.Lib.WritesUnit
public import Idealize.ShloMosaic.Lib.Pointwise

@[expose] public section

noncomputable section

namespace Cert.KernelIdeal.Buf

open Idealize.ShloMosaic

variable {sig : RefSig} {κ : Kind} {sp : Space} {e : EltTy} {Val : EltTy → Type}

section Three

variable {A B C a b c : ℕ} (v : View sig κ sp (⟨3, ![A, B, C]⟩ : Shape) e) (f : v.ty.Contents Val)

/-- A load of a box reads the buffer at the box's corner plus the index. -/
theorem readAt3 {off : Fin 3 → ℕ} (inb : ∀ k : Fin 3, off k + (![a, b, c] : Fin 3 → ℕ) k ≤ (![A, B, C] : Fin 3 → ℕ) k) {o p q : ℕ} (h : off = ![o, p, q])
    (x' : Fin a) (y' : Fin b) (z' : Fin c) (x : Fin A) (y : Fin B) (z : Fin C) (hx : x.val = o + x'.val) (hy : y.val = p + y'.val) (hz : z.val = q + z'.val) :
    v.readAt Val (Rect.unit (s := ⟨3, ![A, B, C]⟩) off ![a, b, c] inb).toLoadRect f (ix3 x' y' z') = v.read Val f (ix3 x y z) := by
  subst h
  refine congrArg (v.read Val f) (funext fun k => Fin.ext ?_)
  fin_cases k
  · show o + 1 * x'.val = x.val; omega
  · show p + 1 * y'.val = y.val; omega
  · show q + 1 * z'.val = z.val; omega

/-- The newest store, inside its box. -/
theorem hit3 {off : Fin 3 → ℕ} (inb : ∀ k : Fin 3, off k + (![a, b, c] : Fin 3 → ℕ) k ≤ (![A, B, C] : Fin 3 → ℕ) k) {o p q : ℕ} (h : off = ![o, p, q])
    (w : (⟨3, ![a, b, c]⟩ : Shape).Idx → Val e) (L : List (View.Piece Val (⟨3, ![A, B, C]⟩ : Shape) e))
    (x : Fin A) (y : Fin B) (z : Fin C) (x' : Fin a) (y' : Fin b) (z' : Fin c) (hx : x.val = o + x'.val) (hy : y.val = p + y'.val) (hz : z.val = q + z'.val) :
    v.read Val (v.writes Val f (⟨Rect.unit (s := ⟨3, ![A, B, C]⟩) off ![a, b, c] inb, w⟩ :: L)) (ix3 x y z) = w (ix3 x' y' z') :=
  View.read_writes_cons_unit_of_mem v f inb w L (ix3 x y z) (ix3 x' y' z') h fun k => by
    fin_cases k
    · exact hx
    · exact hy
    · exact hz

/-- Outside the newest store's box the earlier stores are read. -/
theorem miss3 {off : Fin 3 → ℕ} (inb : ∀ k : Fin 3, off k + (![a, b, c] : Fin 3 → ℕ) k ≤ (![A, B, C] : Fin 3 → ℕ) k) {o p q : ℕ} (h : off = ![o, p, q])
    (w : (⟨3, ![a, b, c]⟩ : Shape).Idx → Val e) (L : List (View.Piece Val (⟨3, ![A, B, C]⟩ : Shape) e))
    (x : Fin A) (y : Fin B) (z : Fin C) (hm : (x.val < o ∨ o + a ≤ x.val) ∨ (y.val < p ∨ p + b ≤ y.val) ∨ (z.val < q ∨ q + c ≤ z.val)) :
    v.read Val (v.writes Val f (⟨Rect.unit (s := ⟨3, ![A, B, C]⟩) off ![a, b, c] inb, w⟩ :: L)) (ix3 x y z) = v.read Val (v.writes Val f L) (ix3 x y z) := by
  rcases hm with hm | hm | hm
  · exact View.read_writes_cons_unit_of_not_mem v f inb w L (ix3 x y z) h (0 : Fin 3) hm
  · exact View.read_writes_cons_unit_of_not_mem v f inb w L (ix3 x y z) h (1 : Fin 3) hm
  · exact View.read_writes_cons_unit_of_not_mem v f inb w L (ix3 x y z) h (2 : Fin 3) hm

end Three

section Two

variable {A B a b : ℕ} (v : View sig κ sp (⟨2, ![A, B]⟩ : Shape) e) (f : v.ty.Contents Val)

/-- A load of a box reads the buffer at the box's corner plus the index. -/
theorem readAt2 {off : Fin 2 → ℕ} (inb : ∀ k : Fin 2, off k + (![a, b] : Fin 2 → ℕ) k ≤ (![A, B] : Fin 2 → ℕ) k) {o p : ℕ} (h : off = ![o, p])
    (x' : Fin a) (y' : Fin b) (x : Fin A) (y : Fin B) (hx : x.val = o + x'.val) (hy : y.val = p + y'.val) :
    v.readAt Val (Rect.unit (s := ⟨2, ![A, B]⟩) off ![a, b] inb).toLoadRect f (ix2 x' y') = v.read Val f (ix2 x y) := by
  subst h
  refine congrArg (v.read Val f) (funext fun k => Fin.ext ?_)
  fin_cases k
  · show o + 1 * x'.val = x.val; omega
  · show p + 1 * y'.val = y.val; omega

/-- The newest store, inside its box. -/
theorem hit2 {off : Fin 2 → ℕ} (inb : ∀ k : Fin 2, off k + (![a, b] : Fin 2 → ℕ) k ≤ (![A, B] : Fin 2 → ℕ) k) {o p : ℕ} (h : off = ![o, p])
    (w : (⟨2, ![a, b]⟩ : Shape).Idx → Val e) (L : List (View.Piece Val (⟨2, ![A, B]⟩ : Shape) e))
    (x : Fin A) (y : Fin B) (x' : Fin a) (y' : Fin b) (hx : x.val = o + x'.val) (hy : y.val = p + y'.val) :
    v.read Val (v.writes Val f (⟨Rect.unit (s := ⟨2, ![A, B]⟩) off ![a, b] inb, w⟩ :: L)) (ix2 x y) = w (ix2 x' y') :=
  View.read_writes_cons_unit_of_mem v f inb w L (ix2 x y) (ix2 x' y') h fun k => by
    fin_cases k
    · exact hx
    · exact hy

/-- Outside the newest store's box the earlier stores are read. -/
theorem miss2 {off : Fin 2 → ℕ} (inb : ∀ k : Fin 2, off k + (![a, b] : Fin 2 → ℕ) k ≤ (![A, B] : Fin 2 → ℕ) k) {o p : ℕ} (h : off = ![o, p])
    (w : (⟨2, ![a, b]⟩ : Shape).Idx → Val e) (L : List (View.Piece Val (⟨2, ![A, B]⟩ : Shape) e))
    (x : Fin A) (y : Fin B) (hm : (x.val < o ∨ o + a ≤ x.val) ∨ (y.val < p ∨ p + b ≤ y.val)) :
    v.read Val (v.writes Val f (⟨Rect.unit (s := ⟨2, ![A, B]⟩) off ![a, b] inb, w⟩ :: L)) (ix2 x y) = v.read Val (v.writes Val f L) (ix2 x y) := by
  rcases hm with hm | hm
  · exact View.read_writes_cons_unit_of_not_mem v f inb w L (ix2 x y) h (0 : Fin 2) hm
  · exact View.read_writes_cons_unit_of_not_mem v f inb w L (ix2 x y) h (1 : Fin 2) hm

end Two

/-! ## The rows of a slot -/

section Slot

variable {α : Type} {R K : ℕ}

/-- Slot `s` of a two-slot buffer holds `W` on its first `n` rows. -/
def Slot (W : ℕ → ℕ → α) (s n : ℕ) (x : (⟨3, ![2, R, K]⟩ : Shape).Idx → α) : Prop :=
  ∀ (z : Fin 2) (r : Fin R) (k : Fin K), z.val = s → r.val < n → x (ix3 z r k) = W r.val k.val

variable {W : ℕ → ℕ → Val e} {s n H t : ℕ} (v : View sig κ sp (⟨3, ![2, R, K]⟩ : Shape) e) (f : v.ty.Contents Val)

/-- No row is asked of it. -/
theorem Slot.none (x : (⟨3, ![2, R, K]⟩ : Shape).Idx → Val e) : Slot W s 0 x := fun _ _ _ _ h => absurd h (Nat.not_lt_zero _)

/-- The next `H` rows stored. -/
theorem Slot.step {off : Fin 3 → ℕ} (inb : ∀ k : Fin 3, off k + (![1, H, K] : Fin 3 → ℕ) k ≤ (![2, R, K] : Fin 3 → ℕ) k) (h : off = ![s, H * t, 0])
    (w : (⟨3, ![1, H, K]⟩ : Shape).Idx → Val e) (hw : ∀ r k, w (ix3 0 r k) = W (H * t + r.val) k.val) (L : List (View.Piece Val (⟨3, ![2, R, K]⟩ : Shape) e))
    (hL : Slot W s (H * t) (v.read Val (v.writes Val f L))) :
    Slot W s (H * (t + 1)) (v.read Val (v.writes Val f (⟨Rect.unit (s := ⟨3, ![2, R, K]⟩) off ![1, H, K] inb, w⟩ :: L))) := by
  intro z r k hz hr
  by_cases hlt : r.val < H * t
  · rw [miss3 v f inb h w L z r k (Or.inr (Or.inl (Or.inl hlt)))]
    exact hL z r k hz hlt
  · have e1 : H * (t + 1) = H * t + H := Nat.mul_succ H t
    rw [hit3 v f inb h w L z r k 0 ⟨r.val - H * t, by omega⟩ k (by show z.val = s + 0; omega) (by show r.val = H * t + (r.val - H * t); omega) (by omega), hw]
    exact congrArg (fun r' => W r' k.val) (show H * t + (r.val - H * t) = r.val by omega)

/-- A store into the other slot leaves it. -/
theorem Slot.other {off : Fin 3 → ℕ} (inb : ∀ k : Fin 3, off k + (![1, H, K] : Fin 3 → ℕ) k ≤ (![2, R, K] : Fin 3 → ℕ) k) {s' q : ℕ} (h : off = ![s', q, 0]) (hs : s ≠ s')
    (w : (⟨3, ![1, H, K]⟩ : Shape).Idx → Val e) (L : List (View.Piece Val (⟨3, ![2, R, K]⟩ : Shape) e))
    (hL : Slot W s n (v.read Val (v.writes Val f L))) :
    Slot W s n (v.read Val (v.writes Val f (⟨Rect.unit (s := ⟨3, ![2, R, K]⟩) off ![1, H, K] inb, w⟩ :: L))) := by
  intro z r k hz hr
  rw [miss3 v f inb h w L z r k (Or.inl (by omega))]
  exact hL z r k hz hr

/-- The slot read whole. -/
theorem Slot.read (hL : Slot W s R (v.read Val f)) {off : Fin 3 → ℕ} (inb : ∀ k : Fin 3, off k + (![1, R, K] : Fin 3 → ℕ) k ≤ (![2, R, K] : Fin 3 → ℕ) k) (h : off = ![s, 0, 0])
    (hs : s < 2) (z : Fin 1) (r : Fin R) (k : Fin K) :
    v.readAt Val (Rect.unit (s := ⟨3, ![2, R, K]⟩) off ![1, R, K] inb).toLoadRect f (ix3 z r k) = W r.val k.val := by
  rw [readAt3 v f inb h z r k ⟨s, hs⟩ r k (by show s = s + z.val; omega) (by omega) (by omega)]
  exact hL _ r k rfl r.isLt

end Slot

end Cert.KernelIdeal.Buf
-- ==== Proof.KernelIdeal.StepVal.lean ====
/-
  What one grid step leaves in the accumulator, in the kept scale bytes and in the block of codes, in terms of the layer.
-/
module

public import proofs.«01_k».proof.Proof.KernelIdeal.ActVal
public import proofs.«01_k».proof.Proof.KernelIdeal.Runs
public import proofs.«01_k».proof.Proof.KernelIdeal.Buf

@[expose] public section

set_option maxRecDepth 16384

noncomputable section

namespace Cert.KernelIdeal.Pure

open Cert.KernelIdeal.Gen Cert.KernelIdeal.Run Cert.KernelIdeal.Buf Cert.Spec
open Idealize.ShloMosaic Idealize.ShloMosaic.TcCoe

/-- How many slices of features are in the accumulator's tile `T` of tokens before step `s`. -/
def done (s T : ℕ) : ℕ := if T < s % 6 then s / 6 + 1 else s / 6

/-- A step adds a slice to its own tile. -/
theorem done_self (s : ℕ) : done (s + 1) (s % 6) = s / 6 + 1 := by unfold done; split <;> omega

/-- It leaves the other tiles. -/
theorem done_other (s T : ℕ) (hT : T < 6) (h : T ≠ s % 6) : done (s + 1) T = done s T := by unfold done; split <;> split <;> omega

/-- Its own tile held the earlier slices. -/
theorem done_before (s : ℕ) : done s (s % 6) = s / 6 := by unfold done; split <;> omega

/-- The accumulator before step `s`: in each tile begun, the partial sums so far. -/
def Acc (a : In) (s : ℕ) (x : Vec Ideal S6x1152x768 .f32) : Prop :=
  ∀ (T : Fin 6) (d : Fin 1152) (n : Fin 768), 0 < done s T.val → x (ix3 T d n) = a.part (done s T.val) d.val (768 * T.val + n.val)

/-- The kept scale bytes before step `s`: in each tile, those of the slices so far. -/
def Gsc (a : In) (s : ℕ) (x : Vec Ideal S6x216x768 .i32) : Prop :=
  ∀ (T : Fin 6) (g : Fin 216) (n : Fin 768), g.val < 24 * done s T.val → x (ix3 T g n) = a.byte g.val (768 * T.val + n.val)

section

variable (a : In) (i : grid0.Coords) (s : ℕ) (hs : (i 0).val = s)
variable (g u : Vec Ideal S1x768x1152 .bf16) (x0 x1 x2 : Vec Ideal S1152x256 .bf16)
variable (h0 : IsSub a (s / 6) (768 * (s % 6)) g u x0) (h1 : IsSub a (s / 6) (768 * (s % 6) + 256) g u x1) (h2 : IsSub a (s / 6) (768 * (s % 6) + 512) g u x2)

include h0 h1 h2

/-- The block of codes the step stores. -/
theorem codePieces_read {κ : Kind} {sp : Space} (v : View sig κ sp S768x768 .fp8e4m3) (f : v.ty.Contents (Elt Ideal)) (n f' : Fin 768) :
    v.read (Elt Ideal) (v.writes (Elt Ideal) f (codePieces (F := Ideal) g u x0 x1 x2)) (ix2 n f') = a.code (768 * (s / 6) + f'.val) (768 * (s % 6) + n.val) := by
  unfold codePieces
  by_cases c2 : 512 ≤ n.val
  · refine (hit2 v f _ rfl _ _ n f' ⟨n.val - 512, by omega⟩ f' (by show n.val = 512 + (n.val - 512); omega) (by omega)).trans ?_
    rw [codesT_sub h2]
    exact congrArg (a.code _) (show 768 * (s % 6) + 512 + (n.val - 512) = _ by omega)
  refine (miss2 v f _ rfl _ _ n f' (Or.inl (Or.inl (by omega)))).trans ?_
  by_cases c1 : 256 ≤ n.val
  · refine (hit2 v f _ rfl _ _ n f' ⟨n.val - 256, by omega⟩ f' (by show n.val = 256 + (n.val - 256); omega) (by omega)).trans ?_
    rw [codesT_sub h1]
    exact congrArg (a.code _) (show 768 * (s % 6) + 256 + (n.val - 256) = _ by omega)
  refine (miss2 v f _ rfl _ _ n f' (Or.inl (Or.inl (by omega)))).trans ?_
  refine (hit2 v f _ rfl _ _ n f' ⟨n.val, by omega⟩ f' (by show n.val = 0 + n.val; omega) (by omega)).trans ?_
  rw [codesT_sub h0]

include hs

/-- The scale bytes the step stores, in its own tile and slice. -/
theorem bytePieces_own {κ : Kind} {sp : Space} (v : View sig κ sp S6x216x768 .i32) (f : v.ty.Contents (Elt Ideal)) (T : Fin 6) (q : Fin 216) (n : Fin 768)
    (hT : T.val = s % 6) (hq : 24 * (s / 6) ≤ q.val) (hq' : q.val < 24 * (s / 6) + 24) :
    v.read (Elt Ideal) (v.writes (Elt Ideal) f (bytePieces (F := Ideal) i g u x0 x1 x2)) (ix3 T q n) = a.byte q.val (768 * (s % 6) + n.val) := by
  have e5 := k0_off5_eq i
  have e8 := k0_off8_eq i
  have e10 := k0_off10_eq i
  rw [hs] at e5 e8 e10
  unfold bytePieces
  have eq : 24 * (s / 6) + (q.val - 24 * (s / 6)) = q.val := by omega
  by_cases c2 : 512 ≤ n.val
  · refine (hit3 v f _ e10 _ _ T q n 0 ⟨q.val - 24 * (s / 6), by omega⟩ ⟨n.val - 512, by omega⟩ (by show T.val = s % 6 + 0; omega) eq.symm (by show n.val = 512 + (n.val - 512); omega)).trans ?_
    rw [bytes_apply, byteOf_apply h2]
    simp only [eq]
    exact congrArg (a.byte _) (show 768 * (s % 6) + 512 + (n.val - 512) = _ by omega)
  refine (miss3 v f _ e10 _ _ T q n (Or.inr (Or.inr (Or.inl (by omega))))).trans ?_
  by_cases c1 : 256 ≤ n.val
  · refine (hit3 v f _ e8 _ _ T q n 0 ⟨q.val - 24 * (s / 6), by omega⟩ ⟨n.val - 256, by omega⟩ (by show T.val = s % 6 + 0; omega) eq.symm (by show n.val = 256 + (n.val - 256); omega)).trans ?_
    rw [bytes_apply, byteOf_apply h1]
    simp only [eq]
    exact congrArg (a.byte _) (show 768 * (s % 6) + 256 + (n.val - 256) = _ by omega)
  refine (miss3 v f _ e8 _ _ T q n (Or.inr (Or.inr (Or.inl (by omega))))).trans ?_
  refine (hit3 v f _ e5 _ _ T q n 0 ⟨q.val - 24 * (s / 6), by omega⟩ ⟨n.val, by omega⟩ (by show T.val = s % 6 + 0; omega) eq.symm (by show n.val = 0 + n.val; omega)).trans ?_
  rw [bytes_apply, byteOf_apply h0]
  simp only [eq]

/-- Elsewhere the kept scale bytes stay. -/
theorem bytePieces_other {κ : Kind} {sp : Space} (v : View sig κ sp S6x216x768 .i32) (f : v.ty.Contents (Elt Ideal)) (T : Fin 6) (q : Fin 216) (n : Fin 768)
    (h : T.val ≠ s % 6 ∨ q.val < 24 * (s / 6)) :
    v.read (Elt Ideal) (v.writes (Elt Ideal) f (bytePieces (F := Ideal) i g u x0 x1 x2)) (ix3 T q n) = v.read (Elt Ideal) f (ix3 T q n) := by
  have e5 := k0_off5_eq i
  have e8 := k0_off8_eq i
  have e10 := k0_off10_eq i
  rw [hs] at e5 e8 e10
  have hm : (T.val < s % 6 ∨ s % 6 + 1 ≤ T.val) ∨ (q.val < 24 * (s / 6) ∨ 24 * (s / 6) + 24 ≤ q.val) := by omega
  unfold bytePieces
  refine (miss3 v f _ e10 _ _ T q n (hm.imp id Or.inl)).trans ?_
  refine (miss3 v f _ e8 _ _ T q n (hm.imp id Or.inl)).trans ?_
  exact miss3 v f _ e5 _ _ T q n (hm.imp id Or.inl)

/-- The step extends the kept scale bytes. -/
theorem Gsc.step {κ : Kind} {sp : Space} (v : View sig κ sp S6x216x768 .i32) (f : v.ty.Contents (Elt Ideal)) (hf : Gsc a s (v.read (Elt Ideal) f)) :
    Gsc a (s + 1) (v.read (Elt Ideal) (v.writes (Elt Ideal) f (bytePieces (F := Ideal) i g u x0 x1 x2))) := by
  intro T q n hq
  by_cases hT : T.val = s % 6
  · rw [hT, done_self] at hq
    by_cases hlt : q.val < 24 * (s / 6)
    · rw [bytePieces_other a i s hs g u x0 x1 x2 h0 h1 h2 v f T q n (Or.inr hlt)]
      exact hf T q n (by rw [hT, done_before]; exact hlt)
    · rw [bytePieces_own a i s hs g u x0 x1 x2 h0 h1 h2 v f T q n hT (by omega) (by omega), hT]
  · rw [bytePieces_other a i s hs g u x0 x1 x2 h0 h1 h2 v f T q n (Or.inl hT)]
    exact hf T q n (by rw [← done_other s T.val T.isLt hT]; exact hq)

variable (w : Vec Ideal S1x1152x768 .bf16) (hw : ∀ d j, w (ix3 0 d j) = a.Wd d.val (768 * (s / 6) + j.val))
variable (a0 a1 a2 : Vec Ideal S1x1152x256 .f32)

include hw

/-- The sums the step stores, in its own tile. -/
theorem accPieces_own {κ : Kind} {sp : Space} (v : View sig κ sp S6x1152x768 .f32) (f : v.ty.Contents (Elt Ideal)) (L : List (View.Piece (Elt Ideal) S6x1152x768 .f32))
    (p0 : ∀ d n, a0 (ix3 0 d n) = a.part (s / 6) d.val (768 * (s % 6) + n.val))
    (p1 : ∀ d n, a1 (ix3 0 d n) = a.part (s / 6) d.val (768 * (s % 6) + 256 + n.val))
    (p2 : ∀ d n, a2 (ix3 0 d n) = a.part (s / 6) d.val (768 * (s % 6) + 512 + n.val))
    (T : Fin 6) (d : Fin 1152) (n : Fin 768) (hT : T.val = s % 6) :
    v.read (Elt Ideal) (v.writes (Elt Ideal) f (accPieces (F := Ideal) i g u x0 x1 x2 w a0 a1 a2 L)) (ix3 T d n)
      = a.part (s / 6 + 1) d.val (768 * (s % 6) + n.val) := by
  have e6 := k0_off6_eq i
  have e9 := k0_off9_eq i
  have e11 := k0_off11_eq i
  rw [hs] at e6 e9 e11
  rw [In.part_succ]
  unfold accPieces
  by_cases c2 : 512 ≤ n.val
  · refine (hit3 v f _ e11 _ _ T d n 0 d ⟨n.val - 512, by omega⟩ (by show T.val = s % 6 + 0; omega) (by omega) (by show n.val = 512 + (n.val - 512); omega)).trans ?_
    rw [accVal_sub h2 hw, p2]
    simp only [show 768 * (s % 6) + 512 + (n.val - 512) = 768 * (s % 6) + n.val by omega]
  refine (miss3 v f _ e11 _ _ T d n (Or.inr (Or.inr (Or.inl (by omega))))).trans ?_
  by_cases c1 : 256 ≤ n.val
  · refine (hit3 v f _ e9 _ _ T d n 0 d ⟨n.val - 256, by omega⟩ (by show T.val = s % 6 + 0; omega) (by omega) (by show n.val = 256 + (n.val - 256); omega)).trans ?_
    rw [accVal_sub h1 hw, p1]
    simp only [show 768 * (s % 6) + 256 + (n.val - 256) = 768 * (s % 6) + n.val by omega]
  refine (miss3 v f _ e9 _ _ T d n (Or.inr (Or.inr (Or.inl (by omega))))).trans ?_
  refine (hit3 v f _ e6 _ _ T d n 0 d ⟨n.val, by omega⟩ (by show T.val = s % 6 + 0; omega) (by omega) (by show n.val = 0 + n.val; omega)).trans ?_
  rw [accVal_sub h0 hw, p0]

omit h0 h1 h2 hw in
/-- Elsewhere the accumulator stays. -/
theorem accPieces_other {κ : Kind} {sp : Space} (v : View sig κ sp S6x1152x768 .f32) (f : v.ty.Contents (Elt Ideal)) (L : List (View.Piece (Elt Ideal) S6x1152x768 .f32))
    (T : Fin 6) (d : Fin 1152) (n : Fin 768) (hT : T.val ≠ s % 6) :
    v.read (Elt Ideal) (v.writes (Elt Ideal) f (accPieces (F := Ideal) i g u x0 x1 x2 w a0 a1 a2 L)) (ix3 T d n)
      = v.read (Elt Ideal) (v.writes (Elt Ideal) f L) (ix3 T d n) := by
  have e6 := k0_off6_eq i
  have e9 := k0_off9_eq i
  have e11 := k0_off11_eq i
  rw [hs] at e6 e9 e11
  have hm : T.val < s % 6 ∨ s % 6 + 1 ≤ T.val := by omega
  unfold accPieces
  refine (miss3 v f _ e11 _ _ T d n (Or.inl hm)).trans ?_
  refine (miss3 v f _ e9 _ _ T d n (Or.inl hm)).trans ?_
  exact miss3 v f _ e6 _ _ T d n (Or.inl hm)

/-- The step adds its slice to its own tile and leaves the others. -/
theorem Acc.step {κ : Kind} {sp : Space} (v : View sig κ sp S6x1152x768 .f32) (f : v.ty.Contents (Elt Ideal)) (L : List (View.Piece (Elt Ideal) S6x1152x768 .f32))
    (p0 : ∀ d n, a0 (ix3 0 d n) = a.part (s / 6) d.val (768 * (s % 6) + n.val))
    (p1 : ∀ d n, a1 (ix3 0 d n) = a.part (s / 6) d.val (768 * (s % 6) + 256 + n.val))
    (p2 : ∀ d n, a2 (ix3 0 d n) = a.part (s / 6) d.val (768 * (s % 6) + 512 + n.val))
    (hf : ∀ (T : Fin 6) (d : Fin 1152) (n : Fin 768), T.val ≠ s % 6 → 0 < done s T.val →
      v.read (Elt Ideal) (v.writes (Elt Ideal) f L) (ix3 T d n) = a.part (done s T.val) d.val (768 * T.val + n.val)) :
    Acc a (s + 1) (v.read (Elt Ideal) (v.writes (Elt Ideal) f (accPieces (F := Ideal) i g u x0 x1 x2 w a0 a1 a2 L))) := by
  intro T d n hd
  by_cases hT : T.val = s % 6
  · rw [accPieces_own a i s hs g u x0 x1 x2 h0 h1 h2 w hw a0 a1 a2 v f L p0 p1 p2 T d n hT, hT, done_self]
  · rw [accPieces_other i s hs g u x0 x1 x2 w a0 a1 a2 v f L T d n hT, done_other s T.val T.isLt hT]
    exact hf T d n hT (by rw [← done_other s T.val T.isLt hT]; exact hd)

end

end Cert.KernelIdeal.Pure
-- ==== Proof.KernelIdeal.Inv.lean ====
/-
  What the kernel's buffers hold between grid steps, and how the stores of a step extend it.
-/
module

public import proofs.«01_k».proof.Proof.KernelIdeal.StepVal

@[expose] public section

set_option maxRecDepth 16384

noncomputable section

namespace Cert.KernelIdeal.Pure

open Cert.KernelIdeal.Gen Cert.KernelIdeal.Run Cert.KernelIdeal.Buf Cert.Spec
open Idealize.ShloMosaic Idealize.ShloMosaic.TcCoe

section Two

variable {R K : ℕ}

/-- A two-slot buffer before step `s`: the current slice of the weights whole in one slot, the first rows of the next slice in the other, `H` per step. -/
def Two (W : ℕ → ℕ → ℕ → EReal) (H s : ℕ) (x : (⟨3, ![2, R, K]⟩ : Shape).Idx → EReal) : Prop :=
  Slot (W (s / 6)) (s / 6 % 2) R x ∧ Slot (W (min (s / 6 + 1) 8)) (1 - s / 6 % 2) (H * (s % 6)) x

/-- The same after the step's own rows are in. -/
def Mid (W : ℕ → ℕ → ℕ → EReal) (H s : ℕ) (x : (⟨3, ![2, R, K]⟩ : Shape).Idx → EReal) : Prop :=
  Slot (W (s / 6)) (s / 6 % 2) R x ∧ Slot (W (min (s / 6 + 1) 8)) (1 - s / 6 % 2) (H * (s % 6 + 1)) x

/-- After a step the buffer is as the next step finds it: after the sixth the slots change roles. -/
theorem Mid.next {W : ℕ → ℕ → ℕ → EReal} {H s : ℕ} {x : (⟨3, ![2, R, K]⟩ : Shape).Idx → EReal} (h : Mid W H s x) (hR : H * 6 = R) (hs : s + 1 < 54) : Two W H (s + 1) x := by
  obtain ⟨h1, h2⟩ := h
  by_cases h6 : s % 6 = 5
  · have e1 : (s + 1) / 6 = s / 6 + 1 := by omega
    have e2 : (s + 1) % 6 = 0 := by omega
    have e3 : (s / 6 + 1) % 2 = 1 - s / 6 % 2 := by omega
    have e4 : min (s / 6 + 1) 8 = s / 6 + 1 := by omega
    rw [h6, hR, e4] at h2
    unfold Two
    rw [e1, e2, e3, Nat.mul_zero]
    exact ⟨h2, fun _ _ _ _ h => absurd h (Nat.not_lt_zero _)⟩
  · have e1 : (s + 1) / 6 = s / 6 := by omega
    have e2 : (s + 1) % 6 = s % 6 + 1 := by omega
    unfold Two
    rw [e1, e2]
    exact ⟨h1, h2⟩

/-- The step's store puts its rows in. -/
theorem Two.step {sig : RefSig} {κ : Kind} {sp : Space} (v : View sig κ sp (⟨3, ![2, R, K]⟩ : Shape) .bf16) (f : v.ty.Contents (Elt Ideal)) {W : ℕ → ℕ → ℕ → EReal} {H s : ℕ}
    {off : Fin 3 → ℕ} (inb : ∀ k : Fin 3, off k + (![1, H, K] : Fin 3 → ℕ) k ≤ (![2, R, K] : Fin 3 → ℕ) k) (h : off = ![1 - s / 6 % 2, H * (s % 6), 0])
    (w : (⟨3, ![1, H, K]⟩ : Shape).Idx → EReal) (hw : ∀ r k, w (ix3 0 r k) = W (min (s / 6 + 1) 8) (H * (s % 6) + r.val) k.val)
    (L : List (View.Piece (Elt Ideal) (⟨3, ![2, R, K]⟩ : Shape) .bf16)) (hL : Two W H s (v.read (Elt Ideal) (v.writes (Elt Ideal) f L))) :
    Mid W H s (v.read (Elt Ideal) (v.writes (Elt Ideal) f (⟨Rect.unit (s := ⟨3, ![2, R, K]⟩) off ![1, H, K] inb, w⟩ :: L))) :=
  ⟨Slot.other (Val := Elt Ideal) (e := .bf16) v f inb h (by omega) w L hL.1, Slot.step (Val := Elt Ideal) (e := .bf16) v f inb h w hw L hL.2⟩

end Two

/-- The slices of the gate weights. -/
def WG (a : In) (c r k : ℕ) : EReal := a.Wg (768 * c + r) k
/-- The slices of the up weights. -/
def WU (a : In) (c r k : ℕ) : EReal := a.Wu (768 * c + r) k
/-- The slices of the down weights. -/
def WD (a : In) (c r k : ℕ) : EReal := a.Wd r (768 * c + k)

/-- What the buffers hold before step `s`. -/
def Inv (a : In) (s : ℕ) (x18 x19 : Vec Ideal S2x768x1152 .bf16) (x20 : Vec Ideal S2x1152x768 .bf16) (x21 : Vec Ideal S6x1152x768 .f32) (x22 : Vec Ideal S6x216x768 .i32) : Prop :=
  (0 < s → s < 54 → Two (WG a) 128 s x18 ∧ Two (WU a) 128 s x19 ∧ Two (WD a) 192 s x20) ∧ Acc a s x21 ∧ Gsc a s x22

/-- Before the first step nothing is asked of them. -/
theorem Inv.zero (a : In) (x18 x19 : Vec Ideal S2x768x1152 .bf16) (x20 : Vec Ideal S2x1152x768 .bf16) (x21 : Vec Ideal S6x1152x768 .f32) (x22 : Vec Ideal S6x216x768 .i32) :
    Inv a 0 x18 x19 x20 x21 x22 := by
  have hd : ∀ T, done 0 T = 0 := fun T => by unfold done; split <;> omega
  refine ⟨fun h => absurd h (Nat.lt_irrefl 0), fun T d n h => ?_, fun T g n h => ?_⟩
  · rw [hd] at h; exact absurd h (Nat.lt_irrefl 0)
  · rw [hd] at h; exact absurd h (Nat.not_lt_zero _)

/-- After a step's stores the buffers are as the next step finds them. -/
theorem Inv.of_mid {a : In} {s : ℕ} {x18 x19 : Vec Ideal S2x768x1152 .bf16} {x20 : Vec Ideal S2x1152x768 .bf16} {x21 : Vec Ideal S6x1152x768 .f32} {x22 : Vec Ideal S6x216x768 .i32}
    (h0 : Mid (WG a) 128 s x18) (h1 : Mid (WU a) 128 s x19) (h2 : Mid (WD a) 192 s x20) (h3 : Acc a (s + 1) x21) (h4 : Gsc a (s + 1) x22) : Inv a (s + 1) x18 x19 x20 x21 x22 :=
  ⟨fun _ hs => ⟨h0.next rfl hs, h1.next rfl hs, h2.next rfl hs⟩, h3, h4⟩

/-- The blocks of the arguments every step reads. -/
structure Blk (a : In) (s : ℕ) (x0 : Vec Ideal S1152x768 .bf16) (x7 : Vec Ideal S128x1152 .fp8e4m3) (x8 : Vec Ideal S128x36 .i8) (x9 : Vec Ideal S128x1152 .fp8e4m3) (x10 : Vec Ideal S128x36 .i8)
    (x11 : Vec Ideal S192x768 .fp8e4m3) (x12 : Vec Ideal S192x216 .i8) : Prop where
  h0 : ∀ k n, x0 (ix2 k n) = a.n2 k.val (768 * (s % 6) + n.val)
  h7 : ∀ r k, x7 (ix2 r k) = a.wgc (768 * min (s / 6 + 1) 8 + (128 * (s % 6) + r.val)) k.val
  h8 : ∀ r k, x8 (ix2 r k) = a.wgs (768 * min (s / 6 + 1) 8 + (128 * (s % 6) + r.val)) k.val
  h9 : ∀ r k, x9 (ix2 r k) = a.wuc (768 * min (s / 6 + 1) 8 + (128 * (s % 6) + r.val)) k.val
  h10 : ∀ r k, x10 (ix2 r k) = a.wus (768 * min (s / 6 + 1) 8 + (128 * (s % 6) + r.val)) k.val
  h11 : ∀ r k, x11 (ix2 r k) = a.wdc (192 * (s % 6) + r.val) (768 * min (s / 6 + 1) 8 + k.val)
  h12 : ∀ r k, x12 (ix2 r k) = a.wds (192 * (s % 6) + r.val) k.val

/-- A whole load of a whole buffer is what the buffer holds. -/
theorem load_full {sp : Space} {s : Shape} {e : EltTy} (m : Memref sig .tc sp s e) (hm : m.IsWhole) (x : s.Idx → Elt Ideal e) {off : Fin s.rank → ℕ} (inb : ∀ k, off k + s.size k ≤ s.size k) :
    m.view.readAt (Elt Ideal) (Rect.unit off s.size inb).toLoadRect (hm.unread x) = x :=
  (View.readAt_full m.view _ inb).trans (hm.read_unread x)

section Step

variable {a : In} {i : grid0.Coords} {s : ℕ} (hs : (i 0).val = s)

include hs

/-- The step's rows of the gate (or up) weights. -/
theorem gu_step {sp : Space} (v : View sig .tc sp S2x768x1152 .bf16) (f : v.ty.Contents (Elt Ideal)) (W : ℕ → ℕ → ℕ → EReal) (cd : ℕ → ℕ → EReal) (sb : ℕ → ℕ → BitVec 8)
    (hW : ∀ c r k, W c r k = cd (768 * c + r) k * sc (sb (768 * c + r) (k / 32))) (x : Vec Ideal S128x1152 .fp8e4m3) (y : Vec Ideal S128x36 .i8)
    (hx : ∀ r k, x (ix2 r k) = cd (768 * min (s / 6 + 1) 8 + (128 * (s % 6) + r.val)) k.val) (hy : ∀ r k, y (ix2 r k) = sb (768 * min (s / 6 + 1) 8 + (128 * (s % 6) + r.val)) k.val)
    (L : List (View.Piece (Elt Ideal) S2x768x1152 .bf16)) (hL : Two W 128 s (v.read (Elt Ideal) (v.writes (Elt Ideal) f L))) :
    Mid W 128 s (v.read (Elt Ideal) (v.writes (Elt Ideal) f (guPieces (F := Ideal) i x y L))) := by
  have e := k0_off2_eq i
  rw [hs] at e
  refine Two.step v f (k0_off2_inb i) e _ (fun r k => ?_) L hL
  rw [decGU_apply, hx, hy, hW]
  rfl

/-- The step's rows of the down weights. -/
theorem d_step {sp : Space} (v : View sig .tc sp S2x1152x768 .bf16) (f : v.ty.Contents (Elt Ideal)) (x : Vec Ideal S192x768 .fp8e4m3) (y : Vec Ideal S192x216 .i8)
    (hx : ∀ r k, x (ix2 r k) = a.wdc (192 * (s % 6) + r.val) (768 * min (s / 6 + 1) 8 + k.val)) (hy : ∀ r k, y (ix2 r k) = a.wds (192 * (s % 6) + r.val) k.val)
    (L : List (View.Piece (Elt Ideal) S2x1152x768 .bf16)) (hL : Two (WD a) 192 s (v.read (Elt Ideal) (v.writes (Elt Ideal) f L))) :
    Mid (WD a) 192 s (v.read (Elt Ideal) (v.writes (Elt Ideal) f (dPieces (F := Ideal) i x y L))) := by
  have e := k0_off3_eq i
  rw [hs] at e
  refine Two.step v f (k0_off3_inb i) e _ (fun r k => ?_) L hL
  have e8 : min (s / 6 + 1) 8 < 9 := by omega
  have ew : word i = BitVec.ofNat 32 (24 * (⟨min (s / 6 + 1) 8, e8⟩ : Fin 9).val) := by rw [word_eq, hs]
  have ed : 24 * min (s / 6 + 1) 8 + k.val / 32 = (768 * min (s / 6 + 1) 8 + k.val) / 32 := by omega
  rw [ew, decD192_apply, hx, hy]
  simp only [ed]
  rfl

/-- The gate (or up) weights the step multiplies with are the current slice. -/
theorem gu_read {sp : Space} (v : View sig .tc sp S2x768x1152 .bf16) (f : v.ty.Contents (Elt Ideal)) (W : ℕ → ℕ → ℕ → EReal) (h : Mid W 128 s (v.read (Elt Ideal) f)) (r : Fin 768) (k : Fin 1152) :
    v.readAt (Elt Ideal) (Rect.unit (s := S2x768x1152) (k0_off4 i) S1x768x1152.size (k0_off4_inb i)).toLoadRect f (ix3 0 r k) = W (s / 6) r.val k.val := by
  have e := k0_off4_eq i
  rw [hs] at e
  exact Slot.read (Val := Elt Ideal) (e := .bf16) v f h.1 (k0_off4_inb i) e (by omega) 0 r k

/-- The down weights the step multiplies with are the current slice. -/
theorem d_read {sp : Space} (v : View sig .tc sp S2x1152x768 .bf16) (f : v.ty.Contents (Elt Ideal)) (W : ℕ → ℕ → ℕ → EReal) (h : Mid W 192 s (v.read (Elt Ideal) f)) (r : Fin 1152) (k : Fin 768) :
    v.readAt (Elt Ideal) (Rect.unit (s := S2x1152x768) (k0_off7 i) S1x1152x768.size (k0_off7_inb i)).toLoadRect f (ix3 0 r k) = W (s / 6) r.val k.val := by
  have e := k0_off7_eq i
  rw [hs] at e
  exact Slot.read (Val := Elt Ideal) (e := .bf16) v f h.1 (k0_off7_inb i) e (by omega) 0 r k

omit hs in
/-- The tokens of a sub-block, loaded from the step's block. -/
theorem isSub {c N o : ℕ} {g u : Vec Ideal S1x768x1152 .bf16} (hg : ∀ r k, g (ix3 0 r k) = WG a c r.val k.val) (hu : ∀ r k, u (ix3 0 r k) = WU a c r.val k.val)
    {sp : Space} (m : Memref sig .tc sp S1152x768 .bf16) (hm : m.IsWhole) (x0 : Vec Ideal S1152x768 .bf16) (h0 : ∀ k n, x0 (ix2 k n) = a.n2 k.val (N + n.val))
    (inb : ∀ k : Fin 2, (![0, o] : Fin 2 → ℕ) k + S1152x256.size k ≤ S1152x768.size k) :
    IsSub a c (N + o) g u (m.view.readAt (Elt Ideal) (Rect.unit (s := S1152x768) ![0, o] S1152x256.size inb).toLoadRect (hm.unread x0)) := by
  have ho : o + 256 ≤ 768 := inb 1
  refine ⟨hg, hu, fun k n => ?_⟩
  refine (readAt2 (Val := Elt Ideal) (e := .bf16) m.view _ inb rfl k n k ⟨o + n.val, by omega⟩ (by omega) rfl).trans ?_
  rw [hm.read_unread, h0]
  exact congrArg (a.n2 _) (by show N + (o + n.val) = _; omega)

/-- What a sub-block finds in the accumulator's own tile. -/
theorem acc_load {sp : Space} (v : View sig .tc sp S6x1152x768 .f32) (f : v.ty.Contents (Elt Ideal)) {off : Fin 3 → ℕ} {o : ℕ} (inb : ∀ k : Fin 3, off k + S1x1152x256.size k ≤ S6x1152x768.size k)
    (h : off = ![(i 0).val % 6, 0, o]) (ho : o + 256 ≤ 768) (C : ℕ)
    (hf : ∀ (T : Fin 6) (d : Fin 1152) (n : Fin 768), T.val = s % 6 → o ≤ n.val → v.read (Elt Ideal) f (ix3 T d n) = a.part C d.val (768 * (s % 6) + n.val)) (d : Fin 1152) (n : Fin 256) :
    v.readAt (Elt Ideal) (Rect.unit (s := S6x1152x768) off S1x1152x256.size inb).toLoadRect f (ix3 0 d n) = a.part C d.val (768 * (s % 6) + o + n.val) := by
  rw [hs] at h
  refine (readAt3 (Val := Elt Ideal) (e := .f32) v f inb h 0 d n ⟨s % 6, by omega⟩ d ⟨o + n.val, by omega⟩ rfl (by omega) rfl).trans ?_
  rw [hf _ d _ rfl (Nat.le_add_right _ _)]
  exact congrArg (a.part C _) (by show 768 * (s % 6) + (o + n.val) = _; omega)

end Step

end Cert.KernelIdeal.Pure
-- ==== Proof.KernelIdeal.Body.lean ====
/-
  A grid step's stores, whatever the case of the point: the buffers are as the next step finds them, the block of codes is the
  layer's, and after the last slice the blocks of the outputs are the layer's.
-/
module

public import proofs.«01_k».proof.Proof.KernelIdeal.Inv

@[expose] public section

set_option maxRecDepth 16384

noncomputable section

namespace Cert.KernelIdeal.Pure

open Cert.KernelIdeal.Gen Cert.KernelIdeal.Run Cert.KernelIdeal.Buf Cert.Spec
open Idealize.ShloMosaic Idealize.ShloMosaic.TcCoe

/-- What a step's stores leave: the buffers for the next step, the block of codes, and the sums of its own tile whatever was under them. -/
structure After (a : In) (s : ℕ) (x18 x19 : Vec Ideal S2x768x1152 .bf16) (x20 : Vec Ideal S2x1152x768 .bf16) (x21 : Vec Ideal S6x1152x768 .f32) (x22 : Vec Ideal S6x216x768 .i32)
    (L15 : List (View.Piece (Elt Ideal) S768x768 .fp8e4m3)) (L21 : List (View.Piece (Elt Ideal) S6x1152x768 .f32)) : Prop where
  inv : Inv a (s + 1) x18 x19 x20 x21 x22
  codes : ∀ (sp : Space) (v : View sig .tc sp S768x768 .fp8e4m3) (f : v.ty.Contents (Elt Ideal)) (n f' : Fin 768),
    v.read (Elt Ideal) (v.writes (Elt Ideal) f L15) (ix2 n f') = a.code (768 * (s / 6) + f'.val) (768 * (s % 6) + n.val)
  own : ∀ (sp : Space) (v : View sig .tc sp S6x1152x768 .f32) (f : v.ty.Contents (Elt Ideal)) (T : Fin 6) (d : Fin 1152) (n : Fin 768), T.val = s % 6 →
    v.read (Elt Ideal) (v.writes (Elt Ideal) f L21) (ix3 T d n) = a.part (s / 6 + 1) d.val (768 * (s % 6) + n.val)

section

variable {a : In} {i : grid0.Coords} {s : ℕ} (hs : (i 0).val = s)
variable {x0 : Vec Ideal S1152x768 .bf16} {x7 : Vec Ideal S128x1152 .fp8e4m3} {x8 : Vec Ideal S128x36 .i8} {x9 : Vec Ideal S128x1152 .fp8e4m3} {x10 : Vec Ideal S128x36 .i8}
  {x11 : Vec Ideal S192x768 .fp8e4m3} {x12 : Vec Ideal S192x216 .i8} (B : Blk a s x0 x7 x8 x9 x10 x11 x12)
variable {y7 : Vec Ideal S128x1152 .fp8e4m3} {y8 : Vec Ideal S128x36 .i8} {y9 : Vec Ideal S128x1152 .fp8e4m3} {y10 : Vec Ideal S128x36 .i8}
  {y11 : Vec Ideal S192x768 .fp8e4m3} {y12 : Vec Ideal S192x216 .i8} (e7 : y7 = x7) (e8 : y8 = x8) (e9 : y9 = x9) (e10 : y10 = x10) (e11 : y11 = x11) (e12 : y12 = x12)
variable {sp1 sp18 sp19 sp20 sp21 sp22 : Space} (arg1 : Memref sig .tc sp1 S1152x768 .bf16) (harg1 : arg1.IsWhole)
variable (v18 : View sig .tc sp18 S2x768x1152 .bf16) (f18 : v18.ty.Contents (Elt Ideal)) (L0 : List (View.Piece (Elt Ideal) S2x768x1152 .bf16))
variable (v19 : View sig .tc sp19 S2x768x1152 .bf16) (f19 : v19.ty.Contents (Elt Ideal)) (L1 : List (View.Piece (Elt Ideal) S2x768x1152 .bf16))
variable (v20 : View sig .tc sp20 S2x1152x768 .bf16) (f20 : v20.ty.Contents (Elt Ideal)) (L2 : List (View.Piece (Elt Ideal) S2x1152x768 .bf16))
variable (v21 : View sig .tc sp21 S6x1152x768 .f32) (f21 : v21.ty.Contents (Elt Ideal)) (L3 : List (View.Piece (Elt Ideal) S6x1152x768 .f32))
variable (v22 : View sig .tc sp22 S6x216x768 .i32) (f22 : v22.ty.Contents (Elt Ideal))
variable (h18 : Two (WG a) 128 s (v18.read (Elt Ideal) (v18.writes (Elt Ideal) f18 L0)))
variable (h19 : Two (WU a) 128 s (v19.read (Elt Ideal) (v19.writes (Elt Ideal) f19 L1)))
variable (h20 : Two (WD a) 192 s (v20.read (Elt Ideal) (v20.writes (Elt Ideal) f20 L2)))
variable (h22 : Gsc a s (v22.read (Elt Ideal) f22))
variable {a0 a1 a2 : Vec Ideal S1x1152x256 .f32}
variable (p0 : ∀ d n, a0 (ix3 0 d n) = a.part (s / 6) d.val (768 * (s % 6) + n.val))
variable (p1 : ∀ d n, a1 (ix3 0 d n) = a.part (s / 6) d.val (768 * (s % 6) + 256 + n.val))
variable (p2 : ∀ d n, a2 (ix3 0 d n) = a.part (s / 6) d.val (768 * (s % 6) + 512 + n.val))
variable (hf : ∀ (T : Fin 6) (d : Fin 1152) (n : Fin 768), T.val ≠ s % 6 → 0 < done s T.val →
      v21.read (Elt Ideal) (v21.writes (Elt Ideal) f21 L3) (ix3 T d n) = a.part (done s T.val) d.val (768 * T.val + n.val))

include hs B e7 e8 e9 e10 e11 e12 h18 h19 h20 h22 p0 p1 p2 hf

set_option maxHeartbeats 1000000 in
/-- A step, from buffers as it should find them. -/
theorem after (g u : Vec Ideal S1x768x1152 .bf16) (w : Vec Ideal S1x1152x768 .bf16) (c0 c1 c2 : Vec Ideal S1152x256 .bf16)
    (hg : g = v18.readAt (Elt Ideal) (Rect.unit (s := S2x768x1152) (k0_off4 i) S1x768x1152.size (k0_off4_inb i)).toLoadRect (v18.writes (Elt Ideal) f18 (guPieces (F := Ideal) i y7 y8 L0)))
    (hu : u = v19.readAt (Elt Ideal) (Rect.unit (s := S2x768x1152) (k0_off4 i) S1x768x1152.size (k0_off4_inb i)).toLoadRect (v19.writes (Elt Ideal) f19 (guPieces (F := Ideal) i y9 y10 L1)))
    (hw : w = v20.readAt (Elt Ideal) (Rect.unit (s := S2x1152x768) (k0_off7 i) S1x1152x768.size (k0_off7_inb i)).toLoadRect (v20.writes (Elt Ideal) f20 (dPieces (F := Ideal) i y11 y12 L2)))
    (hc0 : c0 = arg1.view.readAt (Elt Ideal) (Rect.unit (s := S1152x768) ![0, 0] S1152x256.size inb_S1152x768_S1152x256_0_0).toLoadRect (harg1.unread x0))
    (hc1 : c1 = arg1.view.readAt (Elt Ideal) (Rect.unit (s := S1152x768) ![0, 256] S1152x256.size inb_S1152x768_S1152x256_0_256).toLoadRect (harg1.unread x0))
    (hc2 : c2 = arg1.view.readAt (Elt Ideal) (Rect.unit (s := S1152x768) ![0, 512] S1152x256.size inb_S1152x768_S1152x256_0_512).toLoadRect (harg1.unread x0)) :
    After a s (v18.read (Elt Ideal) (v18.writes (Elt Ideal) f18 (guPieces (F := Ideal) i y7 y8 L0)))
      (v19.read (Elt Ideal) (v19.writes (Elt Ideal) f19 (guPieces (F := Ideal) i y9 y10 L1)))
      (v20.read (Elt Ideal) (v20.writes (Elt Ideal) f20 (dPieces (F := Ideal) i y11 y12 L2)))
      (v21.read (Elt Ideal) (v21.writes (Elt Ideal) f21 (accPieces (F := Ideal) i g u c0 c1 c2 w a0 a1 a2 L3)))
      (v22.read (Elt Ideal) (v22.writes (Elt Ideal) f22 (bytePieces (F := Ideal) i g u c0 c1 c2)))
      (codePieces (F := Ideal) g u c0 c1 c2) (accPieces (F := Ideal) i g u c0 c1 c2 w a0 a1 a2 L3) := by
  subst e7 e8 e9 e10 e11 e12
  have m18 := gu_step hs v18 f18 (WG a) a.wgc a.wgs (fun _ _ _ => rfl) _ _ B.h7 B.h8 L0 h18
  have m19 := gu_step hs v19 f19 (WU a) a.wuc a.wus (fun _ _ _ => rfl) _ _ B.h9 B.h10 L1 h19
  have m20 := d_step hs v20 f20 _ _ B.h11 B.h12 L2 h20
  have rg : ∀ r k, g (ix3 0 r k) = WG a (s / 6) r.val k.val := fun r k => by rw [hg]; exact gu_read hs v18 _ _ m18 r k
  have ru : ∀ r k, u (ix3 0 r k) = WU a (s / 6) r.val k.val := fun r k => by rw [hu]; exact gu_read hs v19 _ _ m19 r k
  have rw' : ∀ r k, w (ix3 0 r k) = a.Wd r.val (768 * (s / 6) + k.val) := fun r k => by rw [hw]; exact d_read hs v20 _ _ m20 r k
  have s0 : IsSub a (s / 6) (768 * (s % 6)) g u c0 := by rw [hc0]; exact isSub rg ru arg1 harg1 x0 B.h0 _
  have s1 : IsSub a (s / 6) (768 * (s % 6) + 256) g u c1 := by rw [hc1]; exact isSub rg ru arg1 harg1 x0 B.h0 _
  have s2 : IsSub a (s / 6) (768 * (s % 6) + 512) g u c2 := by rw [hc2]; exact isSub rg ru arg1 harg1 x0 B.h0 _
  refine ⟨Inv.of_mid m18 m19 m20 ?_ ?_, fun sp v f n f' => ?_, fun sp v f T d n hT => ?_⟩
  · exact Acc.step a i s hs g u c0 c1 c2 s0 s1 s2 w rw' a0 a1 a2 v21 f21 L3 p0 p1 p2 hf
  · exact Gsc.step a i s hs g u c0 c1 c2 s0 s1 s2 v22 f22 h22
  · exact codePieces_read a s g u c0 c1 c2 s0 s1 s2 v f n f'
  · exact accPieces_own a i s hs g u c0 c1 c2 s0 s1 s2 w rw' a0 a1 a2 v f L3 p0 p1 p2 T d n hT

end

section Out

variable {a : In} {i : grid0.Coords} {s : ℕ} (hs : (i 0).val = s) (h8 : s / 6 = 8)

include hs h8

/-- After the last slice the block of the first output is the layer's: the residual plus the down product over all features. -/
theorem out_y {x18 x19 : Vec Ideal S2x768x1152 .bf16} {x20 : Vec Ideal S2x1152x768 .bf16} {x21 : Vec Ideal S6x1152x768 .f32} {x22 : Vec Ideal S6x216x768 .i32}
    {L15 : List (View.Piece (Elt Ideal) S768x768 .fp8e4m3)} {L21 : List (View.Piece (Elt Ideal) S6x1152x768 .f32)} (h : After a s x18 x19 x20 x21 x22 L15 L21)
    {sp : Space} (v : View sig .tc sp S6x1152x768 .f32) (hc : cond0_2 i) (n : Fin 768) (d : Fin 1152) :
    k0_pay2 (F := Ideal) (v.readCov L21 (Rect.unit (s := S6x1152x768) (k0_off12 i) S1x1152x768.size (k0_off12_inb i hc)).toLoadRect) (ix2 n d) = a.part 9 d.val (768 * (s % 6) + n.val) := by
  have e := k0_off12_eq i
  rw [hs] at e
  rw [pay2_apply]
  refine (readAt3 (Val := Elt Ideal) (e := .f32) v _ (k0_off12_inb i hc) e 0 d n ⟨s % 6, by omega⟩ d n rfl (by omega) (by omega)).trans ?_
  rw [h.own _ v _ _ d n rfl, h8]

/-- After the last slice the block of scale bytes is the layer's. -/
theorem out_gs {sp : Space} (v : View sig .tc sp S6x216x768 .i32) (f : v.ty.Contents (Elt Ideal)) (h : Gsc a (s + 1) (v.read (Elt Ideal) f)) (hc : cond0_2 i) (n : Fin 768) (g : Fin 216) :
    k0_pay3 (F := Ideal) (v.readAt (Elt Ideal) (Rect.unit (s := S6x216x768) (k0_off13 i) S1x216x768.size (k0_off13_inb i hc)).toLoadRect f) (ix2 n g)
      = (a.byte g.val (768 * (s % 6) + n.val)).setWidth 8 := by
  have e := k0_off13_eq i
  rw [hs] at e
  rw [pay3_apply]
  refine congrArg (BitVec.setWidth 8) ?_
  refine (readAt3 (Val := Elt Ideal) (e := .i32) v _ (k0_off13_inb i hc) e 0 g n ⟨s % 6, by omega⟩ g n rfl (by omega) (by omega)).trans ?_
  exact h _ g n (by rw [done_self, h8]; exact g.isLt)

end Out

end Cert.KernelIdeal.Pure
-- ==== Proof.KernelIdeal.RunC.lean ====
module

public import proofs.«01_k».proof.Proof.KernelIdeal.Runs

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 not taken, `scf.if` 2 not taken: points 6, 7, … 47: 42 of 54), WITH the
    proof that on whole staging memrefs — the inputs' at their contents, the outputs it leaves idle (14, 16: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : ¬cond0_0 i) (hc1 : ¬cond0_1 i) (hc2 : ¬cond0_2 i)
    (x0 : Vec F S1152x768 .bf16) (x1 : Vec F S1152x768 .f32) (x2 : Vec F S768x1152 .fp8e4m3) (x3 : Vec F S768x36 .i8) (x4 : Vec F S768x1152 .fp8e4m3) (x5 : Vec F S768x36 .i8) (x6 : Vec F S1152x768 .fp8e4m3) (x7 : Vec F S128x1152 .fp8e4m3) (x8 : Vec F S128x36 .i8) (x9 : Vec F S128x1152 .fp8e4m3) (x10 : Vec F S128x36 .i8) (x11 : Vec F S192x768 .fp8e4m3) (x12 : Vec F S192x216 .i8) (x13 : Vec F S1152x216 .i8) (xs0 : Vec F S2x768x1152 .bf16) (xs1 : Vec F S2x768x1152 .bf16) (xs2 : Vec F S2x1152x768 .bf16) (xs3 : Vec F S6x1152x768 .f32) :
    Σ' (L14 : List (View.Piece (Elt F) S768x1152 .bf16)), Σ' (L15 : List (View.Piece (Elt F) S768x768 .fp8e4m3)), Σ' (L16 : List (View.Piece (Elt F) S768x216 .i8)), Σ' (LS0 : List (View.Piece (Elt F) S2x768x1152 .bf16)), Σ' (LS1 : List (View.Piece (Elt F) S2x768x1152 .bf16)), Σ' (LS2 : List (View.Piece (Elt F) S2x1152x768 .bf16)), Σ' (LS3 : List (View.Piece (Elt F) S6x1152x768 .f32)), { LS4 : List (View.Piece (Elt F) S6x216x768 .i32) //
      ∀ (xi14 : Vec F S768x1152 .bf16) (xi16 : Vec F S768x216 .i8) (xs4 : Vec F S6x216x768 .i32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ d, owns (c : Thread nD τ) arg16 fullShare d) ∗ owns (c : Thread nD τ) arg17 fullShare xi16 ∗ owns (c : Thread nD τ) arg18 fullShare xs0 ∗ owns (c : Thread nD τ) arg19 fullShare xs1 ∗ owns (c : Thread nD τ) arg20 fullShare xs2 ∗ owns (c : Thread nD τ) arg21 fullShare xs3 ∗ owns (c : Thread nD τ) arg22 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f L15) ∗ owns (c : Thread nD τ) arg17 fullShare xi16 ∗ (arg18.view.loc (c : Thread nD τ) ↦[arg18.view.set]{fullShare} arg18.view.writes (Elt F) (harg18.unread xs0) LS0) ∗ (arg19.view.loc (c : Thread nD τ) ↦[arg19.view.set]{fullShare} arg19.view.writes (Elt F) (harg19.unread xs1) LS1) ∗ (arg20.view.loc (c : Thread nD τ) ↦[arg20.view.set]{fullShare} arg20.view.writes (Elt F) (harg20.unread xs2) LS2) ∗ (arg21.view.loc (c : Thread nD τ) ↦[arg21.view.set]{fullShare} arg21.view.writes (Elt F) (harg21.unread xs3) LS3) ∗ (arg22.view.loc (c : Thread nD τ) ↦[arg22.view.set]{fullShare} arg22.view.writes (Elt F) (harg22.unread xs4) LS4)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, [], ?_, ?_, ?_, ?_, ?_, fun xi14 xi16 xs4 E K => ?run⟩
  case run =>
    simp only [cc0_mlp_eq_skeleton]; unfold cc0_mlp_skel
    simp only [k0_part203_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16; obtain rfl := harg18.eq_unread hfs0; obtain rfl := harg19.eq_unread hfs1; obtain rfl := harg20.eq_unread hfs2; obtain rfl := harg21.eq_unread hfs3; obtain rfl := harg22.eq_unread hfs4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]
    · iexists _; isplitr; · ipureintro; exact harg17.read_unread _
      iexact H16
    isplitl [HS0]; · iexact HS0
    isplitl [HS1]; · iexact HS1
    isplitl [HS2]; · iexact HS2
    isplitl [HS3]; · iexact HS3
    iexact HS4

end Cert.KernelIdeal.Run

end
-- ==== Proof.KernelIdeal.RunD.lean ====
module

public import proofs.«01_k».proof.Proof.KernelIdeal.RunC

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE D (`scf.if` 0 not taken, `scf.if` 1 not taken, `scf.if` 2 taken: points 48, 49, 50, 51, 52, 53), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : ¬cond0_0 i) (hc1 : ¬cond0_1 i) (hc2 : cond0_2 i)
    (x0 : Vec F S1152x768 .bf16) (x1 : Vec F S1152x768 .f32) (x2 : Vec F S768x1152 .fp8e4m3) (x3 : Vec F S768x36 .i8) (x4 : Vec F S768x1152 .fp8e4m3) (x5 : Vec F S768x36 .i8) (x6 : Vec F S1152x768 .fp8e4m3) (x7 : Vec F S128x1152 .fp8e4m3) (x8 : Vec F S128x36 .i8) (x9 : Vec F S128x1152 .fp8e4m3) (x10 : Vec F S128x36 .i8) (x11 : Vec F S192x768 .fp8e4m3) (x12 : Vec F S192x216 .i8) (x13 : Vec F S1152x216 .i8) (xs0 : Vec F S2x768x1152 .bf16) (xs1 : Vec F S2x768x1152 .bf16) (xs2 : Vec F S2x1152x768 .bf16) (xs3 : Vec F S6x1152x768 .f32) (xs4 : Vec F S6x216x768 .i32) :
    Σ' (L14 : List (View.Piece (Elt F) S768x1152 .bf16)), Σ' (L15 : List (View.Piece (Elt F) S768x768 .fp8e4m3)), Σ' (L16 : List (View.Piece (Elt F) S768x216 .i8)), Σ' (LS0 : List (View.Piece (Elt F) S2x768x1152 .bf16)), Σ' (LS1 : List (View.Piece (Elt F) S2x768x1152 .bf16)), Σ' (LS2 : List (View.Piece (Elt F) S2x1152x768 .bf16)), Σ' (LS3 : List (View.Piece (Elt F) S6x1152x768 .f32)), { LS4 : List (View.Piece (Elt F) S6x216x768 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0 ∗ owns (c : Thread nD τ) arg19 fullShare xs1 ∗ owns (c : Thread nD τ) arg20 fullShare xs2 ∗ owns (c : Thread nD τ) arg21 fullShare xs3 ∗ owns (c : Thread nD τ) arg22 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (arg18.view.loc (c : Thread nD τ) ↦[arg18.view.set]{fullShare} arg18.view.writes (Elt F) (harg18.unread xs0) LS0) ∗ (arg19.view.loc (c : Thread nD τ) ↦[arg19.view.set]{fullShare} arg19.view.writes (Elt F) (harg19.unread xs1) LS1) ∗ (arg20.view.loc (c : Thread nD τ) ↦[arg20.view.set]{fullShare} arg20.view.writes (Elt F) (harg20.unread xs2) LS2) ∗ (arg21.view.loc (c : Thread nD τ) ↦[arg21.view.set]{fullShare} arg21.view.writes (Elt F) (harg21.unread xs3) LS3) ∗ (arg22.view.loc (c : Thread nD τ) ↦[arg22.view.set]{fullShare} arg22.view.writes (Elt F) (harg22.unread xs4) LS4)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, fun E K => ?run⟩
  case run =>
    simp only [cc0_mlp_eq_skeleton]; unfold cc0_mlp_skel
    simp only [k0_part203_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg18.eq_unread hfs0; obtain rfl := harg19.eq_unread hfs1; obtain rfl := harg20.eq_unread hfs2; obtain rfl := harg21.eq_unread hfs3; obtain rfl := harg22.eq_unread hfs4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [HS0]; · iexact HS0
    isplitl [HS1]; · iexact HS1
    isplitl [HS2]; · iexact HS2
    isplitl [HS3]; · iexact HS3
    iexact HS4

end Cert.KernelIdeal.Run

end
-- ==== Proof.KernelIdeal.RunB.lean ====
module

public import proofs.«01_k».proof.Proof.KernelIdeal.RunD

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 taken, `scf.if` 2 not taken: points 1, 2, 3, 4, 5), WITH the
    proof that on whole staging memrefs — the inputs' at their contents, the outputs it leaves idle (14, 16: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : ¬cond0_0 i) (hc1 : cond0_1 i) (hc2 : ¬cond0_2 i)
    (x0 : Vec F S1152x768 .bf16) (x1 : Vec F S1152x768 .f32) (x2 : Vec F S768x1152 .fp8e4m3) (x3 : Vec F S768x36 .i8) (x4 : Vec F S768x1152 .fp8e4m3) (x5 : Vec F S768x36 .i8) (x6 : Vec F S1152x768 .fp8e4m3) (x7 : Vec F S128x1152 .fp8e4m3) (x8 : Vec F S128x36 .i8) (x9 : Vec F S128x1152 .fp8e4m3) (x10 : Vec F S128x36 .i8) (x11 : Vec F S192x768 .fp8e4m3) (x12 : Vec F S192x216 .i8) (x13 : Vec F S1152x216 .i8) (xs0 : Vec F S2x768x1152 .bf16) (xs1 : Vec F S2x768x1152 .bf16) (xs2 : Vec F S2x1152x768 .bf16) (xs3 : Vec F S6x1152x768 .f32) :
    Σ' (L14 : List (View.Piece (Elt F) S768x1152 .bf16)), Σ' (L15 : List (View.Piece (Elt F) S768x768 .fp8e4m3)), Σ' (L16 : List (View.Piece (Elt F) S768x216 .i8)), Σ' (LS0 : List (View.Piece (Elt F) S2x768x1152 .bf16)), Σ' (LS1 : List (View.Piece (Elt F) S2x768x1152 .bf16)), Σ' (LS2 : List (View.Piece (Elt F) S2x1152x768 .bf16)), Σ' (LS3 : List (View.Piece (Elt F) S6x1152x768 .f32)), { LS4 : List (View.Piece (Elt F) S6x216x768 .i32) //
      ∀ (xi14 : Vec F S768x1152 .bf16) (xi16 : Vec F S768x216 .i8) (xs4 : Vec F S6x216x768 .i32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ d, owns (c : Thread nD τ) arg16 fullShare d) ∗ owns (c : Thread nD τ) arg17 fullShare xi16 ∗ owns (c : Thread nD τ) arg18 fullShare xs0 ∗ owns (c : Thread nD τ) arg19 fullShare xs1 ∗ owns (c : Thread nD τ) arg20 fullShare xs2 ∗ owns (c : Thread nD τ) arg21 fullShare xs3 ∗ owns (c : Thread nD τ) arg22 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f L15) ∗ owns (c : Thread nD τ) arg17 fullShare xi16 ∗ (arg18.view.loc (c : Thread nD τ) ↦[arg18.view.set]{fullShare} arg18.view.writes (Elt F) (harg18.unread xs0) LS0) ∗ (arg19.view.loc (c : Thread nD τ) ↦[arg19.view.set]{fullShare} arg19.view.writes (Elt F) (harg19.unread xs1) LS1) ∗ (arg20.view.loc (c : Thread nD τ) ↦[arg20.view.set]{fullShare} arg20.view.writes (Elt F) (harg20.unread xs2) LS2) ∗ (arg21.view.loc (c : Thread nD τ) ↦[arg21.view.set]{fullShare} arg21.view.writes (Elt F) (harg21.unread xs3) LS3) ∗ (arg22.view.loc (c : Thread nD τ) ↦[arg22.view.set]{fullShare} arg22.view.writes (Elt F) (harg22.unread xs4) LS4)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, [], ?_, ?_, ?_, ?_, ?_, fun xi14 xi16 xs4 E K => ?run⟩
  case run =>
    simp only [cc0_mlp_eq_skeleton]; unfold cc0_mlp_skel
    simp only [k0_part203_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16; obtain rfl := harg18.eq_unread hfs0; obtain rfl := harg19.eq_unread hfs1; obtain rfl := harg20.eq_unread hfs2; obtain rfl := harg21.eq_unread hfs3; obtain rfl := harg22.eq_unread hfs4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]
    · iexists _; isplitr; · ipureintro; exact harg17.read_unread _
      iexact H16
    isplitl [HS0]; · iexact HS0
    isplitl [HS1]; · iexact HS1
    isplitl [HS2]; · iexact HS2
    isplitl [HS3]; · iexact HS3
    iexact HS4

end Cert.KernelIdeal.Run

end
-- ==== Proof.KernelIdeal.RunA.lean ====
module

public import proofs.«01_k».proof.Proof.KernelIdeal.RunB

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2964000 in
/-- What the body's stores leave in each output's staging memref, as pieces (last first) IN CASE A (`scf.if` 0 taken, `scf.if` 1 taken, `scf.if` 2 not taken: points 0), WITH the
    proof that on whole staging memrefs — the inputs' at their contents, the outputs it leaves idle (14, 16: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : cond0_0 i) (hc1 : cond0_1 i) (hc2 : ¬cond0_2 i)
    (x0 : Vec F S1152x768 .bf16) (x1 : Vec F S1152x768 .f32) (x2 : Vec F S768x1152 .fp8e4m3) (x3 : Vec F S768x36 .i8) (x4 : Vec F S768x1152 .fp8e4m3) (x5 : Vec F S768x36 .i8) (x6 : Vec F S1152x768 .fp8e4m3) (x7 : Vec F S128x1152 .fp8e4m3) (x8 : Vec F S128x36 .i8) (x9 : Vec F S128x1152 .fp8e4m3) (x10 : Vec F S128x36 .i8) (x11 : Vec F S192x768 .fp8e4m3) (x12 : Vec F S192x216 .i8) (x13 : Vec F S1152x216 .i8) (xs0 : Vec F S2x768x1152 .bf16) (xs1 : Vec F S2x768x1152 .bf16) (xs2 : Vec F S2x1152x768 .bf16) (xs3 : Vec F S6x1152x768 .f32) :
    Σ' (L14 : List (View.Piece (Elt F) S768x1152 .bf16)), Σ' (L15 : List (View.Piece (Elt F) S768x768 .fp8e4m3)), Σ' (L16 : List (View.Piece (Elt F) S768x216 .i8)), Σ' (LS0 : List (View.Piece (Elt F) S2x768x1152 .bf16)), Σ' (LS1 : List (View.Piece (Elt F) S2x768x1152 .bf16)), Σ' (LS2 : List (View.Piece (Elt F) S2x1152x768 .bf16)), Σ' (LS3 : List (View.Piece (Elt F) S6x1152x768 .f32)), { LS4 : List (View.Piece (Elt F) S6x216x768 .i32) //
      ∀ (xi14 : Vec F S768x1152 .bf16) (xi16 : Vec F S768x216 .i8) (xs4 : Vec F S6x216x768 .i32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ d, owns (c : Thread nD τ) arg16 fullShare d) ∗ owns (c : Thread nD τ) arg17 fullShare xi16 ∗ owns (c : Thread nD τ) arg18 fullShare xs0 ∗ owns (c : Thread nD τ) arg19 fullShare xs1 ∗ owns (c : Thread nD τ) arg20 fullShare xs2 ∗ owns (c : Thread nD τ) arg21 fullShare xs3 ∗ owns (c : Thread nD τ) arg22 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare xi14 ∗ (∃ f, arg16.view.loc (c : Thread nD τ) ↦[arg16.view.set]{fullShare} arg16.view.writes (Elt F) f L15) ∗ owns (c : Thread nD τ) arg17 fullShare xi16 ∗ (arg18.view.loc (c : Thread nD τ) ↦[arg18.view.set]{fullShare} arg18.view.writes (Elt F) (harg18.unread xs0) LS0) ∗ (arg19.view.loc (c : Thread nD τ) ↦[arg19.view.set]{fullShare} arg19.view.writes (Elt F) (harg19.unread xs1) LS1) ∗ (arg20.view.loc (c : Thread nD τ) ↦[arg20.view.set]{fullShare} arg20.view.writes (Elt F) (harg20.unread xs2) LS2) ∗ (arg21.view.loc (c : Thread nD τ) ↦[arg21.view.set]{fullShare} arg21.view.writes (Elt F) (harg21.unread xs3) LS3) ∗ (arg22.view.loc (c : Thread nD τ) ↦[arg22.view.set]{fullShare} arg22.view.writes (Elt F) (harg22.unread xs4) LS4)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨[], ?_, [], ?_, ?_, ?_, ?_, ?_, fun xi14 xi16 xs4 E K => ?run⟩
  case run =>
    simp only [cc0_mlp_eq_skeleton]; unfold cc0_mlp_skel
    simp only [k0_part203_eq_skeleton, k0_part168_eq_skeleton, k0_part169_eq_skeleton, k0_part166_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part167_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16; obtain rfl := harg18.eq_unread hfs0; obtain rfl := harg19.eq_unread hfs1; obtain rfl := harg20.eq_unread hfs2; obtain rfl := harg21.eq_unread hfs3; obtain rfl := harg22.eq_unread hfs4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]
    · iexists _; isplitr; · ipureintro; exact harg17.read_unread _
      iexact H16
    isplitl [HS0]; · iexact HS0
    isplitl [HS1]; · iexact HS1
    isplitl [HS2]; · iexact HS2
    isplitl [HS3]; · iexact HS3
    iexact HS4

end Cert.KernelIdeal.Run

end
-- ==== Proof.KernelIdeal.PiecesA.lean ====
/-
  The stores of the body in case A, as the step's functions of what the buffers held.
-/
module

public import proofs.«01_k».proof.Proof.KernelIdeal.Step
public import proofs.«01_k».proof.Proof.KernelIdeal.RunA

@[expose] public section

set_option maxRecDepth 16384

noncomputable section

namespace Cert.KernelIdeal.Run

open Cert.KernelIdeal.Gen Cert.KernelIdeal.Pure
open Idealize.ShloMosaic Idealize.ShloMosaic.TcCoe

namespace CaseA

variable {F : FTy → Type} [FloatOps F]

variable (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : cond0_0 i) (hc1 : cond0_1 i) (hc2 : ¬cond0_2 i) (x0 : Vec F S1152x768 .bf16) (x1 : Vec F S1152x768 .f32) (x2 : Vec F S768x1152 .fp8e4m3) (x3 : Vec F S768x36 .i8) (x4 : Vec F S768x1152 .fp8e4m3) (x5 : Vec F S768x36 .i8) (x6 : Vec F S1152x768 .fp8e4m3) (x7 : Vec F S128x1152 .fp8e4m3) (x8 : Vec F S128x36 .i8) (x9 : Vec F S128x1152 .fp8e4m3) (x10 : Vec F S128x36 .i8) (x11 : Vec F S192x768 .fp8e4m3) (x12 : Vec F S192x216 .i8) (x13 : Vec F S1152x216 .i8) (xs0 : Vec F S2x768x1152 .bf16) (xs1 : Vec F S2x768x1152 .bf16) (xs2 : Vec F S2x1152x768 .bf16) (xs3 : Vec F S6x1152x768 .f32)

/-- The stores into the gate weights' buffer. -/
def LS0 : List (View.Piece (Elt F) S2x768x1152 .bf16) := guPieces i (arg8.view.readAt (Elt F) (Rect.unit (s := S128x1152) ![0, 0] S128x1152.size inb_S128x1152_S128x1152_0_0).toLoadRect (harg8.unread x7)) (arg9.view.readAt (Elt F) (Rect.unit (s := S128x36) ![0, 0] S128x36.size inb_S128x36_S128x36_0_0).toLoadRect (harg9.unread x8)) [⟨Rect.unit ![0, 640, 0] S1x128x1152.size inb_S2x768x1152_S1x128x1152_0_640_0, decGU (arg3.view.readAt (Elt F) (Rect.unit (s := S768x1152) ![640, 0] S128x1152.size inb_S768x1152_S128x1152_640_0).toLoadRect (harg3.unread x2)) (arg4.view.readAt (Elt F) (Rect.unit (s := S768x36) ![640, 0] S128x36.size inb_S768x36_S128x36_640_0).toLoadRect (harg4.unread x3))⟩, ⟨Rect.unit ![0, 512, 0] S1x128x1152.size inb_S2x768x1152_S1x128x1152_0_512_0, decGU (arg3.view.readAt (Elt F) (Rect.unit (s := S768x1152) ![512, 0] S128x1152.size inb_S768x1152_S128x1152_512_0).toLoadRect (harg3.unread x2)) (arg4.view.readAt (Elt F) (Rect.unit (s := S768x36) ![512, 0] S128x36.size inb_S768x36_S128x36_512_0).toLoadRect (harg4.unread x3))⟩, ⟨Rect.unit ![0, 384, 0] S1x128x1152.size inb_S2x768x1152_S1x128x1152_0_384_0, decGU (arg3.view.readAt (Elt F) (Rect.unit (s := S768x1152) ![384, 0] S128x1152.size inb_S768x1152_S128x1152_384_0).toLoadRect (harg3.unread x2)) (arg4.view.readAt (Elt F) (Rect.unit (s := S768x36) ![384, 0] S128x36.size inb_S768x36_S128x36_384_0).toLoadRect (harg4.unread x3))⟩, ⟨Rect.unit ![0, 256, 0] S1x128x1152.size inb_S2x768x1152_S1x128x1152_0_256_0, decGU (arg3.view.readAt (Elt F) (Rect.unit (s := S768x1152) ![256, 0] S128x1152.size inb_S768x1152_S128x1152_256_0).toLoadRect (harg3.unread x2)) (arg4.view.readAt (Elt F) (Rect.unit (s := S768x36) ![256, 0] S128x36.size inb_S768x36_S128x36_256_0).toLoadRect (harg4.unread x3))⟩, ⟨Rect.unit ![0, 128, 0] S1x128x1152.size inb_S2x768x1152_S1x128x1152_0_128_0, decGU (arg3.view.readAt (Elt F) (Rect.unit (s := S768x1152) ![128, 0] S128x1152.size inb_S768x1152_S128x1152_128_0).toLoadRect (harg3.unread x2)) (arg4.view.readAt (Elt F) (Rect.unit (s := S768x36) ![128, 0] S128x36.size inb_S768x36_S128x36_128_0).toLoadRect (harg4.unread x3))⟩, ⟨Rect.unit ![0, 0, 0] S1x128x1152.size inb_S2x768x1152_S1x128x1152_0_0_0, decGU (arg3.view.readAt (Elt F) (Rect.unit (s := S768x1152) ![0, 0] S128x1152.size inb_S768x1152_S128x1152_0_0).toLoadRect (harg3.unread x2)) (arg4.view.readAt (Elt F) (Rect.unit (s := S768x36) ![0, 0] S128x36.size inb_S768x36_S128x36_0_0).toLoadRect (harg4.unread x3))⟩]
/-- The stores into the up weights' buffer. -/
def LS1 : List (View.Piece (Elt F) S2x768x1152 .bf16) := guPieces i (arg10.view.readAt (Elt F) (Rect.unit (s := S128x1152) ![0, 0] S128x1152.size inb_S128x1152_S128x1152_0_0).toLoadRect (harg10.unread x9)) (arg11.view.readAt (Elt F) (Rect.unit (s := S128x36) ![0, 0] S128x36.size inb_S128x36_S128x36_0_0).toLoadRect (harg11.unread x10)) [⟨Rect.unit ![0, 640, 0] S1x128x1152.size inb_S2x768x1152_S1x128x1152_0_640_0, decGU (arg5.view.readAt (Elt F) (Rect.unit (s := S768x1152) ![640, 0] S128x1152.size inb_S768x1152_S128x1152_640_0).toLoadRect (harg5.unread x4)) (arg6.view.readAt (Elt F) (Rect.unit (s := S768x36) ![640, 0] S128x36.size inb_S768x36_S128x36_640_0).toLoadRect (harg6.unread x5))⟩, ⟨Rect.unit ![0, 512, 0] S1x128x1152.size inb_S2x768x1152_S1x128x1152_0_512_0, decGU (arg5.view.readAt (Elt F) (Rect.unit (s := S768x1152) ![512, 0] S128x1152.size inb_S768x1152_S128x1152_512_0).toLoadRect (harg5.unread x4)) (arg6.view.readAt (Elt F) (Rect.unit (s := S768x36) ![512, 0] S128x36.size inb_S768x36_S128x36_512_0).toLoadRect (harg6.unread x5))⟩, ⟨Rect.unit ![0, 384, 0] S1x128x1152.size inb_S2x768x1152_S1x128x1152_0_384_0, decGU (arg5.view.readAt (Elt F) (Rect.unit (s := S768x1152) ![384, 0] S128x1152.size inb_S768x1152_S128x1152_384_0).toLoadRect (harg5.unread x4)) (arg6.view.readAt (Elt F) (Rect.unit (s := S768x36) ![384, 0] S128x36.size inb_S768x36_S128x36_384_0).toLoadRect (harg6.unread x5))⟩, ⟨Rect.unit ![0, 256, 0] S1x128x1152.size inb_S2x768x1152_S1x128x1152_0_256_0, decGU (arg5.view.readAt (Elt F) (Rect.unit (s := S768x1152) ![256, 0] S128x1152.size inb_S768x1152_S128x1152_256_0).toLoadRect (harg5.unread x4)) (arg6.view.readAt (Elt F) (Rect.unit (s := S768x36) ![256, 0] S128x36.size inb_S768x36_S128x36_256_0).toLoadRect (harg6.unread x5))⟩, ⟨Rect.unit ![0, 128, 0] S1x128x1152.size inb_S2x768x1152_S1x128x1152_0_128_0, decGU (arg5.view.readAt (Elt F) (Rect.unit (s := S768x1152) ![128, 0] S128x1152.size inb_S768x1152_S128x1152_128_0).toLoadRect (harg5.unread x4)) (arg6.view.readAt (Elt F) (Rect.unit (s := S768x36) ![128, 0] S128x36.size inb_S768x36_S128x36_128_0).toLoadRect (harg6.unread x5))⟩, ⟨Rect.unit ![0, 0, 0] S1x128x1152.size inb_S2x768x1152_S1x128x1152_0_0_0, decGU (arg5.view.readAt (Elt F) (Rect.unit (s := S768x1152) ![0, 0] S128x1152.size inb_S768x1152_S128x1152_0_0).toLoadRect (harg5.unread x4)) (arg6.view.readAt (Elt F) (Rect.unit (s := S768x36) ![0, 0] S128x36.size inb_S768x36_S128x36_0_0).toLoadRect (harg6.unread x5))⟩]
/-- The stores into the down weights' buffer. -/
def LS2 : List (View.Piece (Elt F) S2x1152x768 .bf16) := dPieces i (arg12.view.readAt (Elt F) (Rect.unit (s := S192x768) ![0, 0] S192x768.size inb_S192x768_S192x768_0_0).toLoadRect (harg12.unread x11)) (arg13.view.readAt (Elt F) (Rect.unit (s := S192x216) ![0, 0] S192x216.size inb_S192x216_S192x216_0_0).toLoadRect (harg13.unread x12)) [⟨Rect.unit ![0, 1024, 0] S1x128x768.size inb_S2x1152x768_S1x128x768_0_1024_0, decD128 0#32 (arg7.view.readAt (Elt F) (Rect.unit (s := S1152x768) ![1024, 0] S128x768.size inb_S1152x768_S128x768_1024_0).toLoadRect (harg7.unread x6)) (arg14.view.readAt (Elt F) (Rect.unit (s := S1152x216) ![1024, 0] S128x216.size inb_S1152x216_S128x216_1024_0).toLoadRect (harg14.unread x13))⟩, ⟨Rect.unit ![0, 896, 0] S1x128x768.size inb_S2x1152x768_S1x128x768_0_896_0, decD128 0#32 (arg7.view.readAt (Elt F) (Rect.unit (s := S1152x768) ![896, 0] S128x768.size inb_S1152x768_S128x768_896_0).toLoadRect (harg7.unread x6)) (arg14.view.readAt (Elt F) (Rect.unit (s := S1152x216) ![896, 0] S128x216.size inb_S1152x216_S128x216_896_0).toLoadRect (harg14.unread x13))⟩, ⟨Rect.unit ![0, 768, 0] S1x128x768.size inb_S2x1152x768_S1x128x768_0_768_0, decD128 0#32 (arg7.view.readAt (Elt F) (Rect.unit (s := S1152x768) ![768, 0] S128x768.size inb_S1152x768_S128x768_768_0).toLoadRect (harg7.unread x6)) (arg14.view.readAt (Elt F) (Rect.unit (s := S1152x216) ![768, 0] S128x216.size inb_S1152x216_S128x216_768_0).toLoadRect (harg14.unread x13))⟩, ⟨Rect.unit ![0, 640, 0] S1x128x768.size inb_S2x1152x768_S1x128x768_0_640_0, decD128 0#32 (arg7.view.readAt (Elt F) (Rect.unit (s := S1152x768) ![640, 0] S128x768.size inb_S1152x768_S128x768_640_0).toLoadRect (harg7.unread x6)) (arg14.view.readAt (Elt F) (Rect.unit (s := S1152x216) ![640, 0] S128x216.size inb_S1152x216_S128x216_640_0).toLoadRect (harg14.unread x13))⟩, ⟨Rect.unit ![0, 512, 0] S1x128x768.size inb_S2x1152x768_S1x128x768_0_512_0, decD128 0#32 (arg7.view.readAt (Elt F) (Rect.unit (s := S1152x768) ![512, 0] S128x768.size inb_S1152x768_S128x768_512_0).toLoadRect (harg7.unread x6)) (arg14.view.readAt (Elt F) (Rect.unit (s := S1152x216) ![512, 0] S128x216.size inb_S1152x216_S128x216_512_0).toLoadRect (harg14.unread x13))⟩, ⟨Rect.unit ![0, 384, 0] S1x128x768.size inb_S2x1152x768_S1x128x768_0_384_0, decD128 0#32 (arg7.view.readAt (Elt F) (Rect.unit (s := S1152x768) ![384, 0] S128x768.size inb_S1152x768_S128x768_384_0).toLoadRect (harg7.unread x6)) (arg14.view.readAt (Elt F) (Rect.unit (s := S1152x216) ![384, 0] S128x216.size inb_S1152x216_S128x216_384_0).toLoadRect (harg14.unread x13))⟩, ⟨Rect.unit ![0, 256, 0] S1x128x768.size inb_S2x1152x768_S1x128x768_0_256_0, decD128 0#32 (arg7.view.readAt (Elt F) (Rect.unit (s := S1152x768) ![256, 0] S128x768.size inb_S1152x768_S128x768_256_0).toLoadRect (harg7.unread x6)) (arg14.view.readAt (Elt F) (Rect.unit (s := S1152x216) ![256, 0] S128x216.size inb_S1152x216_S128x216_256_0).toLoadRect (harg14.unread x13))⟩, ⟨Rect.unit ![0, 128, 0] S1x128x768.size inb_S2x1152x768_S1x128x768_0_128_0, decD128 0#32 (arg7.view.readAt (Elt F) (Rect.unit (s := S1152x768) ![128, 0] S128x768.size inb_S1152x768_S128x768_128_0).toLoadRect (harg7.unread x6)) (arg14.view.readAt (Elt F) (Rect.unit (s := S1152x216) ![128, 0] S128x216.size inb_S1152x216_S128x216_128_0).toLoadRect (harg14.unread x13))⟩, ⟨Rect.unit ![0, 0, 0] S1x128x768.size inb_S2x1152x768_S1x128x768_0_0_0, decD128 0#32 (arg7.view.readAt (Elt F) (Rect.unit (s := S1152x768) ![0, 0] S128x768.size inb_S1152x768_S128x768_0_0).toLoadRect (harg7.unread x6)) (arg14.view.readAt (Elt F) (Rect.unit (s := S1152x216) ![0, 0] S128x216.size inb_S1152x216_S128x216_0_0).toLoadRect (harg14.unread x13))⟩]
/-- The gate weights the step multiplies with. -/
def G : Vec F S1x768x1152 .bf16 := (arg18.view.readAt (Elt F) (Rect.unit (s := S2x768x1152) (k0_off4 i) S1x768x1152.size (k0_off4_inb i)).toLoadRect (arg18.view.writes (Elt F) (harg18.unread xs0) (LS0 i arg3 harg3 arg4 harg4 arg8 harg8 arg9 harg9 x2 x3 x7 x8)))
/-- The up weights the step multiplies with. -/
def U : Vec F S1x768x1152 .bf16 := (arg19.view.readAt (Elt F) (Rect.unit (s := S2x768x1152) (k0_off4 i) S1x768x1152.size (k0_off4_inb i)).toLoadRect (arg19.view.writes (Elt F) (harg19.unread xs1) (LS1 i arg5 harg5 arg6 harg6 arg10 harg10 arg11 harg11 x4 x5 x9 x10)))
/-- The down weights the step multiplies with. -/
def D : Vec F S1x1152x768 .bf16 := (arg20.view.readAt (Elt F) (Rect.unit (s := S2x1152x768) (k0_off7 i) S1x1152x768.size (k0_off7_inb i)).toLoadRect (arg20.view.writes (Elt F) (harg20.unread xs2) (LS2 i arg7 harg7 arg12 harg12 arg13 harg13 arg14 harg14 x6 x11 x12 x13)))
/-- The stores of the codes. -/
def L15 : List (View.Piece (Elt F) S768x768 .fp8e4m3) := codePieces (G i arg3 harg3 arg4 harg4 arg8 harg8 arg9 harg9 arg18 harg18 x2 x3 x7 x8 xs0) (U i arg5 harg5 arg6 harg6 arg10 harg10 arg11 harg11 arg19 harg19 x4 x5 x9 x10 xs1) (arg1.view.readAt (Elt F) (Rect.unit (s := S1152x768) ![0, 0] S1152x256.size inb_S1152x768_S1152x256_0_0).toLoadRect (harg1.unread x0)) (arg1.view.readAt (Elt F) (Rect.unit (s := S1152x768) ![0, 256] S1152x256.size inb_S1152x768_S1152x256_0_256).toLoadRect (harg1.unread x0)) (arg1.view.readAt (Elt F) (Rect.unit (s := S1152x768) ![0, 512] S1152x256.size inb_S1152x768_S1152x256_0_512).toLoadRect (harg1.unread x0))
/-- The stores of the scale bytes. -/
def LS4 : List (View.Piece (Elt F) S6x216x768 .i32) := bytePieces i (G i arg3 harg3 arg4 harg4 arg8 harg8 arg9 harg9 arg18 harg18 x2 x3 x7 x8 xs0) (U i arg5 harg5 arg6 harg6 arg10 harg10 arg11 harg11 arg19 harg19 x4 x5 x9 x10 xs1) (arg1.view.readAt (Elt F) (Rect.unit (s := S1152x768) ![0, 0] S1152x256.size inb_S1152x768_S1152x256_0_0).toLoadRect (harg1.unread x0)) (arg1.view.readAt (Elt F) (Rect.unit (s := S1152x768) ![0, 256] S1152x256.size inb_S1152x768_S1152x256_0_256).toLoadRect (harg1.unread x0)) (arg1.view.readAt (Elt F) (Rect.unit (s := S1152x768) ![0, 512] S1152x256.size inb_S1152x768_S1152x256_0_512).toLoadRect (harg1.unread x0))
/-- The accumulator's columns of the step hold the residual first. -/
def M0 : List (View.Piece (Elt F) S6x1152x768 .f32) := [⟨Rect.unit (k0_off1 i) S1x1152x768.size (k0_off1_inb i hc1), k0_pay549 (arg2.view.readAt (Elt F) (Rect.unit (s := S1152x768) ![0, 0] S1152x768.size inb_S1152x768_S1152x768_0_0).toLoadRect (harg2.unread x1))⟩]
/-- The accumulator after the first sub-block. -/
def M1 : List (View.Piece (Elt F) S6x1152x768 .f32) := ⟨Rect.unit (k0_off6 i) S1x1152x256.size (k0_off6_inb i), accVal (G i arg3 harg3 arg4 harg4 arg8 harg8 arg9 harg9 arg18 harg18 x2 x3 x7 x8 xs0) (U i arg5 harg5 arg6 harg6 arg10 harg10 arg11 harg11 arg19 harg19 x4 x5 x9 x10 xs1) (arg1.view.readAt (Elt F) (Rect.unit (s := S1152x768) ![0, 0] S1152x256.size inb_S1152x768_S1152x256_0_0).toLoadRect (harg1.unread x0)) (D i arg7 harg7 arg12 harg12 arg13 harg13 arg14 harg14 arg20 harg20 x6 x11 x12 x13 xs2) (arg21.view.readCov (M0 i arg2 harg2 hc1 x1) (Rect.unit (s := S6x1152x768) (k0_off6 i) S1x1152x256.size (k0_off6_inb i)).toLoadRect)⟩ :: (M0 i arg2 harg2 hc1 x1)
/-- The accumulator after the second sub-block. -/
def M2 : List (View.Piece (Elt F) S6x1152x768 .f32) := ⟨Rect.unit (k0_off9 i) S1x1152x256.size (k0_off9_inb i), accVal (G i arg3 harg3 arg4 harg4 arg8 harg8 arg9 harg9 arg18 harg18 x2 x3 x7 x8 xs0) (U i arg5 harg5 arg6 harg6 arg10 harg10 arg11 harg11 arg19 harg19 x4 x5 x9 x10 xs1) (arg1.view.readAt (Elt F) (Rect.unit (s := S1152x768) ![0, 256] S1152x256.size inb_S1152x768_S1152x256_0_256).toLoadRect (harg1.unread x0)) (D i arg7 harg7 arg12 harg12 arg13 harg13 arg14 harg14 arg20 harg20 x6 x11 x12 x13 xs2) (arg21.view.readCov (M1 i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 hc1 x0 x1 x2 x3 x4 x5 x6 x7 x8 x9 x10 x11 x12 x13 xs0 xs1 xs2) (Rect.unit (s := S6x1152x768) (k0_off9 i) S1x1152x256.size (k0_off9_inb i)).toLoadRect)⟩ :: (M1 i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 hc1 x0 x1 x2 x3 x4 x5 x6 x7 x8 x9 x10 x11 x12 x13 xs0 xs1 xs2)
/-- The stores into the accumulator. -/
def LS3 : List (View.Piece (Elt F) S6x1152x768 .f32) := ⟨Rect.unit (k0_off11 i) S1x1152x256.size (k0_off11_inb i), accVal (G i arg3 harg3 arg4 harg4 arg8 harg8 arg9 harg9 arg18 harg18 x2 x3 x7 x8 xs0) (U i arg5 harg5 arg6 harg6 arg10 harg10 arg11 harg11 arg19 harg19 x4 x5 x9 x10 xs1) (arg1.view.readAt (Elt F) (Rect.unit (s := S1152x768) ![0, 512] S1152x256.size inb_S1152x768_S1152x256_0_512).toLoadRect (harg1.unread x0)) (D i arg7 harg7 arg12 harg12 arg13 harg13 arg14 harg14 arg20 harg20 x6 x11 x12 x13 xs2) (arg21.view.readCov (M2 i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 hc1 x0 x1 x2 x3 x4 x5 x6 x7 x8 x9 x10 x11 x12 x13 xs0 xs1 xs2) (Rect.unit (s := S6x1152x768) (k0_off11 i) S1x1152x256.size (k0_off11_inb i)).toLoadRect)⟩ :: (M2 i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 hc1 x0 x1 x2 x3 x4 x5 x6 x7 x8 x9 x10 x11 x12 x13 xs0 xs1 xs2)

/-- The run's stores into the gate weights are those. -/
theorem run_LS0 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.1 = LS0 i arg3 harg3 arg4 harg4 arg8 harg8 arg9 harg9 x2 x3 x7 x8 := rfl
/-- The run's stores into the up weights are those. -/
theorem run_LS1 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.1 = LS1 i arg5 harg5 arg6 harg6 arg10 harg10 arg11 harg11 x4 x5 x9 x10 := rfl
/-- The run's stores into the down weights are those. -/
theorem run_LS2 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.1 = LS2 i arg7 harg7 arg12 harg12 arg13 harg13 arg14 harg14 x6 x11 x12 x13 := rfl
/-- The run's stores into the codes' window are those. -/
theorem run_L15 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.1 = L15 i arg1 harg1 arg3 harg3 arg4 harg4 arg5 harg5 arg6 harg6 arg8 harg8 arg9 harg9 arg10 harg10 arg11 harg11 arg18 harg18 arg19 harg19 x0 x2 x3 x4 x5 x7 x8 x9 x10 xs0 xs1 := rfl
/-- The run's stores into the scale bytes' buffer are those. -/
theorem run_LS4 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.2.2.1 = LS4 i arg1 harg1 arg3 harg3 arg4 harg4 arg5 harg5 arg6 harg6 arg8 harg8 arg9 harg9 arg10 harg10 arg11 harg11 arg18 harg18 arg19 harg19 x0 x2 x3 x4 x5 x7 x8 x9 x10 xs0 xs1 := rfl
/-- The run's stores into the accumulator are those. -/
theorem run_LS3 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.2.1 = LS3 i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 hc1 x0 x1 x2 x3 x4 x5 x6 x7 x8 x9 x10 x11 x12 x13 xs0 xs1 xs2 := rfl

end CaseA

end Cert.KernelIdeal.Run
-- ==== Proof.KernelIdeal.First.lean ====
/-
  The stores of the first grid step that decode the first slice of the weights whole.
-/
module

public import proofs.«01_k».proof.Proof.KernelIdeal.Inv

@[expose] public section

set_option maxRecDepth 16384

noncomputable section

namespace Cert.KernelIdeal.Pure

open Cert.KernelIdeal.Gen Cert.KernelIdeal.Run Cert.KernelIdeal.Buf Cert.Spec
open Idealize.ShloMosaic Idealize.ShloMosaic.TcCoe

/-- The `t`-th 128 rows of the gate (or up) weights: decoded from the block, stored after the rows before them. -/
theorem gu_first {sp : Space} (v : View sig .tc sp S2x768x1152 .bf16) (f : v.ty.Contents (Elt Ideal)) (W : ℕ → ℕ → ℕ → EReal) (cd : ℕ → ℕ → EReal) (sb : ℕ → ℕ → BitVec 8)
    (hW : ∀ c r k, W c r k = cd (768 * c + r) k * sc (sb (768 * c + r) (k / 32))) {sx : Space} (m : Memref sig .tc sx S768x1152 .fp8e4m3) (hm : m.IsWhole) (x : Vec Ideal S768x1152 .fp8e4m3)
    (hx : ∀ r k, x (ix2 r k) = cd (768 * 0 + r.val) k.val) {sy : Space} (m' : Memref sig .tc sy S768x36 .i8) (hm' : m'.IsWhole) (y : Vec Ideal S768x36 .i8)
    (hy : ∀ r k, y (ix2 r k) = sb (768 * 0 + r.val) k.val) (t : ℕ) {o : ℕ} (ho : o = 128 * t) (L : List (View.Piece (Elt Ideal) S2x768x1152 .bf16))
    (hL : Slot (W 0) 0 (128 * t) (v.read (Elt Ideal) (v.writes (Elt Ideal) f L)))
    (inb : ∀ k : Fin 3, (![0, o, 0] : Fin 3 → ℕ) k + S1x128x1152.size k ≤ S2x768x1152.size k)
    (inbx : ∀ k : Fin 2, (![o, 0] : Fin 2 → ℕ) k + S128x1152.size k ≤ S768x1152.size k) (inby : ∀ k : Fin 2, (![o, 0] : Fin 2 → ℕ) k + S128x36.size k ≤ S768x36.size k) :
    Slot (W 0) 0 (128 * (t + 1)) (v.read (Elt Ideal) (v.writes (Elt Ideal) f (⟨Rect.unit (s := S2x768x1152) ![0, o, 0] S1x128x1152.size inb,
      decGU (m.view.readAt (Elt Ideal) (Rect.unit (s := S768x1152) ![o, 0] S128x1152.size inbx).toLoadRect (hm.unread x))
        (m'.view.readAt (Elt Ideal) (Rect.unit (s := S768x36) ![o, 0] S128x36.size inby).toLoadRect (hm'.unread y))⟩ :: L))) := by
  subst ho
  have hb : 128 * t + 128 ≤ 768 := inbx 0
  refine Slot.step (Val := Elt Ideal) (e := .bf16) v f inb rfl _ (fun r k => ?_) L hL
  rw [decGU_apply, readAt2 (Val := Elt Ideal) (e := .fp8e4m3) m.view _ inbx rfl r k ⟨128 * t + r.val, by omega⟩ k rfl (by omega),
    readAt2 (Val := Elt Ideal) (e := .i8) m'.view _ inby rfl r ⟨k.val / 32, by omega⟩ ⟨128 * t + r.val, by omega⟩ ⟨k.val / 32, by omega⟩ rfl (by show k.val / 32 = 0 + k.val / 32; omega), hm.read_unread, hm'.read_unread, hx, hy, hW]
  rfl

/-- The `t`-th 128 rows of the down weights. -/
theorem d_first {a : In} {sp : Space} (v : View sig .tc sp S2x1152x768 .bf16) (f : v.ty.Contents (Elt Ideal)) {sx : Space} (m : Memref sig .tc sx S1152x768 .fp8e4m3) (hm : m.IsWhole)
    (x : Vec Ideal S1152x768 .fp8e4m3) (hx : ∀ r k, x (ix2 r k) = a.wdc r.val (768 * 0 + k.val)) {sy : Space} (m' : Memref sig .tc sy S1152x216 .i8) (hm' : m'.IsWhole) (y : Vec Ideal S1152x216 .i8)
    (hy : ∀ r k, y (ix2 r k) = a.wds r.val k.val) (t : ℕ) {o : ℕ} (ho : o = 128 * t) (L : List (View.Piece (Elt Ideal) S2x1152x768 .bf16))
    (hL : Slot (WD a 0) 0 (128 * t) (v.read (Elt Ideal) (v.writes (Elt Ideal) f L)))
    (inb : ∀ k : Fin 3, (![0, o, 0] : Fin 3 → ℕ) k + S1x128x768.size k ≤ S2x1152x768.size k)
    (inbx : ∀ k : Fin 2, (![o, 0] : Fin 2 → ℕ) k + S128x768.size k ≤ S1152x768.size k) (inby : ∀ k : Fin 2, (![o, 0] : Fin 2 → ℕ) k + S128x216.size k ≤ S1152x216.size k) :
    Slot (WD a 0) 0 (128 * (t + 1)) (v.read (Elt Ideal) (v.writes (Elt Ideal) f (⟨Rect.unit (s := S2x1152x768) ![0, o, 0] S1x128x768.size inb,
      decD128 0#32 (m.view.readAt (Elt Ideal) (Rect.unit (s := S1152x768) ![o, 0] S128x768.size inbx).toLoadRect (hm.unread x))
        (m'.view.readAt (Elt Ideal) (Rect.unit (s := S1152x216) ![o, 0] S128x216.size inby).toLoadRect (hm'.unread y))⟩ :: L))) := by
  subst ho
  have hb : 128 * t + 128 ≤ 1152 := inbx 0
  refine Slot.step (Val := Elt Ideal) (e := .bf16) v f inb rfl _ (fun r k => ?_) L hL
  have ew : (0#32 : BitVec 32) = BitVec.ofNat 32 (24 * (0 : Fin 9).val) := rfl
  have ed : (768 * 0 + k.val) / 32 = 24 * (0 : Fin 9).val + k.val / 32 := by show (768 * 0 + k.val) / 32 = 24 * 0 + k.val / 32; omega
  rw [ew, decD128_apply, readAt2 (Val := Elt Ideal) (e := .fp8e4m3) m.view _ inbx rfl r k ⟨128 * t + r.val, by omega⟩ k rfl (by omega),
    readAt2 (Val := Elt Ideal) (e := .i8) m'.view _ inby rfl r _ ⟨128 * t + r.val, by omega⟩ ⟨24 * (0 : Fin 9).val + k.val / 32, by show 24 * 0 + k.val / 32 < 216; omega⟩ rfl (by show 24 * (0 : Fin 9).val + k.val / 32 = 0 + (24 * (0 : Fin 9).val + k.val / 32); omega), hm.read_unread, hm'.read_unread, hx, hy]
  unfold WD In.Wd
  rw [ed]
  rfl

end Cert.KernelIdeal.Pure
-- ==== Proof.KernelIdeal.AfterA.lean ====
/-
  The step in case A: the first point, where the first slice of the weights is decoded whole.
-/
module

public import proofs.«01_k».proof.Proof.KernelIdeal.Body
public import proofs.«01_k».proof.Proof.KernelIdeal.PiecesA
public import proofs.«01_k».proof.Proof.KernelIdeal.First

@[expose] public section

set_option maxRecDepth 16384

noncomputable section

namespace Cert.KernelIdeal.Run

open Cert.KernelIdeal.Gen Cert.KernelIdeal.Pure Cert.KernelIdeal.Buf Cert.Spec
open Idealize.ShloMosaic Idealize.ShloMosaic.TcCoe

namespace CaseA

variable (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : cond0_0 i) (hc1 : cond0_1 i) (hc2 : ¬cond0_2 i) (x0 : Vec Ideal S1152x768 .bf16) (x1 : Vec Ideal S1152x768 .f32) (x2 : Vec Ideal S768x1152 .fp8e4m3) (x3 : Vec Ideal S768x36 .i8) (x4 : Vec Ideal S768x1152 .fp8e4m3) (x5 : Vec Ideal S768x36 .i8) (x6 : Vec Ideal S1152x768 .fp8e4m3) (x7 : Vec Ideal S128x1152 .fp8e4m3) (x8 : Vec Ideal S128x36 .i8) (x9 : Vec Ideal S128x1152 .fp8e4m3) (x10 : Vec Ideal S128x36 .i8) (x11 : Vec Ideal S192x768 .fp8e4m3) (x12 : Vec Ideal S192x216 .i8) (x13 : Vec Ideal S1152x216 .i8) (xs0 : Vec Ideal S2x768x1152 .bf16) (xs1 : Vec Ideal S2x768x1152 .bf16) (xs2 : Vec Ideal S2x1152x768 .bf16) (xs3 : Vec Ideal S6x1152x768 .f32)

/-- The accumulator's own tile starts from the residual. -/
theorem start {a : In} {s : ℕ} (hs : (i 0).val = s) (h1 : ∀ d n, x1 (ix2 d n) = a.r1 d.val (768 * (s % 6) + n.val)) (f : arg21.view.ty.Contents (Elt Ideal)) (T : Fin 6) (d : Fin 1152) (n : Fin 768)
    (hT : T.val = s % 6) : arg21.view.read (Elt Ideal) (arg21.view.writes (Elt Ideal) f (M0 i arg2 harg2 hc1 x1)) (ix3 T d n) = a.part 0 d.val (768 * (s % 6) + n.val) := by
  have e := k0_off1_eq i
  rw [hs] at e
  refine (hit3 (Val := Elt Ideal) (e := .f32) arg21.view f (k0_off1_inb i hc1) e _ _ T d n 0 d n (by show T.val = s % 6 + 0; omega) (by omega) (by omega)).trans ?_
  rw [pay549_apply, load_full, h1, In.part_zero]

/-- Its other tiles stay. -/
theorem start_other {s : ℕ} (hs : (i 0).val = s) (f : arg21.view.ty.Contents (Elt Ideal)) (T : Fin 6) (d : Fin 1152) (n : Fin 768)
    (hT : T.val ≠ s % 6) : arg21.view.read (Elt Ideal) (arg21.view.writes (Elt Ideal) f (M0 i arg2 harg2 hc1 x1)) (ix3 T d n) = arg21.view.read (Elt Ideal) f (ix3 T d n) := by
  have e := k0_off1_eq i
  rw [hs] at e
  exact miss3 (Val := Elt Ideal) (e := .f32) arg21.view f (k0_off1_inb i hc1) e _ _ T d n (Or.inl (by omega))

set_option maxHeartbeats 1000000 in
/-- The step takes the buffers from what a step should find to what the next one should, and stores the layer's codes. -/
theorem after {a : In} {s : ℕ} (hs : (i 0).val = s) (h0 : s = 0) (B : Blk a s x0 x7 x8 x9 x10 x11 x12) (h1 : ∀ d n, x1 (ix2 d n) = a.r1 d.val (768 * (s % 6) + n.val)) (h2 : ∀ r k, x2 (ix2 r k) = a.wgc (768 * 0 + r.val) k.val) (h3 : ∀ r k, x3 (ix2 r k) = a.wgs (768 * 0 + r.val) k.val)
    (h4 : ∀ r k, x4 (ix2 r k) = a.wuc (768 * 0 + r.val) k.val) (h5 : ∀ r k, x5 (ix2 r k) = a.wus (768 * 0 + r.val) k.val)
    (h6' : ∀ r k, x6 (ix2 r k) = a.wdc r.val (768 * 0 + k.val)) (h13 : ∀ r k, x13 (ix2 r k) = a.wds r.val k.val)
    (xs4 : Vec Ideal S6x216x768 .i32) (I : Inv a s xs0 xs1 xs2 xs3 xs4) :
    After a s (arg18.view.read (Elt Ideal) (arg18.view.writes (Elt Ideal) (harg18.unread xs0) (LS0 i arg3 harg3 arg4 harg4 arg8 harg8 arg9 harg9 x2 x3 x7 x8)))
      (arg19.view.read (Elt Ideal) (arg19.view.writes (Elt Ideal) (harg19.unread xs1) (LS1 i arg5 harg5 arg6 harg6 arg10 harg10 arg11 harg11 x4 x5 x9 x10)))
      (arg20.view.read (Elt Ideal) (arg20.view.writes (Elt Ideal) (harg20.unread xs2) (LS2 i arg7 harg7 arg12 harg12 arg13 harg13 arg14 harg14 x6 x11 x12 x13)))
      (arg21.view.read (Elt Ideal) (arg21.view.writes (Elt Ideal) (harg21.unread xs3) (LS3 i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 hc1 x0 x1 x2 x3 x4 x5 x6 x7 x8 x9 x10 x11 x12 x13 xs0 xs1 xs2)))
      (arg22.view.read (Elt Ideal) (arg22.view.writes (Elt Ideal) (harg22.unread xs4) (LS4 i arg1 harg1 arg3 harg3 arg4 harg4 arg5 harg5 arg6 harg6 arg8 harg8 arg9 harg9 arg10 harg10 arg11 harg11 arg18 harg18 arg19 harg19 x0 x2 x3 x4 x5 x7 x8 x9 x10 xs0 xs1)))
      (L15 i arg1 harg1 arg3 harg3 arg4 harg4 arg5 harg5 arg6 harg6 arg8 harg8 arg9 harg9 arg10 harg10 arg11 harg11 arg18 harg18 arg19 harg19 x0 x2 x3 x4 x5 x7 x8 x9 x10 xs0 xs1) (LS3 i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 hc1 x0 x1 x2 x3 x4 x5 x6 x7 x8 x9 x10 x11 x12 x13 xs0 xs1 xs2) := by
  subst h0
  obtain ⟨-, I21, I22⟩ := I
  have r21 : arg21.view.read (Elt Ideal) (harg21.unread xs3) = xs3 := harg21.read_unread xs3
  have h6 : 0 / 6 = 0 := rfl
  have q0 : ∀ f, ∀ (T : Fin 6) (d : Fin 1152) (n : Fin 768), T.val = 0 % 6 → arg21.view.read (Elt Ideal) (arg21.view.writes (Elt Ideal) f (M0 i arg2 harg2 hc1 x1)) (ix3 T d n) = a.part (0 / 6) d.val (768 * (0 % 6) + n.val) :=
    fun f T d n hT => (start i arg2 harg2 arg21 hc1 x1 hs h1 f T d n hT).trans (by rw [h6])
  have e6 := k0_off6_eq i
  have e9 := k0_off9_eq i
  have q1 : ∀ f, ∀ (T : Fin 6) (d : Fin 1152) (n : Fin 768), T.val = 0 % 6 → 256 ≤ n.val → arg21.view.read (Elt Ideal) (arg21.view.writes (Elt Ideal) f (M1 i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 hc1 x0 x1 x2 x3 x4 x5 x6 x7 x8 x9 x10 x11 x12 x13 xs0 xs1 xs2)) (ix3 T d n) = a.part (0 / 6) d.val (768 * (0 % 6) + n.val) :=
    fun f T d n hT hn => (miss3 (Val := Elt Ideal) (e := .f32) arg21.view f (k0_off6_inb i) e6 _ _ T d n (Or.inr (Or.inr (Or.inr (by omega))))).trans (q0 f T d n hT)
  have q2 : ∀ f, ∀ (T : Fin 6) (d : Fin 1152) (n : Fin 768), T.val = 0 % 6 → 512 ≤ n.val → arg21.view.read (Elt Ideal) (arg21.view.writes (Elt Ideal) f (M2 i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 hc1 x0 x1 x2 x3 x4 x5 x6 x7 x8 x9 x10 x11 x12 x13 xs0 xs1 xs2)) (ix3 T d n) = a.part (0 / 6) d.val (768 * (0 % 6) + n.val) :=
    fun f T d n hT hn => (miss3 (Val := Elt Ideal) (e := .f32) arg21.view f (k0_off9_inb i) e9 _ _ T d n (Or.inr (Or.inr (Or.inr (by omega))))).trans (q1 f T d n hT (by omega))
  exact Pure.after hs B (load_full _ _ _ _) (load_full _ _ _ _) (load_full _ _ _ _) (load_full _ _ _ _) (load_full _ _ _ _) (load_full _ _ _ _) arg1 harg1
    arg18.view (harg18.unread xs0) [⟨Rect.unit ![0, 640, 0] S1x128x1152.size inb_S2x768x1152_S1x128x1152_0_640_0, decGU (arg3.view.readAt (Elt Ideal) (Rect.unit (s := S768x1152) ![640, 0] S128x1152.size inb_S768x1152_S128x1152_640_0).toLoadRect (harg3.unread x2)) (arg4.view.readAt (Elt Ideal) (Rect.unit (s := S768x36) ![640, 0] S128x36.size inb_S768x36_S128x36_640_0).toLoadRect (harg4.unread x3))⟩, ⟨Rect.unit ![0, 512, 0] S1x128x1152.size inb_S2x768x1152_S1x128x1152_0_512_0, decGU (arg3.view.readAt (Elt Ideal) (Rect.unit (s := S768x1152) ![512, 0] S128x1152.size inb_S768x1152_S128x1152_512_0).toLoadRect (harg3.unread x2)) (arg4.view.readAt (Elt Ideal) (Rect.unit (s := S768x36) ![512, 0] S128x36.size inb_S768x36_S128x36_512_0).toLoadRect (harg4.unread x3))⟩, ⟨Rect.unit ![0, 384, 0] S1x128x1152.size inb_S2x768x1152_S1x128x1152_0_384_0, decGU (arg3.view.readAt (Elt Ideal) (Rect.unit (s := S768x1152) ![384, 0] S128x1152.size inb_S768x1152_S128x1152_384_0).toLoadRect (harg3.unread x2)) (arg4.view.readAt (Elt Ideal) (Rect.unit (s := S768x36) ![384, 0] S128x36.size inb_S768x36_S128x36_384_0).toLoadRect (harg4.unread x3))⟩, ⟨Rect.unit ![0, 256, 0] S1x128x1152.size inb_S2x768x1152_S1x128x1152_0_256_0, decGU (arg3.view.readAt (Elt Ideal) (Rect.unit (s := S768x1152) ![256, 0] S128x1152.size inb_S768x1152_S128x1152_256_0).toLoadRect (harg3.unread x2)) (arg4.view.readAt (Elt Ideal) (Rect.unit (s := S768x36) ![256, 0] S128x36.size inb_S768x36_S128x36_256_0).toLoadRect (harg4.unread x3))⟩, ⟨Rect.unit ![0, 128, 0] S1x128x1152.size inb_S2x768x1152_S1x128x1152_0_128_0, decGU (arg3.view.readAt (Elt Ideal) (Rect.unit (s := S768x1152) ![128, 0] S128x1152.size inb_S768x1152_S128x1152_128_0).toLoadRect (harg3.unread x2)) (arg4.view.readAt (Elt Ideal) (Rect.unit (s := S768x36) ![128, 0] S128x36.size inb_S768x36_S128x36_128_0).toLoadRect (harg4.unread x3))⟩, ⟨Rect.unit ![0, 0, 0] S1x128x1152.size inb_S2x768x1152_S1x128x1152_0_0_0, decGU (arg3.view.readAt (Elt Ideal) (Rect.unit (s := S768x1152) ![0, 0] S128x1152.size inb_S768x1152_S128x1152_0_0).toLoadRect (harg3.unread x2)) (arg4.view.readAt (Elt Ideal) (Rect.unit (s := S768x36) ![0, 0] S128x36.size inb_S768x36_S128x36_0_0).toLoadRect (harg4.unread x3))⟩] arg19.view (harg19.unread xs1) [⟨Rect.unit ![0, 640, 0] S1x128x1152.size inb_S2x768x1152_S1x128x1152_0_640_0, decGU (arg5.view.readAt (Elt Ideal) (Rect.unit (s := S768x1152) ![640, 0] S128x1152.size inb_S768x1152_S128x1152_640_0).toLoadRect (harg5.unread x4)) (arg6.view.readAt (Elt Ideal) (Rect.unit (s := S768x36) ![640, 0] S128x36.size inb_S768x36_S128x36_640_0).toLoadRect (harg6.unread x5))⟩, ⟨Rect.unit ![0, 512, 0] S1x128x1152.size inb_S2x768x1152_S1x128x1152_0_512_0, decGU (arg5.view.readAt (Elt Ideal) (Rect.unit (s := S768x1152) ![512, 0] S128x1152.size inb_S768x1152_S128x1152_512_0).toLoadRect (harg5.unread x4)) (arg6.view.readAt (Elt Ideal) (Rect.unit (s := S768x36) ![512, 0] S128x36.size inb_S768x36_S128x36_512_0).toLoadRect (harg6.unread x5))⟩, ⟨Rect.unit ![0, 384, 0] S1x128x1152.size inb_S2x768x1152_S1x128x1152_0_384_0, decGU (arg5.view.readAt (Elt Ideal) (Rect.unit (s := S768x1152) ![384, 0] S128x1152.size inb_S768x1152_S128x1152_384_0).toLoadRect (harg5.unread x4)) (arg6.view.readAt (Elt Ideal) (Rect.unit (s := S768x36) ![384, 0] S128x36.size inb_S768x36_S128x36_384_0).toLoadRect (harg6.unread x5))⟩, ⟨Rect.unit ![0, 256, 0] S1x128x1152.size inb_S2x768x1152_S1x128x1152_0_256_0, decGU (arg5.view.readAt (Elt Ideal) (Rect.unit (s := S768x1152) ![256, 0] S128x1152.size inb_S768x1152_S128x1152_256_0).toLoadRect (harg5.unread x4)) (arg6.view.readAt (Elt Ideal) (Rect.unit (s := S768x36) ![256, 0] S128x36.size inb_S768x36_S128x36_256_0).toLoadRect (harg6.unread x5))⟩, ⟨Rect.unit ![0, 128, 0] S1x128x1152.size inb_S2x768x1152_S1x128x1152_0_128_0, decGU (arg5.view.readAt (Elt Ideal) (Rect.unit (s := S768x1152) ![128, 0] S128x1152.size inb_S768x1152_S128x1152_128_0).toLoadRect (harg5.unread x4)) (arg6.view.readAt (Elt Ideal) (Rect.unit (s := S768x36) ![128, 0] S128x36.size inb_S768x36_S128x36_128_0).toLoadRect (harg6.unread x5))⟩, ⟨Rect.unit ![0, 0, 0] S1x128x1152.size inb_S2x768x1152_S1x128x1152_0_0_0, decGU (arg5.view.readAt (Elt Ideal) (Rect.unit (s := S768x1152) ![0, 0] S128x1152.size inb_S768x1152_S128x1152_0_0).toLoadRect (harg5.unread x4)) (arg6.view.readAt (Elt Ideal) (Rect.unit (s := S768x36) ![0, 0] S128x36.size inb_S768x36_S128x36_0_0).toLoadRect (harg6.unread x5))⟩] arg20.view (harg20.unread xs2) [⟨Rect.unit ![0, 1024, 0] S1x128x768.size inb_S2x1152x768_S1x128x768_0_1024_0, decD128 0#32 (arg7.view.readAt (Elt Ideal) (Rect.unit (s := S1152x768) ![1024, 0] S128x768.size inb_S1152x768_S128x768_1024_0).toLoadRect (harg7.unread x6)) (arg14.view.readAt (Elt Ideal) (Rect.unit (s := S1152x216) ![1024, 0] S128x216.size inb_S1152x216_S128x216_1024_0).toLoadRect (harg14.unread x13))⟩, ⟨Rect.unit ![0, 896, 0] S1x128x768.size inb_S2x1152x768_S1x128x768_0_896_0, decD128 0#32 (arg7.view.readAt (Elt Ideal) (Rect.unit (s := S1152x768) ![896, 0] S128x768.size inb_S1152x768_S128x768_896_0).toLoadRect (harg7.unread x6)) (arg14.view.readAt (Elt Ideal) (Rect.unit (s := S1152x216) ![896, 0] S128x216.size inb_S1152x216_S128x216_896_0).toLoadRect (harg14.unread x13))⟩, ⟨Rect.unit ![0, 768, 0] S1x128x768.size inb_S2x1152x768_S1x128x768_0_768_0, decD128 0#32 (arg7.view.readAt (Elt Ideal) (Rect.unit (s := S1152x768) ![768, 0] S128x768.size inb_S1152x768_S128x768_768_0).toLoadRect (harg7.unread x6)) (arg14.view.readAt (Elt Ideal) (Rect.unit (s := S1152x216) ![768, 0] S128x216.size inb_S1152x216_S128x216_768_0).toLoadRect (harg14.unread x13))⟩, ⟨Rect.unit ![0, 640, 0] S1x128x768.size inb_S2x1152x768_S1x128x768_0_640_0, decD128 0#32 (arg7.view.readAt (Elt Ideal) (Rect.unit (s := S1152x768) ![640, 0] S128x768.size inb_S1152x768_S128x768_640_0).toLoadRect (harg7.unread x6)) (arg14.view.readAt (Elt Ideal) (Rect.unit (s := S1152x216) ![640, 0] S128x216.size inb_S1152x216_S128x216_640_0).toLoadRect (harg14.unread x13))⟩, ⟨Rect.unit ![0, 512, 0] S1x128x768.size inb_S2x1152x768_S1x128x768_0_512_0, decD128 0#32 (arg7.view.readAt (Elt Ideal) (Rect.unit (s := S1152x768) ![512, 0] S128x768.size inb_S1152x768_S128x768_512_0).toLoadRect (harg7.unread x6)) (arg14.view.readAt (Elt Ideal) (Rect.unit (s := S1152x216) ![512, 0] S128x216.size inb_S1152x216_S128x216_512_0).toLoadRect (harg14.unread x13))⟩, ⟨Rect.unit ![0, 384, 0] S1x128x768.size inb_S2x1152x768_S1x128x768_0_384_0, decD128 0#32 (arg7.view.readAt (Elt Ideal) (Rect.unit (s := S1152x768) ![384, 0] S128x768.size inb_S1152x768_S128x768_384_0).toLoadRect (harg7.unread x6)) (arg14.view.readAt (Elt Ideal) (Rect.unit (s := S1152x216) ![384, 0] S128x216.size inb_S1152x216_S128x216_384_0).toLoadRect (harg14.unread x13))⟩, ⟨Rect.unit ![0, 256, 0] S1x128x768.size inb_S2x1152x768_S1x128x768_0_256_0, decD128 0#32 (arg7.view.readAt (Elt Ideal) (Rect.unit (s := S1152x768) ![256, 0] S128x768.size inb_S1152x768_S128x768_256_0).toLoadRect (harg7.unread x6)) (arg14.view.readAt (Elt Ideal) (Rect.unit (s := S1152x216) ![256, 0] S128x216.size inb_S1152x216_S128x216_256_0).toLoadRect (harg14.unread x13))⟩, ⟨Rect.unit ![0, 128, 0] S1x128x768.size inb_S2x1152x768_S1x128x768_0_128_0, decD128 0#32 (arg7.view.readAt (Elt Ideal) (Rect.unit (s := S1152x768) ![128, 0] S128x768.size inb_S1152x768_S128x768_128_0).toLoadRect (harg7.unread x6)) (arg14.view.readAt (Elt Ideal) (Rect.unit (s := S1152x216) ![128, 0] S128x216.size inb_S1152x216_S128x216_128_0).toLoadRect (harg14.unread x13))⟩, ⟨Rect.unit ![0, 0, 0] S1x128x768.size inb_S2x1152x768_S1x128x768_0_0_0, decD128 0#32 (arg7.view.readAt (Elt Ideal) (Rect.unit (s := S1152x768) ![0, 0] S128x768.size inb_S1152x768_S128x768_0_0).toLoadRect (harg7.unread x6)) (arg14.view.readAt (Elt Ideal) (Rect.unit (s := S1152x216) ![0, 0] S128x216.size inb_S1152x216_S128x216_0_0).toLoadRect (harg14.unread x13))⟩]
    arg21.view (harg21.unread xs3) (M0 i arg2 harg2 hc1 x1) arg22.view (harg22.unread xs4)
    ⟨(gu_first (o := 640) arg18.view _ (WG a) a.wgc a.wgs (fun _ _ _ => rfl) arg3 harg3 x2 h2 arg4 harg4 x3 h3 5 rfl _ (gu_first (o := 512) arg18.view _ (WG a) a.wgc a.wgs (fun _ _ _ => rfl) arg3 harg3 x2 h2 arg4 harg4 x3 h3 4 rfl _ (gu_first (o := 384) arg18.view _ (WG a) a.wgc a.wgs (fun _ _ _ => rfl) arg3 harg3 x2 h2 arg4 harg4 x3 h3 3 rfl _ (gu_first (o := 256) arg18.view _ (WG a) a.wgc a.wgs (fun _ _ _ => rfl) arg3 harg3 x2 h2 arg4 harg4 x3 h3 2 rfl _ (gu_first (o := 128) arg18.view _ (WG a) a.wgc a.wgs (fun _ _ _ => rfl) arg3 harg3 x2 h2 arg4 harg4 x3 h3 1 rfl _ (gu_first (o := 0) arg18.view _ (WG a) a.wgc a.wgs (fun _ _ _ => rfl) arg3 harg3 x2 h2 arg4 harg4 x3 h3 0 rfl _ (Slot.none _) _ _ _) _ _ _) _ _ _) _ _ _) _ _ _) _ _ _), Slot.none _⟩ ⟨(gu_first (o := 640) arg19.view _ (WU a) a.wuc a.wus (fun _ _ _ => rfl) arg5 harg5 x4 h4 arg6 harg6 x5 h5 5 rfl _ (gu_first (o := 512) arg19.view _ (WU a) a.wuc a.wus (fun _ _ _ => rfl) arg5 harg5 x4 h4 arg6 harg6 x5 h5 4 rfl _ (gu_first (o := 384) arg19.view _ (WU a) a.wuc a.wus (fun _ _ _ => rfl) arg5 harg5 x4 h4 arg6 harg6 x5 h5 3 rfl _ (gu_first (o := 256) arg19.view _ (WU a) a.wuc a.wus (fun _ _ _ => rfl) arg5 harg5 x4 h4 arg6 harg6 x5 h5 2 rfl _ (gu_first (o := 128) arg19.view _ (WU a) a.wuc a.wus (fun _ _ _ => rfl) arg5 harg5 x4 h4 arg6 harg6 x5 h5 1 rfl _ (gu_first (o := 0) arg19.view _ (WU a) a.wuc a.wus (fun _ _ _ => rfl) arg5 harg5 x4 h4 arg6 harg6 x5 h5 0 rfl _ (Slot.none _) _ _ _) _ _ _) _ _ _) _ _ _) _ _ _) _ _ _), Slot.none _⟩ ⟨(d_first (o := 1024) arg20.view _ arg7 harg7 x6 h6' arg14 harg14 x13 h13 8 rfl _ (d_first (o := 896) arg20.view _ arg7 harg7 x6 h6' arg14 harg14 x13 h13 7 rfl _ (d_first (o := 768) arg20.view _ arg7 harg7 x6 h6' arg14 harg14 x13 h13 6 rfl _ (d_first (o := 640) arg20.view _ arg7 harg7 x6 h6' arg14 harg14 x13 h13 5 rfl _ (d_first (o := 512) arg20.view _ arg7 harg7 x6 h6' arg14 harg14 x13 h13 4 rfl _ (d_first (o := 384) arg20.view _ arg7 harg7 x6 h6' arg14 harg14 x13 h13 3 rfl _ (d_first (o := 256) arg20.view _ arg7 harg7 x6 h6' arg14 harg14 x13 h13 2 rfl _ (d_first (o := 128) arg20.view _ arg7 harg7 x6 h6' arg14 harg14 x13 h13 1 rfl _ (d_first (o := 0) arg20.view _ arg7 harg7 x6 h6' arg14 harg14 x13 h13 0 rfl _ (Slot.none _) _ _ _) _ _ _) _ _ _) _ _ _) _ _ _) _ _ _) _ _ _) _ _ _) _ _ _), Slot.none _⟩ (by rw [harg22.read_unread]; exact I22)
    (fun d n => acc_load hs arg21.view _ (k0_off6_inb i) e6 (by omega) _ (fun T d n hT _ => q0 _ T d n hT) d n)
    (fun d n => acc_load hs arg21.view _ (k0_off9_inb i) e9 (by omega) _ (fun T d n hT hn => q1 _ T d n hT hn) d n)
    (fun d n => acc_load hs arg21.view _ (k0_off11_inb i) (k0_off11_eq i) (by omega) _ (fun T d n hT hn => q2 _ T d n hT hn) d n)
    (fun T d n hT hd => (start_other i arg2 harg2 arg21 hc1 x1 hs _ T d n hT).trans (by rw [r21]; exact I21 T d n hd))
    _ _ _ _ _ _ rfl rfl rfl rfl rfl rfl

end CaseA

end Cert.KernelIdeal.Run
-- ==== Proof.KernelIdeal.Blocks.lean ====
/-
  The blocks of the arguments a grid step is handed, at an index: elements of the layer's arrays.
-/
module

public import proofs.«01_k».proof.Proof.Spec
public import proofs.«01_k».proof.Proof.KernelIdeal.Runs
public import Idealize.ShloMosaic.Lib.Pipeline.ValueKit.Geometry

@[expose] public section

set_option maxRecDepth 16384

noncomputable section

namespace Cert.KernelIdeal.Run

open Cert.KernelIdeal.Gen Cert.Spec
open Idealize.ShloMosaic Idealize.ShloMosaic.TcCoe
open Idealize.ShloMosaic.Rounds

variable (m : (ℓ : Loc nD τ sig) → Buf (Elt Ideal) ℓ) (c : Dev nD)

/-- The layer's arrays on core `c`. -/
def args : In := In.of (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))

/-- The grid has one axis: a point is its number. -/
theorem coords_val : ∀ t : Fin cfg0.N, (grid0.coords t 0).val = t.val := by decide +kernel

/-- Where window 0's block lies. -/
theorem index_0 : ∀ t : Fin cfg0.N, win0_0.index t = ![0, t.val % 6] := by decide +kernel

/-- Window 0's block at an index. -/
theorem blk_0 (t : Fin cfg0.N) (r : Fin 1152) (k : Fin 768) : iblk m c 0 t (ix2 r k) = (args m c).n2 (r.val) (768 * (t.val % 6) + k.val) := by
  blk_simp [iblk]
  refine at2_of _ _ _ _ _ ?_ ?_
  · blk_simp [index_0]
    try omega
  · blk_simp [index_0]
    try omega

/-- Where window 1's block lies. -/
theorem index_1 : ∀ t : Fin cfg0.N, win0_1.index t = ![0, min t.val 5] := by decide +kernel

/-- Window 1's block at an index. -/
theorem blk_1 (t : Fin cfg0.N) (r : Fin 1152) (k : Fin 768) : iblk m c 1 t (ix2 r k) = (args m c).r1 (r.val) (768 * min t.val 5 + k.val) := by
  blk_simp [iblk]
  refine at2_of _ _ _ _ _ ?_ ?_
  · blk_simp [index_1]
    try omega
  · blk_simp [index_1]
    try omega

/-- Where window 2's block lies. -/
theorem index_2 : ∀ t : Fin cfg0.N, win0_2.index t = ![0, 0] := by decide +kernel

/-- Window 2's block at an index. -/
theorem blk_2 (t : Fin cfg0.N) (r : Fin 768) (k : Fin 1152) : iblk m c 2 t (ix2 r k) = (args m c).wgc (r.val) (k.val) := by
  blk_simp [iblk]
  refine at2_of _ _ _ _ _ ?_ ?_
  · blk_simp [index_2]
    try omega
  · blk_simp [index_2]
    try omega

/-- Where window 3's block lies. -/
theorem index_3 : ∀ t : Fin cfg0.N, win0_3.index t = ![0, 0] := by decide +kernel

/-- Window 3's block at an index. -/
theorem blk_3 (t : Fin cfg0.N) (r : Fin 768) (k : Fin 36) : iblk m c 3 t (ix2 r k) = (args m c).wgs (r.val) (k.val) := by
  blk_simp [iblk]
  refine at2_of _ _ _ _ _ ?_ ?_
  · blk_simp [index_3]
    try omega
  · blk_simp [index_3]
    try omega

/-- Where window 4's block lies. -/
theorem index_4 : ∀ t : Fin cfg0.N, win0_4.index t = ![0, 0] := by decide +kernel

/-- Window 4's block at an index. -/
theorem blk_4 (t : Fin cfg0.N) (r : Fin 768) (k : Fin 1152) : iblk m c 4 t (ix2 r k) = (args m c).wuc (r.val) (k.val) := by
  blk_simp [iblk]
  refine at2_of _ _ _ _ _ ?_ ?_
  · blk_simp [index_4]
    try omega
  · blk_simp [index_4]
    try omega

/-- Where window 5's block lies. -/
theorem index_5 : ∀ t : Fin cfg0.N, win0_5.index t = ![0, 0] := by decide +kernel

/-- Window 5's block at an index. -/
theorem blk_5 (t : Fin cfg0.N) (r : Fin 768) (k : Fin 36) : iblk m c 5 t (ix2 r k) = (args m c).wus (r.val) (k.val) := by
  blk_simp [iblk]
  refine at2_of _ _ _ _ _ ?_ ?_
  · blk_simp [index_5]
    try omega
  · blk_simp [index_5]
    try omega

/-- Where window 6's block lies. -/
theorem index_6 : ∀ t : Fin cfg0.N, win0_6.index t = ![0, 0] := by decide +kernel

/-- Window 6's block at an index. -/
theorem blk_6 (t : Fin cfg0.N) (r : Fin 1152) (k : Fin 768) : iblk m c 6 t (ix2 r k) = (args m c).wdc (r.val) (k.val) := by
  blk_simp [iblk]
  refine at2_of _ _ _ _ _ ?_ ?_
  · blk_simp [index_6]
    try omega
  · blk_simp [index_6]
    try omega

/-- Where window 7's block lies. -/
theorem index_7 : ∀ t : Fin cfg0.N, win0_7.index t = ![6 * min (t.val / 6 + 1) 8 + t.val % 6, 0] := by decide +kernel

/-- Window 7's block at an index. -/
theorem blk_7 (t : Fin cfg0.N) (r : Fin 128) (k : Fin 1152) : iblk m c 7 t (ix2 r k) = (args m c).wgc (768 * min (t.val / 6 + 1) 8 + (128 * (t.val % 6) + r.val)) (k.val) := by
  blk_simp [iblk]
  refine at2_of _ _ _ _ _ ?_ ?_
  · blk_simp [index_7]
    try omega
  · blk_simp [index_7]
    try omega

/-- Where window 8's block lies. -/
theorem index_8 : ∀ t : Fin cfg0.N, win0_8.index t = ![6 * min (t.val / 6 + 1) 8 + t.val % 6, 0] := by decide +kernel

/-- Window 8's block at an index. -/
theorem blk_8 (t : Fin cfg0.N) (r : Fin 128) (k : Fin 36) : iblk m c 8 t (ix2 r k) = (args m c).wgs (768 * min (t.val / 6 + 1) 8 + (128 * (t.val % 6) + r.val)) (k.val) := by
  blk_simp [iblk]
  refine at2_of _ _ _ _ _ ?_ ?_
  · blk_simp [index_8]
    try omega
  · blk_simp [index_8]
    try omega

/-- Where window 9's block lies. -/
theorem index_9 : ∀ t : Fin cfg0.N, win0_9.index t = ![6 * min (t.val / 6 + 1) 8 + t.val % 6, 0] := by decide +kernel

/-- Window 9's block at an index. -/
theorem blk_9 (t : Fin cfg0.N) (r : Fin 128) (k : Fin 1152) : iblk m c 9 t (ix2 r k) = (args m c).wuc (768 * min (t.val / 6 + 1) 8 + (128 * (t.val % 6) + r.val)) (k.val) := by
  blk_simp [iblk]
  refine at2_of _ _ _ _ _ ?_ ?_
  · blk_simp [index_9]
    try omega
  · blk_simp [index_9]
    try omega

/-- Where window 10's block lies. -/
theorem index_10 : ∀ t : Fin cfg0.N, win0_10.index t = ![6 * min (t.val / 6 + 1) 8 + t.val % 6, 0] := by decide +kernel

/-- Window 10's block at an index. -/
theorem blk_10 (t : Fin cfg0.N) (r : Fin 128) (k : Fin 36) : iblk m c 10 t (ix2 r k) = (args m c).wus (768 * min (t.val / 6 + 1) 8 + (128 * (t.val % 6) + r.val)) (k.val) := by
  blk_simp [iblk]
  refine at2_of _ _ _ _ _ ?_ ?_
  · blk_simp [index_10]
    try omega
  · blk_simp [index_10]
    try omega

/-- Where window 11's block lies. -/
theorem index_11 : ∀ t : Fin cfg0.N, win0_11.index t = ![t.val % 6, min (t.val / 6 + 1) 8] := by decide +kernel

/-- Window 11's block at an index. -/
theorem blk_11 (t : Fin cfg0.N) (r : Fin 192) (k : Fin 768) : iblk m c 11 t (ix2 r k) = (args m c).wdc (192 * (t.val % 6) + r.val) (768 * min (t.val / 6 + 1) 8 + k.val) := by
  blk_simp [iblk]
  refine at2_of _ _ _ _ _ ?_ ?_
  · blk_simp [index_11]
    try omega
  · blk_simp [index_11]
    try omega

/-- Where window 12's block lies. -/
theorem index_12 : ∀ t : Fin cfg0.N, win0_12.index t = ![t.val % 6, 0] := by decide +kernel

/-- Window 12's block at an index. -/
theorem blk_12 (t : Fin cfg0.N) (r : Fin 192) (k : Fin 216) : iblk m c 12 t (ix2 r k) = (args m c).wds (192 * (t.val % 6) + r.val) (k.val) := by
  blk_simp [iblk]
  refine at2_of _ _ _ _ _ ?_ ?_
  · blk_simp [index_12]
    try omega
  · blk_simp [index_12]
    try omega

/-- Where window 13's block lies. -/
theorem index_13 : ∀ t : Fin cfg0.N, win0_13.index t = ![0, 0] := by decide +kernel

/-- Window 13's block at an index. -/
theorem blk_13 (t : Fin cfg0.N) (r : Fin 1152) (k : Fin 216) : iblk m c 13 t (ix2 r k) = (args m c).wds (r.val) (k.val) := by
  blk_simp [iblk]
  refine at2_of _ _ _ _ _ ?_ ?_
  · blk_simp [index_13]
    try omega
  · blk_simp [index_13]
    try omega

/-- Where window 14's block lies. -/
theorem index_14 : ∀ t : Fin cfg0.N, win0_14.index t = ![t.val - 48, 0] := by decide +kernel

/-- Where window 15's block lies. -/
theorem index_15 : ∀ t : Fin cfg0.N, win0_15.index t = ![t.val % 6, t.val / 6] := by decide +kernel

/-- Where window 16's block lies. -/
theorem index_16 : ∀ t : Fin cfg0.N, win0_16.index t = ![t.val - 48, 0] := by decide +kernel

end Cert.KernelIdeal.Run
-- ==== Proof.KernelIdeal.Held.lean ====
/-
  What the buffers hold between steps, and the body at a point whose run is known.
-/
module

public import proofs.«01_k».proof.Proof.KernelIdeal.Body
public import proofs.«01_k».proof.Proof.KernelIdeal.Blocks
public import Idealize.ShloMosaic.Lib.Claim

@[expose] public section

set_option maxRecDepth 16384

noncomputable section

namespace Cert.KernelIdeal.Run

open Cert.KernelIdeal.Gen Cert.KernelIdeal.Pure Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- Between steps: the scratch buffers hold what the next step should find, the generator register anything. -/
def Held (c : Dev nD) (s : ℕ) : sProp 𝕄 :=
  iprop(∃ x0 x1 x2 x3 x4, ⌜Inv (args m c) s x0 x1 x2 x3 x4⌝ ∗ iprop(owns (c : Thread nD τ) scM0_0 fullShare x0 ∗ owns (c : Thread nD τ) scM0_1 fullShare x1 ∗ owns (c : Thread nD τ) scM0_2 fullShare x2 ∗ owns (c : Thread nD τ) scM0_3 fullShare x3 ∗ owns (c : Thread nD τ) scM0_4 fullShare x4) ∗ (∃ r, prngReg c r))

/-- The block of the layer's output a step would leave. -/
def outY (c : Dev nD) (s : ℕ) : Vec Ideal S768x1152 .bf16 := fun y => (args m c).part 9 (y 1).val (768 * (s % 6) + (y 0).val)
/-- The block of the layer's codes a step leaves. -/
def outC (c : Dev nD) (s : ℕ) : Vec Ideal S768x768 .fp8e4m3 := fun y => (args m c).code (768 * (s / 6) + (y 1).val) (768 * (s % 6) + (y 0).val)
/-- The block of the layer's scale bytes a step would leave. -/
def outS (c : Dev nD) (s : ℕ) : Vec Ideal S768x216 .i8 := fun y => ((args m c).byte (y 1).val (768 * (s % 6) + (y 0).val)).setWidth 8

/-- The proof data of the one pipeline on core `c`: the arrays as the region finds them; after the body each input's buffer at its block and the outputs' at the layer's results;
    between points the scratch buffers at what the next step should find; nothing owed; each input's share of its array. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outY m c t.val
    | ⟨15, _⟩ => outC m c t.val
    | ⟨16, _⟩ => outS m c t.val
    | ⟨_ + 17, h⟩ => absurd h (Nat.not_lt.2 (Nat.le_add_left _ _))
  Φ t := Held m c t.val
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]
/-- What the body leaves in window 8. -/
theorem after0_8 (c : Dev nD) (t : Fin cfg0.N) : (dats m 0 c).after 8 t = iblk m c 8 t := by dsimp only [dats]
/-- What the body leaves in window 9. -/
theorem after0_9 (c : Dev nD) (t : Fin cfg0.N) : (dats m 0 c).after 9 t = iblk m c 9 t := by dsimp only [dats]
/-- What the body leaves in window 10. -/
theorem after0_10 (c : Dev nD) (t : Fin cfg0.N) : (dats m 0 c).after 10 t = iblk m c 10 t := by dsimp only [dats]
/-- What the body leaves in window 11. -/
theorem after0_11 (c : Dev nD) (t : Fin cfg0.N) : (dats m 0 c).after 11 t = iblk m c 11 t := by dsimp only [dats]
/-- What the body leaves in window 12. -/
theorem after0_12 (c : Dev nD) (t : Fin cfg0.N) : (dats m 0 c).after 12 t = iblk m c 12 t := by dsimp only [dats]
/-- What the body leaves in window 13. -/
theorem after0_13 (c : Dev nD) (t : Fin cfg0.N) : (dats m 0 c).after 13 t = iblk m c 13 t := by dsimp only [dats]
/-- What the body leaves in window 14. -/
theorem after0_14 (c : Dev nD) (t : Fin cfg0.N) : (dats m 0 c).after 14 t = outY m c t.val := by dsimp only [dats]
/-- What the body leaves in window 15. -/
theorem after0_15 (c : Dev nD) (t : Fin cfg0.N) : (dats m 0 c).after 15 t = outC m c t.val := by dsimp only [dats]
/-- What the body leaves in window 16. -/
theorem after0_16 (c : Dev nD) (t : Fin cfg0.N) : (dats m 0 c).after 16 t = outS m c t.val := by dsimp only [dats]

/-- Input 0's current staging buffer holds its block at every point. -/
theorem before0_0 (c : Dev nD) (t : Fin cfg0.N) (d) : (dats m 0 c).before 0 t d = iblk m c 0 t :=
  before0_0_of m (dats m 0 c) (A_eq m c 0) (after0_0 m c) t d
/-- Input 1's current staging buffer holds its block at every point. -/
theorem before0_1 (c : Dev nD) (t : Fin cfg0.N) (d) : (dats m 0 c).before 1 t d = iblk m c 1 t :=
  before0_1_of m (dats m 0 c) (A_eq m c 1) (after0_1 m c) t d
/-- Input 2's current staging buffer holds its block at every point. -/
theorem before0_2 (c : Dev nD) (t : Fin cfg0.N) (d) : (dats m 0 c).before 2 t d = iblk m c 2 t :=
  before0_2_of m (dats m 0 c) (A_eq m c 2) (after0_2 m c) t d
/-- Input 3's current staging buffer holds its block at every point. -/
theorem before0_3 (c : Dev nD) (t : Fin cfg0.N) (d) : (dats m 0 c).before 3 t d = iblk m c 3 t :=
  before0_3_of m (dats m 0 c) (A_eq m c 3) (after0_3 m c) t d
/-- Input 4's current staging buffer holds its block at every point. -/
theorem before0_4 (c : Dev nD) (t : Fin cfg0.N) (d) : (dats m 0 c).before 4 t d = iblk m c 4 t :=
  before0_4_of m (dats m 0 c) (A_eq m c 4) (after0_4 m c) t d
/-- Input 5's current staging buffer holds its block at every point. -/
theorem before0_5 (c : Dev nD) (t : Fin cfg0.N) (d) : (dats m 0 c).before 5 t d = iblk m c 5 t :=
  before0_5_of m (dats m 0 c) (A_eq m c 5) (after0_5 m c) t d
/-- Input 6's current staging buffer holds its block at every point. -/
theorem before0_6 (c : Dev nD) (t : Fin cfg0.N) (d) : (dats m 0 c).before 6 t d = iblk m c 6 t :=
  before0_6_of m (dats m 0 c) (A_eq m c 6) (after0_6 m c) t d
/-- Input 7's current staging buffer holds its block at every point. -/
theorem before0_7 (c : Dev nD) (t : Fin cfg0.N) (d) : (dats m 0 c).before 7 t d = iblk m c 7 t :=
  before0_7_of m (dats m 0 c) (A_eq m c 7) (after0_7 m c) t d
/-- Input 8's current staging buffer holds its block at every point. -/
theorem before0_8 (c : Dev nD) (t : Fin cfg0.N) (d) : (dats m 0 c).before 8 t d = iblk m c 8 t :=
  before0_8_of m (dats m 0 c) (A_eq m c 8) (after0_8 m c) t d
/-- Input 9's current staging buffer holds its block at every point. -/
theorem before0_9 (c : Dev nD) (t : Fin cfg0.N) (d) : (dats m 0 c).before 9 t d = iblk m c 9 t :=
  before0_9_of m (dats m 0 c) (A_eq m c 9) (after0_9 m c) t d
/-- Input 10's current staging buffer holds its block at every point. -/
theorem before0_10 (c : Dev nD) (t : Fin cfg0.N) (d) : (dats m 0 c).before 10 t d = iblk m c 10 t :=
  before0_10_of m (dats m 0 c) (A_eq m c 10) (after0_10 m c) t d
/-- Input 11's current staging buffer holds its block at every point. -/
theorem before0_11 (c : Dev nD) (t : Fin cfg0.N) (d) : (dats m 0 c).before 11 t d = iblk m c 11 t :=
  before0_11_of m (dats m 0 c) (A_eq m c 11) (after0_11 m c) t d
/-- Input 12's current staging buffer holds its block at every point. -/
theorem before0_12 (c : Dev nD) (t : Fin cfg0.N) (d) : (dats m 0 c).before 12 t d = iblk m c 12 t :=
  before0_12_of m (dats m 0 c) (A_eq m c 12) (after0_12 m c) t d
/-- Input 13's current staging buffer holds its block at every point. -/
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

/-- What has to be known of the body's run at point `t` from scratch contents `xs0` … `xs4`: that it stores lists of pieces after which the buffers are as they should be
    (`After`), and leaves the two windows of the last steps as it should. -/
def Stores (c : Dev nD) (t : Fin cfg0.N) (xs0 : Vec Ideal S2x768x1152 .bf16) (xs1 : Vec Ideal S2x768x1152 .bf16) (xs2 : Vec Ideal S2x1152x768 .bf16) (xs3 : Vec Ideal S6x1152x768 .f32) (xs4 : Vec Ideal S6x216x768 .i32) : Prop :=
  ∀ (d14 : Vec Ideal S768x1152 .bf16) (d16 : Vec Ideal S768x216 .i8), ∃ (P14 Q14 P16 Q16 : sProp 𝕄) (L15 : List (View.Piece (Elt Ideal) S768x768 .fp8e4m3)) (LS0 : List (View.Piece (Elt Ideal) S2x768x1152 .bf16)) (LS1 : List (View.Piece (Elt Ideal) S2x768x1152 .bf16)) (LS2 : List (View.Piece (Elt Ideal) S2x1152x768 .bf16)) (LS3 : List (View.Piece (Elt Ideal) S6x1152x768 .f32)) (LS4 : List (View.Piece (Elt Ideal) S6x216x768 .i32)),
    (∀ K : PUnit → sProp 𝕄, iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ P14 ∗ (∃ d, owns (c : Thread nD τ) (ms0_15 t) fullShare d) ∗ P16 ∗ owns (c : Thread nD τ) scM0_0 fullShare xs0 ∗ owns (c : Thread nD τ) scM0_1 fullShare xs1 ∗ owns (c : Thread nD τ) scM0_2 fullShare xs2 ∗ owns (c : Thread nD τ) scM0_3 fullShare xs3 ∗ owns (c : Thread nD τ) scM0_4 fullShare xs4
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ Q14 ∗ (∃ f, (ms0_15 t).view.loc (c : Thread nD τ) ↦[(ms0_15 t).view.set]{fullShare} (ms0_15 t).view.writes (Elt Ideal) f L15) ∗ Q16 ∗ (scM0_0.view.loc (c : Thread nD τ) ↦[scM0_0.view.set]{fullShare} scM0_0.view.writes (Elt Ideal) ((Memref.isWhole_whole cc0_scratch0).unread xs0) LS0) ∗ (scM0_1.view.loc (c : Thread nD τ) ↦[scM0_1.view.set]{fullShare} scM0_1.view.writes (Elt Ideal) ((Memref.isWhole_whole cc0_scratch1).unread xs1) LS1) ∗ (scM0_2.view.loc (c : Thread nD τ) ↦[scM0_2.view.set]{fullShare} scM0_2.view.writes (Elt Ideal) ((Memref.isWhole_whole cc0_scratch2).unread xs2) LS2) ∗ (scM0_3.view.loc (c : Thread nD τ) ↦[scM0_3.view.set]{fullShare} scM0_3.view.writes (Elt Ideal) ((Memref.isWhole_whole cc0_scratch3).unread xs3) LS3) ∗ (scM0_4.view.loc (c : Thread nD τ) ↦[scM0_4.view.set]{fullShare} scM0_4.view.writes (Elt Ideal) ((Memref.isWhole_whole cc0_scratch4).unread xs4) LS4)) -∗ K ⟨⟩))
      ⊢ wp frame (wpE (defs₀ (F := Ideal)) Variants.none c none) Set.univ (bodyAt0 t) K)
    ∧ After (args m c) t.val (scM0_0.view.read (Elt Ideal) (scM0_0.view.writes (Elt Ideal) ((Memref.isWhole_whole cc0_scratch0).unread xs0) LS0)) (scM0_1.view.read (Elt Ideal) (scM0_1.view.writes (Elt Ideal) ((Memref.isWhole_whole cc0_scratch1).unread xs1) LS1)) (scM0_2.view.read (Elt Ideal) (scM0_2.view.writes (Elt Ideal) ((Memref.isWhole_whole cc0_scratch2).unread xs2) LS2)) (scM0_3.view.read (Elt Ideal) (scM0_3.view.writes (Elt Ideal) ((Memref.isWhole_whole cc0_scratch3).unread xs3) LS3)) (scM0_4.view.read (Elt Ideal) (scM0_4.view.writes (Elt Ideal) ((Memref.isWhole_whole cc0_scratch4).unread xs4) LS4)) L15 LS3
    ∧ (owns (c : Thread nD τ) (ms0_14 t) fullShare ((dats m 0 c).before 14 t d14) ⊢ P14) ∧ (owns (c : Thread nD τ) (ms0_16 t) fullShare ((dats m 0 c).before 16 t d16) ⊢ P16) ∧ (Q14 ⊢ (dats m 0 c).leavesExact 14 t) ∧ (Q16 ⊢ (dats m 0 c).leavesExact 16 t)

/-- The step's statement, of lists of pieces equal to its own. -/
theorem After.of_eq {a : In} {s : ℕ} {sp18 sp19 sp20 sp21 sp22 : Space} {v18 : View sig .tc sp18 S2x768x1152 .bf16} {f18 : v18.ty.Contents (Elt Ideal)} {L0 L0' : List (View.Piece (Elt Ideal) S2x768x1152 .bf16)}
    {v19 : View sig .tc sp19 S2x768x1152 .bf16} {f19 : v19.ty.Contents (Elt Ideal)} {L1 L1' : List (View.Piece (Elt Ideal) S2x768x1152 .bf16)}
    {v20 : View sig .tc sp20 S2x1152x768 .bf16} {f20 : v20.ty.Contents (Elt Ideal)} {L2 L2' : List (View.Piece (Elt Ideal) S2x1152x768 .bf16)}
    {v21 : View sig .tc sp21 S6x1152x768 .f32} {f21 : v21.ty.Contents (Elt Ideal)} {L3 L3' : List (View.Piece (Elt Ideal) S6x1152x768 .f32)}
    {v22 : View sig .tc sp22 S6x216x768 .i32} {f22 : v22.ty.Contents (Elt Ideal)} {L4 L4' : List (View.Piece (Elt Ideal) S6x216x768 .i32)}
    {L15 L15' : List (View.Piece (Elt Ideal) S768x768 .fp8e4m3)} (e0 : L0' = L0) (e1 : L1' = L1) (e2 : L2' = L2) (e3 : L3' = L3) (e4 : L4' = L4) (e15 : L15' = L15)
    (h : After a s (v18.read (Elt Ideal) (v18.writes (Elt Ideal) f18 L0)) (v19.read (Elt Ideal) (v19.writes (Elt Ideal) f19 L1)) (v20.read (Elt Ideal) (v20.writes (Elt Ideal) f20 L2))
      (v21.read (Elt Ideal) (v21.writes (Elt Ideal) f21 L3)) (v22.read (Elt Ideal) (v22.writes (Elt Ideal) f22 L4)) L15 L3) :
    After a s (v18.read (Elt Ideal) (v18.writes (Elt Ideal) f18 L0')) (v19.read (Elt Ideal) (v19.writes (Elt Ideal) f19 L1')) (v20.read (Elt Ideal) (v20.writes (Elt Ideal) f20 L2'))
      (v21.read (Elt Ideal) (v21.writes (Elt Ideal) f21 L3')) (v22.read (Elt Ideal) (v22.writes (Elt Ideal) f22 L4')) L15' L3' := by
  subst e0 e1 e2 e3 e4 e15
  exact h

/-- What the pieces leave in the codes' window is the layer's codes. -/
theorem codes_window (c : Dev nD) (t : Fin cfg0.N) {x18 x19 x20 x21 x22 L15 L21} (h : After (args m c) t.val x18 x19 x20 x21 x22 L15 L21) (f) :
    (ms0_15 t).view.read (Elt Ideal) ((ms0_15 t).view.writes (Elt Ideal) f L15) = outC m c t.val := by
  funext y
  rw [eq_ix2 y]
  exact h.codes _ (ms0_15 t).view f _ _

set_option maxHeartbeats 8000000 in
/-- The body at a point whose run is known. -/
theorem sound_of (c : Dev nD) (t : Fin cfg0.N) (step : ∀ (xs0 : Vec Ideal S2x768x1152 .bf16) (xs1 : Vec Ideal S2x768x1152 .bf16) (xs2 : Vec Ideal S2x1152x768 .bf16) (xs3 : Vec Ideal S6x1152x768 .f32) (xs4 : Vec Ideal S6x216x768 .i32), Inv (args m c) t.val xs0 xs1 xs2 xs3 xs4 → Stores m c t xs0 xs1 xs2 xs3 xs4) :
    bodyPre m c t ⊢ wp frame (wpE (defs₀ (F := Ideal)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    show (dats m 0 c).Φ t.castSucc = Held m c t.val from rfl, show (dats m 0 c).Φ t.succ = Held m c (t.val + 1) from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 15 t = owns (c : Thread nD τ) (ms0_15 t) fullShare ((dats m 0 c).after 15 t) from by
    unfold Dat.leavesExact; rw [liveAt0_15 t], after0_15]
  unfold Held
  iintro ⟨⟨%xs0, %xs1, %xs2, %xs3, %xs4, %hI, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  obtain ⟨P14, Q14, P16, Q16, L15, LS0, LS1, LS2, LS3, LS4, hrun, hA, p14, p16, q14, q16⟩ := step xs0 xs1 xs2 xs3 xs4 hI d14 d16
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply p14; iexact H14
  isplitl [H15]; · iexists _; iexact H15
  isplitl [H16]; · iapply p16; iexact H16
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, ⟨%e15, H15⟩, H16, HS0, HS1, HS2, HS3, HS4⟩
  isplitl [HS0 HS1 HS2 HS3 HS4 Hg]
  · iexists (scM0_0.view.read (Elt Ideal) (scM0_0.view.writes (Elt Ideal) ((Memref.isWhole_whole cc0_scratch0).unread xs0) LS0))
    iexists (scM0_1.view.read (Elt Ideal) (scM0_1.view.writes (Elt Ideal) ((Memref.isWhole_whole cc0_scratch1).unread xs1) LS1))
    iexists (scM0_2.view.read (Elt Ideal) (scM0_2.view.writes (Elt Ideal) ((Memref.isWhole_whole cc0_scratch2).unread xs2) LS2))
    iexists (scM0_3.view.read (Elt Ideal) (scM0_3.view.writes (Elt Ideal) ((Memref.isWhole_whole cc0_scratch3).unread xs3) LS3))
    iexists (scM0_4.view.read (Elt Ideal) (scM0_4.view.writes (Elt Ideal) ((Memref.isWhole_whole cc0_scratch4).unread xs4) LS4))
    isplitr; · ipureintro; exact hA.inv
    isplitl [HS0 HS1 HS2 HS3 HS4]
    · isplitl [HS0]
      · unfold owns; iexists _; isplitr
        swap; · iexact HS0
        ipureintro; rfl
      isplitl [HS1]
      · unfold owns; iexists _; isplitr
        swap; · iexact HS1
        ipureintro; rfl
      isplitl [HS2]
      · unfold owns; iexists _; isplitr
        swap; · iexact HS2
        ipureintro; rfl
      isplitl [HS3]
      · unfold owns; iexists _; isplitr
        swap; · iexact HS3
        ipureintro; rfl
      unfold owns; iexists _; isplitr
      swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply q14; iexact H14
  isplitl [H15]
  · unfold owns; iexists _; isplitr
    swap; · iexact H15
    ipureintro; exact codes_window m c t hA _
  iapply q16; iexact H16

/-- The blocks a step reads are the layer's. -/
theorem blocks (c : Dev nD) (t : Fin cfg0.N) : Blk (args m c) t.val (iblk m c 0 t) (iblk m c 7 t) (iblk m c 8 t) (iblk m c 9 t) (iblk m c 10 t) (iblk m c 11 t) (iblk m c 12 t) :=
  ⟨blk_0 m c t, blk_7 m c t, blk_8 m c t, blk_9 m c t, blk_10 m c t, blk_11 m c t, blk_12 m c t⟩

end Cert.KernelIdeal.Run
-- ==== Proof.KernelIdeal.StoresA.lean ====
/-
  The run at the first point: what it stores is what the layer says.
-/
module

public import proofs.«01_k».proof.Proof.KernelIdeal.AfterA
public import proofs.«01_k».proof.Proof.KernelIdeal.Held

@[expose] public section

set_option maxRecDepth 16384

noncomputable section

namespace Cert.KernelIdeal.Run

open Cert.KernelIdeal.Gen Cert.KernelIdeal.Pure Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

namespace CaseA

variable (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : cond0_0 i) (hc1 : cond0_1 i) (hc2 : ¬cond0_2 i) (x0 : Vec Ideal S1152x768 .bf16) (x1 : Vec Ideal S1152x768 .f32) (x2 : Vec Ideal S768x1152 .fp8e4m3) (x3 : Vec Ideal S768x36 .i8) (x4 : Vec Ideal S768x1152 .fp8e4m3) (x5 : Vec Ideal S768x36 .i8) (x6 : Vec Ideal S1152x768 .fp8e4m3) (x7 : Vec Ideal S128x1152 .fp8e4m3) (x8 : Vec Ideal S128x36 .i8) (x9 : Vec Ideal S128x1152 .fp8e4m3) (x10 : Vec Ideal S128x36 .i8) (x11 : Vec Ideal S192x768 .fp8e4m3) (x12 : Vec Ideal S192x216 .i8) (x13 : Vec Ideal S1152x216 .i8) (xs0 : Vec Ideal S2x768x1152 .bf16) (xs1 : Vec Ideal S2x768x1152 .bf16) (xs2 : Vec Ideal S2x1152x768 .bf16) (xs3 : Vec Ideal S6x1152x768 .f32)

set_option maxHeartbeats 1000000 in
/-- The step, of the pieces the body's run stores. -/
theorem after_run (xs4 : Vec Ideal S6x216x768 .i32) {a : In} {s : ℕ} (hs : (i 0).val = s) (h0 : s = 0) (B : Blk a s x0 x7 x8 x9 x10 x11 x12)  (h1 : ∀ d n, x1 (ix2 d n) = a.r1 d.val (768 * (s % 6) + n.val)) (h2 : ∀ r k, x2 (ix2 r k) = a.wgc (768 * 0 + r.val) k.val) (h3 : ∀ r k, x3 (ix2 r k) = a.wgs (768 * 0 + r.val) k.val)
    (h4 : ∀ r k, x4 (ix2 r k) = a.wuc (768 * 0 + r.val) k.val) (h5 : ∀ r k, x5 (ix2 r k) = a.wus (768 * 0 + r.val) k.val)
    (h6' : ∀ r k, x6 (ix2 r k) = a.wdc r.val (768 * 0 + k.val)) (h13 : ∀ r k, x13 (ix2 r k) = a.wds r.val k.val)

    (I : Inv a s xs0 xs1 xs2 xs3 xs4) : After a s (arg18.view.read (Elt Ideal) (arg18.view.writes (Elt Ideal) (harg18.unread xs0) ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.1))) (arg19.view.read (Elt Ideal) (arg19.view.writes (Elt Ideal) (harg19.unread xs1) ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.1))) (arg20.view.read (Elt Ideal) (arg20.view.writes (Elt Ideal) (harg20.unread xs2) ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.1))) (arg21.view.read (Elt Ideal) (arg21.view.writes (Elt Ideal) (harg21.unread xs3) ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.2.1))) (arg22.view.read (Elt Ideal) (arg22.view.writes (Elt Ideal) (harg22.unread xs4) ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.2.2.1))) ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.1) ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.2.1) := by
  exact After.of_eq (run_LS0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3) (run_LS1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3) (run_LS2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3) (run_LS3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3) (run_LS4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3) (run_L15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3)
    (after i arg1 harg1 arg2 harg2 arg3 harg3 arg4 harg4 arg5 harg5 arg6 harg6 arg7 harg7 arg8 harg8 arg9 harg9 arg10 harg10 arg11 harg11 arg12 harg12 arg13 harg13 arg14 harg14 arg18 harg18 arg19 harg19 arg20 harg20 arg21 harg21 arg22 harg22 hc1 x0 x1 x2 x3 x4 x5 x6 x7 x8 x9 x10 x11 x12 x13 xs0 xs1 xs2 xs3 hs h0 B h1 h2 h3 h4 h5 h6' h13 xs4 I)

end CaseA

set_option maxHeartbeats 4000000 in
/-- The run at the first point. -/
theorem stores_A (c : Dev nD) (t : Fin cfg0.N) (h0 : t.val % 54 = 0) (h1 : t.val < 6) (h2 : ¬48 ≤ t.val) (xs0 : Vec Ideal S2x768x1152 .bf16) (xs1 : Vec Ideal S2x768x1152 .bf16) (xs2 : Vec Ideal S2x1152x768 .bf16) (xs3 : Vec Ideal S6x1152x768 .f32) (xs4 : Vec Ideal S6x216x768 .i32) (hI : Inv (args m c) t.val xs0 xs1 xs2 xs3 xs4) : Stores m c t xs0 xs1 xs2 xs3 xs4 := by
  intro d14 d16
  have hN : t.val < 54 := lt_of_lt_of_eq t.isLt (show cfg0.N = 54 from N_0)
  refine ⟨owns (c : Thread nD τ) (ms0_14 t) fullShare ((dats m 0 c).before 14 t d14), _, owns (c : Thread nD τ) (ms0_16 t) fullShare ((dats m 0 c).before 16 t d16), _, _, _, _, _, _, _,
    fun K => (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0 xs1 xs2 xs3).2.2.2.2.2.2.2.2 _ _ xs4 Set.univ K, ?_, .rfl, .rfl, ?_, ?_⟩
  · exact CaseA.after_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0 xs1 xs2 xs3 xs4 (coords_val t) (by omega) (blocks m c t) (fun d n => (blk_1 m c t d n).trans (by rw [show min t.val 5 = t.val % 6 by omega])) (fun r k => (blk_2 m c t r k).trans (by rw [Nat.mul_zero, Nat.zero_add])) (fun r k => (blk_3 m c t r k).trans (by rw [Nat.mul_zero, Nat.zero_add])) (fun r k => (blk_4 m c t r k).trans (by rw [Nat.mul_zero, Nat.zero_add])) (fun r k => (blk_5 m c t r k).trans (by rw [Nat.mul_zero, Nat.zero_add])) (fun r k => (blk_6 m c t r k).trans (by rw [Nat.mul_zero, Nat.zero_add])) (blk_13 m c t) hI
  · rw [Dat.leavesExact_idle (dats m 0 c) 14 t (idleAt0_14_A t ((hcond0_0 t).mpr h0) ((hcond0_1 t).mpr h1) (fun h => h2 ((hcond0_2 t).mp h))) (noFlush0_14_A t ((hcond0_0 t).mpr h0) ((hcond0_1 t).mpr h1) (fun h => h2 ((hcond0_2 t).mp h)))]
    iintro H; iexists _; iexact H
  · rw [Dat.leavesExact_idle (dats m 0 c) 16 t (idleAt0_16_A t ((hcond0_0 t).mpr h0) ((hcond0_1 t).mpr h1) (fun h => h2 ((hcond0_2 t).mp h))) (noFlush0_16_A t ((hcond0_0 t).mpr h0) ((hcond0_1 t).mpr h1) (fun h => h2 ((hcond0_2 t).mp h)))]
    iintro H; iexists _; iexact H

end Cert.KernelIdeal.Run
-- ==== Proof.KernelIdeal.PiecesB.lean ====
/-
  The stores of the body in case B, as the step's functions of what the buffers held.
-/
module

public import proofs.«01_k».proof.Proof.KernelIdeal.Step
public import proofs.«01_k».proof.Proof.KernelIdeal.RunB

@[expose] public section

set_option maxRecDepth 16384

noncomputable section

namespace Cert.KernelIdeal.Run

open Cert.KernelIdeal.Gen Cert.KernelIdeal.Pure
open Idealize.ShloMosaic Idealize.ShloMosaic.TcCoe

namespace CaseB

variable {F : FTy → Type} [FloatOps F]

variable (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : ¬cond0_0 i) (hc1 : cond0_1 i) (hc2 : ¬cond0_2 i) (x0 : Vec F S1152x768 .bf16) (x1 : Vec F S1152x768 .f32) (x2 : Vec F S768x1152 .fp8e4m3) (x3 : Vec F S768x36 .i8) (x4 : Vec F S768x1152 .fp8e4m3) (x5 : Vec F S768x36 .i8) (x6 : Vec F S1152x768 .fp8e4m3) (x7 : Vec F S128x1152 .fp8e4m3) (x8 : Vec F S128x36 .i8) (x9 : Vec F S128x1152 .fp8e4m3) (x10 : Vec F S128x36 .i8) (x11 : Vec F S192x768 .fp8e4m3) (x12 : Vec F S192x216 .i8) (x13 : Vec F S1152x216 .i8) (xs0 : Vec F S2x768x1152 .bf16) (xs1 : Vec F S2x768x1152 .bf16) (xs2 : Vec F S2x1152x768 .bf16) (xs3 : Vec F S6x1152x768 .f32)

/-- The stores into the gate weights' buffer. -/
def LS0 : List (View.Piece (Elt F) S2x768x1152 .bf16) := guPieces i (arg8.view.readAt (Elt F) (Rect.unit (s := S128x1152) ![0, 0] S128x1152.size inb_S128x1152_S128x1152_0_0).toLoadRect (harg8.unread x7)) (arg9.view.readAt (Elt F) (Rect.unit (s := S128x36) ![0, 0] S128x36.size inb_S128x36_S128x36_0_0).toLoadRect (harg9.unread x8)) []
/-- The stores into the up weights' buffer. -/
def LS1 : List (View.Piece (Elt F) S2x768x1152 .bf16) := guPieces i (arg10.view.readAt (Elt F) (Rect.unit (s := S128x1152) ![0, 0] S128x1152.size inb_S128x1152_S128x1152_0_0).toLoadRect (harg10.unread x9)) (arg11.view.readAt (Elt F) (Rect.unit (s := S128x36) ![0, 0] S128x36.size inb_S128x36_S128x36_0_0).toLoadRect (harg11.unread x10)) []
/-- The stores into the down weights' buffer. -/
def LS2 : List (View.Piece (Elt F) S2x1152x768 .bf16) := dPieces i (arg12.view.readAt (Elt F) (Rect.unit (s := S192x768) ![0, 0] S192x768.size inb_S192x768_S192x768_0_0).toLoadRect (harg12.unread x11)) (arg13.view.readAt (Elt F) (Rect.unit (s := S192x216) ![0, 0] S192x216.size inb_S192x216_S192x216_0_0).toLoadRect (harg13.unread x12)) []
/-- The gate weights the step multiplies with. -/
def G : Vec F S1x768x1152 .bf16 := (arg18.view.readAt (Elt F) (Rect.unit (s := S2x768x1152) (k0_off4 i) S1x768x1152.size (k0_off4_inb i)).toLoadRect (arg18.view.writes (Elt F) (harg18.unread xs0) (LS0 i arg8 harg8 arg9 harg9 x7 x8)))
/-- The up weights the step multiplies with. -/
def U : Vec F S1x768x1152 .bf16 := (arg19.view.readAt (Elt F) (Rect.unit (s := S2x768x1152) (k0_off4 i) S1x768x1152.size (k0_off4_inb i)).toLoadRect (arg19.view.writes (Elt F) (harg19.unread xs1) (LS1 i arg10 harg10 arg11 harg11 x9 x10)))
/-- The down weights the step multiplies with. -/
def D : Vec F S1x1152x768 .bf16 := (arg20.view.readAt (Elt F) (Rect.unit (s := S2x1152x768) (k0_off7 i) S1x1152x768.size (k0_off7_inb i)).toLoadRect (arg20.view.writes (Elt F) (harg20.unread xs2) (LS2 i arg12 harg12 arg13 harg13 x11 x12)))
/-- The stores of the codes. -/
def L15 : List (View.Piece (Elt F) S768x768 .fp8e4m3) := codePieces (G i arg8 harg8 arg9 harg9 arg18 harg18 x7 x8 xs0) (U i arg10 harg10 arg11 harg11 arg19 harg19 x9 x10 xs1) (arg1.view.readAt (Elt F) (Rect.unit (s := S1152x768) ![0, 0] S1152x256.size inb_S1152x768_S1152x256_0_0).toLoadRect (harg1.unread x0)) (arg1.view.readAt (Elt F) (Rect.unit (s := S1152x768) ![0, 256] S1152x256.size inb_S1152x768_S1152x256_0_256).toLoadRect (harg1.unread x0)) (arg1.view.readAt (Elt F) (Rect.unit (s := S1152x768) ![0, 512] S1152x256.size inb_S1152x768_S1152x256_0_512).toLoadRect (harg1.unread x0))
/-- The stores of the scale bytes. -/
def LS4 : List (View.Piece (Elt F) S6x216x768 .i32) := bytePieces i (G i arg8 harg8 arg9 harg9 arg18 harg18 x7 x8 xs0) (U i arg10 harg10 arg11 harg11 arg19 harg19 x9 x10 xs1) (arg1.view.readAt (Elt F) (Rect.unit (s := S1152x768) ![0, 0] S1152x256.size inb_S1152x768_S1152x256_0_0).toLoadRect (harg1.unread x0)) (arg1.view.readAt (Elt F) (Rect.unit (s := S1152x768) ![0, 256] S1152x256.size inb_S1152x768_S1152x256_0_256).toLoadRect (harg1.unread x0)) (arg1.view.readAt (Elt F) (Rect.unit (s := S1152x768) ![0, 512] S1152x256.size inb_S1152x768_S1152x256_0_512).toLoadRect (harg1.unread x0))
/-- The accumulator's columns of the step hold the residual first. -/
def M0 : List (View.Piece (Elt F) S6x1152x768 .f32) := [⟨Rect.unit (k0_off1 i) S1x1152x768.size (k0_off1_inb i hc1), k0_pay549 (arg2.view.readAt (Elt F) (Rect.unit (s := S1152x768) ![0, 0] S1152x768.size inb_S1152x768_S1152x768_0_0).toLoadRect (harg2.unread x1))⟩]
/-- The accumulator after the first sub-block. -/
def M1 : List (View.Piece (Elt F) S6x1152x768 .f32) := ⟨Rect.unit (k0_off6 i) S1x1152x256.size (k0_off6_inb i), accVal (G i arg8 harg8 arg9 harg9 arg18 harg18 x7 x8 xs0) (U i arg10 harg10 arg11 harg11 arg19 harg19 x9 x10 xs1) (arg1.view.readAt (Elt F) (Rect.unit (s := S1152x768) ![0, 0] S1152x256.size inb_S1152x768_S1152x256_0_0).toLoadRect (harg1.unread x0)) (D i arg12 harg12 arg13 harg13 arg20 harg20 x11 x12 xs2) (arg21.view.readCov (M0 i arg2 harg2 hc1 x1) (Rect.unit (s := S6x1152x768) (k0_off6 i) S1x1152x256.size (k0_off6_inb i)).toLoadRect)⟩ :: (M0 i arg2 harg2 hc1 x1)
/-- The accumulator after the second sub-block. -/
def M2 : List (View.Piece (Elt F) S6x1152x768 .f32) := ⟨Rect.unit (k0_off9 i) S1x1152x256.size (k0_off9_inb i), accVal (G i arg8 harg8 arg9 harg9 arg18 harg18 x7 x8 xs0) (U i arg10 harg10 arg11 harg11 arg19 harg19 x9 x10 xs1) (arg1.view.readAt (Elt F) (Rect.unit (s := S1152x768) ![0, 256] S1152x256.size inb_S1152x768_S1152x256_0_256).toLoadRect (harg1.unread x0)) (D i arg12 harg12 arg13 harg13 arg20 harg20 x11 x12 xs2) (arg21.view.readCov (M1 i arg1 harg1 arg2 harg2 arg8 harg8 arg9 harg9 arg10 harg10 arg11 harg11 arg12 harg12 arg13 harg13 arg18 harg18 arg19 harg19 arg20 harg20 arg21 hc1 x0 x1 x7 x8 x9 x10 x11 x12 xs0 xs1 xs2) (Rect.unit (s := S6x1152x768) (k0_off9 i) S1x1152x256.size (k0_off9_inb i)).toLoadRect)⟩ :: (M1 i arg1 harg1 arg2 harg2 arg8 harg8 arg9 harg9 arg10 harg10 arg11 harg11 arg12 harg12 arg13 harg13 arg18 harg18 arg19 harg19 arg20 harg20 arg21 hc1 x0 x1 x7 x8 x9 x10 x11 x12 xs0 xs1 xs2)
/-- The stores into the accumulator. -/
def LS3 : List (View.Piece (Elt F) S6x1152x768 .f32) := ⟨Rect.unit (k0_off11 i) S1x1152x256.size (k0_off11_inb i), accVal (G i arg8 harg8 arg9 harg9 arg18 harg18 x7 x8 xs0) (U i arg10 harg10 arg11 harg11 arg19 harg19 x9 x10 xs1) (arg1.view.readAt (Elt F) (Rect.unit (s := S1152x768) ![0, 512] S1152x256.size inb_S1152x768_S1152x256_0_512).toLoadRect (harg1.unread x0)) (D i arg12 harg12 arg13 harg13 arg20 harg20 x11 x12 xs2) (arg21.view.readCov (M2 i arg1 harg1 arg2 harg2 arg8 harg8 arg9 harg9 arg10 harg10 arg11 harg11 arg12 harg12 arg13 harg13 arg18 harg18 arg19 harg19 arg20 harg20 arg21 hc1 x0 x1 x7 x8 x9 x10 x11 x12 xs0 xs1 xs2) (Rect.unit (s := S6x1152x768) (k0_off11 i) S1x1152x256.size (k0_off11_inb i)).toLoadRect)⟩ :: (M2 i arg1 harg1 arg2 harg2 arg8 harg8 arg9 harg9 arg10 harg10 arg11 harg11 arg12 harg12 arg13 harg13 arg18 harg18 arg19 harg19 arg20 harg20 arg21 hc1 x0 x1 x7 x8 x9 x10 x11 x12 xs0 xs1 xs2)

/-- The run's stores into the gate weights are those. -/
theorem run_LS0 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.1 = LS0 i arg8 harg8 arg9 harg9 x7 x8 := rfl
/-- The run's stores into the up weights are those. -/
theorem run_LS1 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.1 = LS1 i arg10 harg10 arg11 harg11 x9 x10 := rfl
/-- The run's stores into the down weights are those. -/
theorem run_LS2 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.1 = LS2 i arg12 harg12 arg13 harg13 x11 x12 := rfl
/-- The run's stores into the codes' window are those. -/
theorem run_L15 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.1 = L15 i arg1 harg1 arg8 harg8 arg9 harg9 arg10 harg10 arg11 harg11 arg18 harg18 arg19 harg19 x0 x7 x8 x9 x10 xs0 xs1 := rfl
/-- The run's stores into the scale bytes' buffer are those. -/
theorem run_LS4 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.2.2.1 = LS4 i arg1 harg1 arg8 harg8 arg9 harg9 arg10 harg10 arg11 harg11 arg18 harg18 arg19 harg19 x0 x7 x8 x9 x10 xs0 xs1 := rfl
/-- The run's stores into the accumulator are those. -/
theorem run_LS3 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.2.1 = LS3 i arg1 harg1 arg2 harg2 arg8 harg8 arg9 harg9 arg10 harg10 arg11 harg11 arg12 harg12 arg13 harg13 arg18 harg18 arg19 harg19 arg20 harg20 arg21 hc1 x0 x1 x7 x8 x9 x10 x11 x12 xs0 xs1 xs2 := rfl

end CaseB

end Cert.KernelIdeal.Run
-- ==== Proof.KernelIdeal.AfterB.lean ====
/-
  The step in case B: the rest of the first slice of features, where the accumulator starts from the residual.
-/
module

public import proofs.«01_k».proof.Proof.KernelIdeal.Body
public import proofs.«01_k».proof.Proof.KernelIdeal.PiecesB

@[expose] public section

set_option maxRecDepth 16384

noncomputable section

namespace Cert.KernelIdeal.Run

open Cert.KernelIdeal.Gen Cert.KernelIdeal.Pure Cert.KernelIdeal.Buf Cert.Spec
open Idealize.ShloMosaic Idealize.ShloMosaic.TcCoe

namespace CaseB

variable (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : ¬cond0_0 i) (hc1 : cond0_1 i) (hc2 : ¬cond0_2 i) (x0 : Vec Ideal S1152x768 .bf16) (x1 : Vec Ideal S1152x768 .f32) (x2 : Vec Ideal S768x1152 .fp8e4m3) (x3 : Vec Ideal S768x36 .i8) (x4 : Vec Ideal S768x1152 .fp8e4m3) (x5 : Vec Ideal S768x36 .i8) (x6 : Vec Ideal S1152x768 .fp8e4m3) (x7 : Vec Ideal S128x1152 .fp8e4m3) (x8 : Vec Ideal S128x36 .i8) (x9 : Vec Ideal S128x1152 .fp8e4m3) (x10 : Vec Ideal S128x36 .i8) (x11 : Vec Ideal S192x768 .fp8e4m3) (x12 : Vec Ideal S192x216 .i8) (x13 : Vec Ideal S1152x216 .i8) (xs0 : Vec Ideal S2x768x1152 .bf16) (xs1 : Vec Ideal S2x768x1152 .bf16) (xs2 : Vec Ideal S2x1152x768 .bf16) (xs3 : Vec Ideal S6x1152x768 .f32)

/-- The accumulator's own tile starts from the residual. -/
theorem start {a : In} {s : ℕ} (hs : (i 0).val = s) (h1 : ∀ d n, x1 (ix2 d n) = a.r1 d.val (768 * (s % 6) + n.val)) (f : arg21.view.ty.Contents (Elt Ideal)) (T : Fin 6) (d : Fin 1152) (n : Fin 768)
    (hT : T.val = s % 6) : arg21.view.read (Elt Ideal) (arg21.view.writes (Elt Ideal) f (M0 i arg2 harg2 hc1 x1)) (ix3 T d n) = a.part 0 d.val (768 * (s % 6) + n.val) := by
  have e := k0_off1_eq i
  rw [hs] at e
  refine (hit3 (Val := Elt Ideal) (e := .f32) arg21.view f (k0_off1_inb i hc1) e _ _ T d n 0 d n (by show T.val = s % 6 + 0; omega) (by omega) (by omega)).trans ?_
  rw [pay549_apply, load_full, h1, In.part_zero]

/-- Its other tiles stay. -/
theorem start_other {s : ℕ} (hs : (i 0).val = s) (f : arg21.view.ty.Contents (Elt Ideal)) (T : Fin 6) (d : Fin 1152) (n : Fin 768)
    (hT : T.val ≠ s % 6) : arg21.view.read (Elt Ideal) (arg21.view.writes (Elt Ideal) f (M0 i arg2 harg2 hc1 x1)) (ix3 T d n) = arg21.view.read (Elt Ideal) f (ix3 T d n) := by
  have e := k0_off1_eq i
  rw [hs] at e
  exact miss3 (Val := Elt Ideal) (e := .f32) arg21.view f (k0_off1_inb i hc1) e _ _ T d n (Or.inl (by omega))

set_option maxHeartbeats 1000000 in
/-- The step takes the buffers from what a step should find to what the next one should, and stores the layer's codes. -/
theorem after {a : In} {s : ℕ} (hs : (i 0).val = s) (h0 : 0 < s) (h6 : s / 6 = 0) (B : Blk a s x0 x7 x8 x9 x10 x11 x12) (h1 : ∀ d n, x1 (ix2 d n) = a.r1 d.val (768 * (s % 6) + n.val))
    (xs4 : Vec Ideal S6x216x768 .i32) (I : Inv a s xs0 xs1 xs2 xs3 xs4) :
    After a s (arg18.view.read (Elt Ideal) (arg18.view.writes (Elt Ideal) (harg18.unread xs0) (LS0 i arg8 harg8 arg9 harg9 x7 x8)))
      (arg19.view.read (Elt Ideal) (arg19.view.writes (Elt Ideal) (harg19.unread xs1) (LS1 i arg10 harg10 arg11 harg11 x9 x10)))
      (arg20.view.read (Elt Ideal) (arg20.view.writes (Elt Ideal) (harg20.unread xs2) (LS2 i arg12 harg12 arg13 harg13 x11 x12)))
      (arg21.view.read (Elt Ideal) (arg21.view.writes (Elt Ideal) (harg21.unread xs3) (LS3 i arg1 harg1 arg2 harg2 arg8 harg8 arg9 harg9 arg10 harg10 arg11 harg11 arg12 harg12 arg13 harg13 arg18 harg18 arg19 harg19 arg20 harg20 arg21 hc1 x0 x1 x7 x8 x9 x10 x11 x12 xs0 xs1 xs2)))
      (arg22.view.read (Elt Ideal) (arg22.view.writes (Elt Ideal) (harg22.unread xs4) (LS4 i arg1 harg1 arg8 harg8 arg9 harg9 arg10 harg10 arg11 harg11 arg18 harg18 arg19 harg19 x0 x7 x8 x9 x10 xs0 xs1)))
      (L15 i arg1 harg1 arg8 harg8 arg9 harg9 arg10 harg10 arg11 harg11 arg18 harg18 arg19 harg19 x0 x7 x8 x9 x10 xs0 xs1) (LS3 i arg1 harg1 arg2 harg2 arg8 harg8 arg9 harg9 arg10 harg10 arg11 harg11 arg12 harg12 arg13 harg13 arg18 harg18 arg19 harg19 arg20 harg20 arg21 hc1 x0 x1 x7 x8 x9 x10 x11 x12 xs0 xs1 xs2) := by
  obtain ⟨IW, I21, I22⟩ := I
  obtain ⟨I18, I19, I20⟩ := IW (by omega) (by omega)
  have r21 : arg21.view.read (Elt Ideal) (harg21.unread xs3) = xs3 := harg21.read_unread xs3
  have q0 : ∀ f, ∀ (T : Fin 6) (d : Fin 1152) (n : Fin 768), T.val = s % 6 → arg21.view.read (Elt Ideal) (arg21.view.writes (Elt Ideal) f (M0 i arg2 harg2 hc1 x1)) (ix3 T d n) = a.part (s / 6) d.val (768 * (s % 6) + n.val) :=
    fun f T d n hT => (start i arg2 harg2 arg21 hc1 x1 hs h1 f T d n hT).trans (by rw [h6])
  have e6 := k0_off6_eq i
  have e9 := k0_off9_eq i
  have q1 : ∀ f, ∀ (T : Fin 6) (d : Fin 1152) (n : Fin 768), T.val = s % 6 → 256 ≤ n.val → arg21.view.read (Elt Ideal) (arg21.view.writes (Elt Ideal) f (M1 i arg1 harg1 arg2 harg2 arg8 harg8 arg9 harg9 arg10 harg10 arg11 harg11 arg12 harg12 arg13 harg13 arg18 harg18 arg19 harg19 arg20 harg20 arg21 hc1 x0 x1 x7 x8 x9 x10 x11 x12 xs0 xs1 xs2)) (ix3 T d n) = a.part (s / 6) d.val (768 * (s % 6) + n.val) :=
    fun f T d n hT hn => (miss3 (Val := Elt Ideal) (e := .f32) arg21.view f (k0_off6_inb i) e6 _ _ T d n (Or.inr (Or.inr (Or.inr (by omega))))).trans (q0 f T d n hT)
  have q2 : ∀ f, ∀ (T : Fin 6) (d : Fin 1152) (n : Fin 768), T.val = s % 6 → 512 ≤ n.val → arg21.view.read (Elt Ideal) (arg21.view.writes (Elt Ideal) f (M2 i arg1 harg1 arg2 harg2 arg8 harg8 arg9 harg9 arg10 harg10 arg11 harg11 arg12 harg12 arg13 harg13 arg18 harg18 arg19 harg19 arg20 harg20 arg21 hc1 x0 x1 x7 x8 x9 x10 x11 x12 xs0 xs1 xs2)) (ix3 T d n) = a.part (s / 6) d.val (768 * (s % 6) + n.val) :=
    fun f T d n hT hn => (miss3 (Val := Elt Ideal) (e := .f32) arg21.view f (k0_off9_inb i) e9 _ _ T d n (Or.inr (Or.inr (Or.inr (by omega))))).trans (q1 f T d n hT (by omega))
  exact Pure.after hs B (load_full _ _ _ _) (load_full _ _ _ _) (load_full _ _ _ _) (load_full _ _ _ _) (load_full _ _ _ _) (load_full _ _ _ _) arg1 harg1
    arg18.view (harg18.unread xs0) [] arg19.view (harg19.unread xs1) [] arg20.view (harg20.unread xs2) []
    arg21.view (harg21.unread xs3) (M0 i arg2 harg2 hc1 x1) arg22.view (harg22.unread xs4)
    (by rw [View.writes_nil, harg18.read_unread]; exact I18) (by rw [View.writes_nil, harg19.read_unread]; exact I19) (by rw [View.writes_nil, harg20.read_unread]; exact I20) (by rw [harg22.read_unread]; exact I22)
    (fun d n => acc_load hs arg21.view _ (k0_off6_inb i) e6 (by omega) _ (fun T d n hT _ => q0 _ T d n hT) d n)
    (fun d n => acc_load hs arg21.view _ (k0_off9_inb i) e9 (by omega) _ (fun T d n hT hn => q1 _ T d n hT hn) d n)
    (fun d n => acc_load hs arg21.view _ (k0_off11_inb i) (k0_off11_eq i) (by omega) _ (fun T d n hT hn => q2 _ T d n hT hn) d n)
    (fun T d n hT hd => (start_other i arg2 harg2 arg21 hc1 x1 hs _ T d n hT).trans (by rw [r21]; exact I21 T d n hd))
    _ _ _ _ _ _ rfl rfl rfl rfl rfl rfl

end CaseB

end Cert.KernelIdeal.Run
-- ==== Proof.KernelIdeal.StoresB.lean ====
/-
  The run at the other points of the first slice: what it stores is what the layer says.
-/
module

public import proofs.«01_k».proof.Proof.KernelIdeal.AfterB
public import proofs.«01_k».proof.Proof.KernelIdeal.Held

@[expose] public section

set_option maxRecDepth 16384

noncomputable section

namespace Cert.KernelIdeal.Run

open Cert.KernelIdeal.Gen Cert.KernelIdeal.Pure Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

namespace CaseB

variable (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : ¬cond0_0 i) (hc1 : cond0_1 i) (hc2 : ¬cond0_2 i) (x0 : Vec Ideal S1152x768 .bf16) (x1 : Vec Ideal S1152x768 .f32) (x2 : Vec Ideal S768x1152 .fp8e4m3) (x3 : Vec Ideal S768x36 .i8) (x4 : Vec Ideal S768x1152 .fp8e4m3) (x5 : Vec Ideal S768x36 .i8) (x6 : Vec Ideal S1152x768 .fp8e4m3) (x7 : Vec Ideal S128x1152 .fp8e4m3) (x8 : Vec Ideal S128x36 .i8) (x9 : Vec Ideal S128x1152 .fp8e4m3) (x10 : Vec Ideal S128x36 .i8) (x11 : Vec Ideal S192x768 .fp8e4m3) (x12 : Vec Ideal S192x216 .i8) (x13 : Vec Ideal S1152x216 .i8) (xs0 : Vec Ideal S2x768x1152 .bf16) (xs1 : Vec Ideal S2x768x1152 .bf16) (xs2 : Vec Ideal S2x1152x768 .bf16) (xs3 : Vec Ideal S6x1152x768 .f32)

set_option maxHeartbeats 1000000 in
/-- The step, of the pieces the body's run stores. -/
theorem after_run (xs4 : Vec Ideal S6x216x768 .i32) {a : In} {s : ℕ} (hs : (i 0).val = s) (h0 : 0 < s) (h6 : s / 6 = 0) (B : Blk a s x0 x7 x8 x9 x10 x11 x12)  (h1 : ∀ d n, x1 (ix2 d n) = a.r1 d.val (768 * (s % 6) + n.val))

    (I : Inv a s xs0 xs1 xs2 xs3 xs4) : After a s (arg18.view.read (Elt Ideal) (arg18.view.writes (Elt Ideal) (harg18.unread xs0) ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.1))) (arg19.view.read (Elt Ideal) (arg19.view.writes (Elt Ideal) (harg19.unread xs1) ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.1))) (arg20.view.read (Elt Ideal) (arg20.view.writes (Elt Ideal) (harg20.unread xs2) ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.1))) (arg21.view.read (Elt Ideal) (arg21.view.writes (Elt Ideal) (harg21.unread xs3) ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.2.1))) (arg22.view.read (Elt Ideal) (arg22.view.writes (Elt Ideal) (harg22.unread xs4) ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.2.2.1))) ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.1) ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.2.1) := by
  exact After.of_eq (run_LS0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3) (run_LS1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3) (run_LS2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3) (run_LS3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3) (run_LS4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3) (run_L15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3)
    (after i arg1 harg1 arg2 harg2 arg8 harg8 arg9 harg9 arg10 harg10 arg11 harg11 arg12 harg12 arg13 harg13 arg18 harg18 arg19 harg19 arg20 harg20 arg21 harg21 arg22 harg22 hc1 x0 x1 x7 x8 x9 x10 x11 x12 xs0 xs1 xs2 xs3 hs h0 h6 B h1 xs4 I)

end CaseB

set_option maxHeartbeats 4000000 in
/-- The run at the other points of the first slice. -/
theorem stores_B (c : Dev nD) (t : Fin cfg0.N) (h0 : ¬t.val % 54 = 0) (h1 : t.val < 6) (h2 : ¬48 ≤ t.val) (xs0 : Vec Ideal S2x768x1152 .bf16) (xs1 : Vec Ideal S2x768x1152 .bf16) (xs2 : Vec Ideal S2x1152x768 .bf16) (xs3 : Vec Ideal S6x1152x768 .f32) (xs4 : Vec Ideal S6x216x768 .i32) (hI : Inv (args m c) t.val xs0 xs1 xs2 xs3 xs4) : Stores m c t xs0 xs1 xs2 xs3 xs4 := by
  intro d14 d16
  have hN : t.val < 54 := lt_of_lt_of_eq t.isLt (show cfg0.N = 54 from N_0)
  refine ⟨owns (c : Thread nD τ) (ms0_14 t) fullShare ((dats m 0 c).before 14 t d14), _, owns (c : Thread nD τ) (ms0_16 t) fullShare ((dats m 0 c).before 16 t d16), _, _, _, _, _, _, _,
    fun K => (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0 xs1 xs2 xs3).2.2.2.2.2.2.2.2 _ _ xs4 Set.univ K, ?_, .rfl, .rfl, ?_, ?_⟩
  · exact CaseB.after_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0 xs1 xs2 xs3 xs4 (coords_val t) (by omega) (by omega) (blocks m c t) (fun d n => (blk_1 m c t d n).trans (by rw [show min t.val 5 = t.val % 6 by omega])) hI
  · rw [Dat.leavesExact_idle (dats m 0 c) 14 t (idleAt0_14_B t (fun h => h0 ((hcond0_0 t).mp h)) ((hcond0_1 t).mpr h1) (fun h => h2 ((hcond0_2 t).mp h))) (noFlush0_14_B t (fun h => h0 ((hcond0_0 t).mp h)) ((hcond0_1 t).mpr h1) (fun h => h2 ((hcond0_2 t).mp h)))]
    iintro H; iexists _; iexact H
  · rw [Dat.leavesExact_idle (dats m 0 c) 16 t (idleAt0_16_B t (fun h => h0 ((hcond0_0 t).mp h)) ((hcond0_1 t).mpr h1) (fun h => h2 ((hcond0_2 t).mp h))) (noFlush0_16_B t (fun h => h0 ((hcond0_0 t).mp h)) ((hcond0_1 t).mpr h1) (fun h => h2 ((hcond0_2 t).mp h)))]
    iintro H; iexists _; iexact H

end Cert.KernelIdeal.Run
-- ==== Proof.KernelIdeal.PiecesC.lean ====
/-
  The stores of the body in case C, as the step's functions of what the buffers held.
-/
module

public import proofs.«01_k».proof.Proof.KernelIdeal.Step
public import proofs.«01_k».proof.Proof.KernelIdeal.RunC

@[expose] public section

set_option maxRecDepth 16384

noncomputable section

namespace Cert.KernelIdeal.Run

open Cert.KernelIdeal.Gen Cert.KernelIdeal.Pure
open Idealize.ShloMosaic Idealize.ShloMosaic.TcCoe

namespace CaseC

variable {F : FTy → Type} [FloatOps F]

variable (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : ¬cond0_0 i) (hc1 : ¬cond0_1 i) (hc2 : ¬cond0_2 i) (x0 : Vec F S1152x768 .bf16) (x1 : Vec F S1152x768 .f32) (x2 : Vec F S768x1152 .fp8e4m3) (x3 : Vec F S768x36 .i8) (x4 : Vec F S768x1152 .fp8e4m3) (x5 : Vec F S768x36 .i8) (x6 : Vec F S1152x768 .fp8e4m3) (x7 : Vec F S128x1152 .fp8e4m3) (x8 : Vec F S128x36 .i8) (x9 : Vec F S128x1152 .fp8e4m3) (x10 : Vec F S128x36 .i8) (x11 : Vec F S192x768 .fp8e4m3) (x12 : Vec F S192x216 .i8) (x13 : Vec F S1152x216 .i8) (xs0 : Vec F S2x768x1152 .bf16) (xs1 : Vec F S2x768x1152 .bf16) (xs2 : Vec F S2x1152x768 .bf16) (xs3 : Vec F S6x1152x768 .f32)

/-- The stores into the gate weights' buffer. -/
def LS0 : List (View.Piece (Elt F) S2x768x1152 .bf16) := guPieces i (arg8.view.readAt (Elt F) (Rect.unit (s := S128x1152) ![0, 0] S128x1152.size inb_S128x1152_S128x1152_0_0).toLoadRect (harg8.unread x7)) (arg9.view.readAt (Elt F) (Rect.unit (s := S128x36) ![0, 0] S128x36.size inb_S128x36_S128x36_0_0).toLoadRect (harg9.unread x8)) []
/-- The stores into the up weights' buffer. -/
def LS1 : List (View.Piece (Elt F) S2x768x1152 .bf16) := guPieces i (arg10.view.readAt (Elt F) (Rect.unit (s := S128x1152) ![0, 0] S128x1152.size inb_S128x1152_S128x1152_0_0).toLoadRect (harg10.unread x9)) (arg11.view.readAt (Elt F) (Rect.unit (s := S128x36) ![0, 0] S128x36.size inb_S128x36_S128x36_0_0).toLoadRect (harg11.unread x10)) []
/-- The stores into the down weights' buffer. -/
def LS2 : List (View.Piece (Elt F) S2x1152x768 .bf16) := dPieces i (arg12.view.readAt (Elt F) (Rect.unit (s := S192x768) ![0, 0] S192x768.size inb_S192x768_S192x768_0_0).toLoadRect (harg12.unread x11)) (arg13.view.readAt (Elt F) (Rect.unit (s := S192x216) ![0, 0] S192x216.size inb_S192x216_S192x216_0_0).toLoadRect (harg13.unread x12)) []
/-- The gate weights the step multiplies with. -/
def G : Vec F S1x768x1152 .bf16 := (arg18.view.readAt (Elt F) (Rect.unit (s := S2x768x1152) (k0_off4 i) S1x768x1152.size (k0_off4_inb i)).toLoadRect (arg18.view.writes (Elt F) (harg18.unread xs0) (LS0 i arg8 harg8 arg9 harg9 x7 x8)))
/-- The up weights the step multiplies with. -/
def U : Vec F S1x768x1152 .bf16 := (arg19.view.readAt (Elt F) (Rect.unit (s := S2x768x1152) (k0_off4 i) S1x768x1152.size (k0_off4_inb i)).toLoadRect (arg19.view.writes (Elt F) (harg19.unread xs1) (LS1 i arg10 harg10 arg11 harg11 x9 x10)))
/-- The down weights the step multiplies with. -/
def D : Vec F S1x1152x768 .bf16 := (arg20.view.readAt (Elt F) (Rect.unit (s := S2x1152x768) (k0_off7 i) S1x1152x768.size (k0_off7_inb i)).toLoadRect (arg20.view.writes (Elt F) (harg20.unread xs2) (LS2 i arg12 harg12 arg13 harg13 x11 x12)))
/-- The stores of the codes. -/
def L15 : List (View.Piece (Elt F) S768x768 .fp8e4m3) := codePieces (G i arg8 harg8 arg9 harg9 arg18 harg18 x7 x8 xs0) (U i arg10 harg10 arg11 harg11 arg19 harg19 x9 x10 xs1) (arg1.view.readAt (Elt F) (Rect.unit (s := S1152x768) ![0, 0] S1152x256.size inb_S1152x768_S1152x256_0_0).toLoadRect (harg1.unread x0)) (arg1.view.readAt (Elt F) (Rect.unit (s := S1152x768) ![0, 256] S1152x256.size inb_S1152x768_S1152x256_0_256).toLoadRect (harg1.unread x0)) (arg1.view.readAt (Elt F) (Rect.unit (s := S1152x768) ![0, 512] S1152x256.size inb_S1152x768_S1152x256_0_512).toLoadRect (harg1.unread x0))
/-- The stores of the scale bytes. -/
def LS4 : List (View.Piece (Elt F) S6x216x768 .i32) := bytePieces i (G i arg8 harg8 arg9 harg9 arg18 harg18 x7 x8 xs0) (U i arg10 harg10 arg11 harg11 arg19 harg19 x9 x10 xs1) (arg1.view.readAt (Elt F) (Rect.unit (s := S1152x768) ![0, 0] S1152x256.size inb_S1152x768_S1152x256_0_0).toLoadRect (harg1.unread x0)) (arg1.view.readAt (Elt F) (Rect.unit (s := S1152x768) ![0, 256] S1152x256.size inb_S1152x768_S1152x256_0_256).toLoadRect (harg1.unread x0)) (arg1.view.readAt (Elt F) (Rect.unit (s := S1152x768) ![0, 512] S1152x256.size inb_S1152x768_S1152x256_0_512).toLoadRect (harg1.unread x0))
/-- The stores into the accumulator. -/
def LS3 : List (View.Piece (Elt F) S6x1152x768 .f32) := accPieces i (G i arg8 harg8 arg9 harg9 arg18 harg18 x7 x8 xs0) (U i arg10 harg10 arg11 harg11 arg19 harg19 x9 x10 xs1) (arg1.view.readAt (Elt F) (Rect.unit (s := S1152x768) ![0, 0] S1152x256.size inb_S1152x768_S1152x256_0_0).toLoadRect (harg1.unread x0)) (arg1.view.readAt (Elt F) (Rect.unit (s := S1152x768) ![0, 256] S1152x256.size inb_S1152x768_S1152x256_0_256).toLoadRect (harg1.unread x0)) (arg1.view.readAt (Elt F) (Rect.unit (s := S1152x768) ![0, 512] S1152x256.size inb_S1152x768_S1152x256_0_512).toLoadRect (harg1.unread x0)) (D i arg12 harg12 arg13 harg13 arg20 harg20 x11 x12 xs2) (arg21.view.readAt (Elt F) (Rect.unit (s := S6x1152x768) (k0_off6 i) S1x1152x256.size (k0_off6_inb i)).toLoadRect (harg21.unread xs3)) (arg21.view.readAt (Elt F) (Rect.unit (s := S6x1152x768) (k0_off9 i) S1x1152x256.size (k0_off9_inb i)).toLoadRect (harg21.unread xs3)) (arg21.view.readAt (Elt F) (Rect.unit (s := S6x1152x768) (k0_off11 i) S1x1152x256.size (k0_off11_inb i)).toLoadRect (harg21.unread xs3)) []

/-- The run's stores into the gate weights are those. -/
theorem run_LS0 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.1 = LS0 i arg8 harg8 arg9 harg9 x7 x8 := rfl
/-- The run's stores into the up weights are those. -/
theorem run_LS1 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.1 = LS1 i arg10 harg10 arg11 harg11 x9 x10 := rfl
/-- The run's stores into the down weights are those. -/
theorem run_LS2 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.1 = LS2 i arg12 harg12 arg13 harg13 x11 x12 := rfl
/-- The run's stores into the codes' window are those. -/
theorem run_L15 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.1 = L15 i arg1 harg1 arg8 harg8 arg9 harg9 arg10 harg10 arg11 harg11 arg18 harg18 arg19 harg19 x0 x7 x8 x9 x10 xs0 xs1 := rfl
/-- The run's stores into the scale bytes' buffer are those. -/
theorem run_LS4 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.2.2.1 = LS4 i arg1 harg1 arg8 harg8 arg9 harg9 arg10 harg10 arg11 harg11 arg18 harg18 arg19 harg19 x0 x7 x8 x9 x10 xs0 xs1 := rfl
/-- The run's stores into the accumulator are those. -/
theorem run_LS3 : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.2.1 = LS3 i arg1 harg1 arg8 harg8 arg9 harg9 arg10 harg10 arg11 harg11 arg12 harg12 arg13 harg13 arg18 harg18 arg19 harg19 arg20 harg20 arg21 harg21 x0 x7 x8 x9 x10 x11 x12 xs0 xs1 xs2 xs3 := rfl

end CaseC

end Cert.KernelIdeal.Run
-- ==== Proof.KernelIdeal.AfterC.lean ====
/-
  The step in case C: the middle slices.
-/
module

public import proofs.«01_k».proof.Proof.KernelIdeal.Body
public import proofs.«01_k».proof.Proof.KernelIdeal.PiecesC

@[expose] public section

set_option maxRecDepth 16384

noncomputable section

namespace Cert.KernelIdeal.Run

open Cert.KernelIdeal.Gen Cert.KernelIdeal.Pure Cert.KernelIdeal.Buf Cert.Spec
open Idealize.ShloMosaic Idealize.ShloMosaic.TcCoe

namespace CaseC

variable (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : ¬cond0_0 i) (hc1 : ¬cond0_1 i) (hc2 : ¬cond0_2 i) (x0 : Vec Ideal S1152x768 .bf16) (x1 : Vec Ideal S1152x768 .f32) (x2 : Vec Ideal S768x1152 .fp8e4m3) (x3 : Vec Ideal S768x36 .i8) (x4 : Vec Ideal S768x1152 .fp8e4m3) (x5 : Vec Ideal S768x36 .i8) (x6 : Vec Ideal S1152x768 .fp8e4m3) (x7 : Vec Ideal S128x1152 .fp8e4m3) (x8 : Vec Ideal S128x36 .i8) (x9 : Vec Ideal S128x1152 .fp8e4m3) (x10 : Vec Ideal S128x36 .i8) (x11 : Vec Ideal S192x768 .fp8e4m3) (x12 : Vec Ideal S192x216 .i8) (x13 : Vec Ideal S1152x216 .i8) (xs0 : Vec Ideal S2x768x1152 .bf16) (xs1 : Vec Ideal S2x768x1152 .bf16) (xs2 : Vec Ideal S2x1152x768 .bf16) (xs3 : Vec Ideal S6x1152x768 .f32)

set_option maxHeartbeats 1000000 in
/-- The step takes the buffers from what a step should find to what the next one should, and stores the layer's codes. -/
theorem after {a : In} {s : ℕ} (hs : (i 0).val = s) (h6 : 0 < s / 6) (h54 : s < 54) (B : Blk a s x0 x7 x8 x9 x10 x11 x12)
    (xs4 : Vec Ideal S6x216x768 .i32) (I : Inv a s xs0 xs1 xs2 xs3 xs4) :
    After a s (arg18.view.read (Elt Ideal) (arg18.view.writes (Elt Ideal) (harg18.unread xs0) (LS0 i arg8 harg8 arg9 harg9 x7 x8)))
      (arg19.view.read (Elt Ideal) (arg19.view.writes (Elt Ideal) (harg19.unread xs1) (LS1 i arg10 harg10 arg11 harg11 x9 x10)))
      (arg20.view.read (Elt Ideal) (arg20.view.writes (Elt Ideal) (harg20.unread xs2) (LS2 i arg12 harg12 arg13 harg13 x11 x12)))
      (arg21.view.read (Elt Ideal) (arg21.view.writes (Elt Ideal) (harg21.unread xs3) (LS3 i arg1 harg1 arg8 harg8 arg9 harg9 arg10 harg10 arg11 harg11 arg12 harg12 arg13 harg13 arg18 harg18 arg19 harg19 arg20 harg20 arg21 harg21 x0 x7 x8 x9 x10 x11 x12 xs0 xs1 xs2 xs3)))
      (arg22.view.read (Elt Ideal) (arg22.view.writes (Elt Ideal) (harg22.unread xs4) (LS4 i arg1 harg1 arg8 harg8 arg9 harg9 arg10 harg10 arg11 harg11 arg18 harg18 arg19 harg19 x0 x7 x8 x9 x10 xs0 xs1)))
      (L15 i arg1 harg1 arg8 harg8 arg9 harg9 arg10 harg10 arg11 harg11 arg18 harg18 arg19 harg19 x0 x7 x8 x9 x10 xs0 xs1) (LS3 i arg1 harg1 arg8 harg8 arg9 harg9 arg10 harg10 arg11 harg11 arg12 harg12 arg13 harg13 arg18 harg18 arg19 harg19 arg20 harg20 arg21 harg21 x0 x7 x8 x9 x10 x11 x12 xs0 xs1 xs2 xs3) := by
  obtain ⟨IW, I21, I22⟩ := I
  obtain ⟨I18, I19, I20⟩ := IW (by omega) (by omega)
  have r21 : arg21.view.read (Elt Ideal) (harg21.unread xs3) = xs3 := harg21.read_unread xs3
  have q : ∀ (T : Fin 6) (d : Fin 1152) (n : Fin 768), T.val = s % 6 → arg21.view.read (Elt Ideal) (harg21.unread xs3) (ix3 T d n) = a.part (s / 6) d.val (768 * (s % 6) + n.val) := fun T d n hT => by
    rw [r21, I21 T d n (by rw [hT, done_before]; exact h6), hT, done_before]
  exact Pure.after hs B (load_full _ _ _ _) (load_full _ _ _ _) (load_full _ _ _ _) (load_full _ _ _ _) (load_full _ _ _ _) (load_full _ _ _ _) arg1 harg1
    arg18.view (harg18.unread xs0) [] arg19.view (harg19.unread xs1) [] arg20.view (harg20.unread xs2) []
    arg21.view (harg21.unread xs3) [] arg22.view (harg22.unread xs4)
    (by rw [View.writes_nil, harg18.read_unread]; exact I18) (by rw [View.writes_nil, harg19.read_unread]; exact I19) (by rw [View.writes_nil, harg20.read_unread]; exact I20) (by rw [harg22.read_unread]; exact I22)
    (fun d n => acc_load hs arg21.view _ (k0_off6_inb i) (k0_off6_eq i) (by omega) _ (fun T d n hT _ => q T d n hT) d n)
    (fun d n => acc_load hs arg21.view _ (k0_off9_inb i) (k0_off9_eq i) (by omega) _ (fun T d n hT _ => q T d n hT) d n)
    (fun d n => acc_load hs arg21.view _ (k0_off11_inb i) (k0_off11_eq i) (by omega) _ (fun T d n hT _ => q T d n hT) d n)
    (fun T d n hT hd => by rw [View.writes_nil, r21]; exact I21 T d n hd)
    _ _ _ _ _ _ rfl rfl rfl rfl rfl rfl

end CaseC

end Cert.KernelIdeal.Run
-- ==== Proof.KernelIdeal.StoresC.lean ====
/-
  The run at the points of the middle slices: what it stores is what the layer says.
-/
module

public import proofs.«01_k».proof.Proof.KernelIdeal.AfterC
public import proofs.«01_k».proof.Proof.KernelIdeal.Held

@[expose] public section

set_option maxRecDepth 16384

noncomputable section

namespace Cert.KernelIdeal.Run

open Cert.KernelIdeal.Gen Cert.KernelIdeal.Pure Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

namespace CaseC

variable (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : ¬cond0_0 i) (hc1 : ¬cond0_1 i) (hc2 : ¬cond0_2 i) (x0 : Vec Ideal S1152x768 .bf16) (x1 : Vec Ideal S1152x768 .f32) (x2 : Vec Ideal S768x1152 .fp8e4m3) (x3 : Vec Ideal S768x36 .i8) (x4 : Vec Ideal S768x1152 .fp8e4m3) (x5 : Vec Ideal S768x36 .i8) (x6 : Vec Ideal S1152x768 .fp8e4m3) (x7 : Vec Ideal S128x1152 .fp8e4m3) (x8 : Vec Ideal S128x36 .i8) (x9 : Vec Ideal S128x1152 .fp8e4m3) (x10 : Vec Ideal S128x36 .i8) (x11 : Vec Ideal S192x768 .fp8e4m3) (x12 : Vec Ideal S192x216 .i8) (x13 : Vec Ideal S1152x216 .i8) (xs0 : Vec Ideal S2x768x1152 .bf16) (xs1 : Vec Ideal S2x768x1152 .bf16) (xs2 : Vec Ideal S2x1152x768 .bf16) (xs3 : Vec Ideal S6x1152x768 .f32)

set_option maxHeartbeats 1000000 in
/-- The step, of the pieces the body's run stores. -/
theorem after_run (xs4 : Vec Ideal S6x216x768 .i32) {a : In} {s : ℕ} (hs : (i 0).val = s) (h6 : 0 < s / 6) (h54 : s < 54) (B : Blk a s x0 x7 x8 x9 x10 x11 x12)

    (I : Inv a s xs0 xs1 xs2 xs3 xs4) : After a s (arg18.view.read (Elt Ideal) (arg18.view.writes (Elt Ideal) (harg18.unread xs0) ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.1))) (arg19.view.read (Elt Ideal) (arg19.view.writes (Elt Ideal) (harg19.unread xs1) ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.1))) (arg20.view.read (Elt Ideal) (arg20.view.writes (Elt Ideal) (harg20.unread xs2) ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.1))) (arg21.view.read (Elt Ideal) (arg21.view.writes (Elt Ideal) (harg21.unread xs3) ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.2.1))) (arg22.view.read (Elt Ideal) (arg22.view.writes (Elt Ideal) (harg22.unread xs4) ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.2.2.1))) ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.1) ((kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3).2.2.2.2.2.2.1) := by
  exact After.of_eq (run_LS0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3) (run_LS1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3) (run_LS2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3) (run_LS3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3) (run_LS4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3) (run_L15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3)
    (after i arg1 harg1 arg8 harg8 arg9 harg9 arg10 harg10 arg11 harg11 arg12 harg12 arg13 harg13 arg18 harg18 arg19 harg19 arg20 harg20 arg21 harg21 arg22 harg22 x0 x7 x8 x9 x10 x11 x12 xs0 xs1 xs2 xs3 hs h6 h54 B  xs4 I)

end CaseC

set_option maxHeartbeats 4000000 in
/-- The run at the points of the middle slices. -/
theorem stores_C (c : Dev nD) (t : Fin cfg0.N) (h0 : ¬t.val % 54 = 0) (h1 : ¬t.val < 6) (h2 : ¬48 ≤ t.val) (xs0 : Vec Ideal S2x768x1152 .bf16) (xs1 : Vec Ideal S2x768x1152 .bf16) (xs2 : Vec Ideal S2x1152x768 .bf16) (xs3 : Vec Ideal S6x1152x768 .f32) (xs4 : Vec Ideal S6x216x768 .i32) (hI : Inv (args m c) t.val xs0 xs1 xs2 xs3 xs4) : Stores m c t xs0 xs1 xs2 xs3 xs4 := by
  intro d14 d16
  have hN : t.val < 54 := lt_of_lt_of_eq t.isLt (show cfg0.N = 54 from N_0)
  refine ⟨owns (c : Thread nD τ) (ms0_14 t) fullShare ((dats m 0 c).before 14 t d14), _, owns (c : Thread nD τ) (ms0_16 t) fullShare ((dats m 0 c).before 16 t d16), _, _, _, _, _, _, _,
    fun K => (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0 xs1 xs2 xs3).2.2.2.2.2.2.2.2 _ _ xs4 Set.univ K, ?_, .rfl, .rfl, ?_, ?_⟩
  · exact CaseC.after_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0 xs1 xs2 xs3 xs4 (coords_val t) (by omega) (by omega) (blocks m c t) hI
  · rw [Dat.leavesExact_idle (dats m 0 c) 14 t (idleAt0_14_C t (fun h => h0 ((hcond0_0 t).mp h)) (fun h => h1 ((hcond0_1 t).mp h)) (fun h => h2 ((hcond0_2 t).mp h))) (noFlush0_14_C t (fun h => h0 ((hcond0_0 t).mp h)) (fun h => h1 ((hcond0_1 t).mp h)) (fun h => h2 ((hcond0_2 t).mp h)))]
    iintro H; iexists _; iexact H
  · rw [Dat.leavesExact_idle (dats m 0 c) 16 t (idleAt0_16_C t (fun h => h0 ((hcond0_0 t).mp h)) (fun h => h1 ((hcond0_1 t).mp h)) (fun h => h2 ((hcond0_2 t).mp h))) (noFlush0_16_C t (fun h => h0 ((hcond0_0 t).mp h)) (fun h => h1 ((hcond0_1 t).mp h)) (fun h => h2 ((hcond0_2 t).mp h)))]
    iintro H; iexists _; iexact H

end Cert.KernelIdeal.Run
-- ==== Proof.KernelIdeal.PiecesD.lean ====
/-
  The stores of the body in case D, as the step's functions of what the buffers held.
-/
module

public import proofs.«01_k».proof.Proof.KernelIdeal.Step
public import proofs.«01_k».proof.Proof.KernelIdeal.RunD

@[expose] public section

set_option maxRecDepth 16384

noncomputable section

namespace Cert.KernelIdeal.Run

open Cert.KernelIdeal.Gen Cert.KernelIdeal.Pure
open Idealize.ShloMosaic Idealize.ShloMosaic.TcCoe

namespace CaseD

variable {F : FTy → Type} [FloatOps F]

variable (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : ¬cond0_0 i) (hc1 : ¬cond0_1 i) (hc2 : cond0_2 i) (x0 : Vec F S1152x768 .bf16) (x1 : Vec F S1152x768 .f32) (x2 : Vec F S768x1152 .fp8e4m3) (x3 : Vec F S768x36 .i8) (x4 : Vec F S768x1152 .fp8e4m3) (x5 : Vec F S768x36 .i8) (x6 : Vec F S1152x768 .fp8e4m3) (x7 : Vec F S128x1152 .fp8e4m3) (x8 : Vec F S128x36 .i8) (x9 : Vec F S128x1152 .fp8e4m3) (x10 : Vec F S128x36 .i8) (x11 : Vec F S192x768 .fp8e4m3) (x12 : Vec F S192x216 .i8) (x13 : Vec F S1152x216 .i8) (xs0 : Vec F S2x768x1152 .bf16) (xs1 : Vec F S2x768x1152 .bf16) (xs2 : Vec F S2x1152x768 .bf16) (xs3 : Vec F S6x1152x768 .f32) (xs4 : Vec F S6x216x768 .i32)

/-- The stores into the gate weights' buffer. -/
def LS0 : List (View.Piece (Elt F) S2x768x1152 .bf16) := guPieces i (arg8.view.readAt (Elt F) (Rect.unit (s := S128x1152) ![0, 0] S128x1152.size inb_S128x1152_S128x1152_0_0).toLoadRect (harg8.unread x7)) (arg9.view.readAt (Elt F) (Rect.unit (s := S128x36) ![0, 0] S128x36.size inb_S128x36_S128x36_0_0).toLoadRect (harg9.unread x8)) []
/-- The stores into the up weights' buffer. -/
def LS1 : List (View.Piece (Elt F) S2x768x1152 .bf16) := guPieces i (arg10.view.readAt (Elt F) (Rect.unit (s := S128x1152) ![0, 0] S128x1152.size inb_S128x1152_S128x1152_0_0).toLoadRect (harg10.unread x9)) (arg11.view.readAt (Elt F) (Rect.unit (s := S128x36) ![0, 0] S128x36.size inb_S128x36_S128x36_0_0).toLoadRect (harg11.unread x10)) []
/-- The stores into the down weights' buffer. -/
def LS2 : List (View.Piece (Elt F) S2x1152x768 .bf16) := dPieces i (arg12.view.readAt (Elt F) (Rect.unit (s := S192x768) ![0, 0] S192x768.size inb_S192x768_S192x768_0_0).toLoadRect (harg12.unread x11)) (arg13.view.readAt (Elt F) (Rect.unit (s := S192x216) ![0, 0] S192x216.size inb_S192x216_S192x216_0_0).toLoadRect (harg13.unread x12)) []
/-- The gate weights the step multiplies with. -/
def G : Vec F S1x768x1152 .bf16 := (arg18.view.readAt (Elt F) (Rect.unit (s := S2x768x1152) (k0_off4 i) S1x768x1152.size (k0_off4_inb i)).toLoadRect (arg18.view.writes (Elt F) (harg18.unread xs0) (LS0 i arg8 harg8 arg9 harg9 x7 x8)))
/-- The up weights the step multiplies with. -/
def U : Vec F S1x768x1152 .bf16 := (arg19.view.readAt (Elt F) (Rect.unit (s := S2x768x1152) (k0_off4 i) S1x768x1152.size (k0_off4_inb i)).toLoadRect (arg19.view.writes (Elt F) (harg19.unread xs1) (LS1 i arg10 harg10 arg11 harg11 x9 x10)))
/-- The down weights the step multiplies with. -/
def D : Vec F S1x1152x768 .bf16 := (arg20.view.readAt (Elt F) (Rect.unit (s := S2x1152x768) (k0_off7 i) S1x1152x768.size (k0_off7_inb i)).toLoadRect (arg20.view.writes (Elt F) (harg20.unread xs2) (LS2 i arg12 harg12 arg13 harg13 x11 x12)))
/-- The stores of the codes. -/
def L15 : List (View.Piece (Elt F) S768x768 .fp8e4m3) := codePieces (G i arg8 harg8 arg9 harg9 arg18 harg18 x7 x8 xs0) (U i arg10 harg10 arg11 harg11 arg19 harg19 x9 x10 xs1) (arg1.view.readAt (Elt F) (Rect.unit (s := S1152x768) ![0, 0] S1152x256.size inb_S1152x768_S1152x256_0_0).toLoadRect (harg1.unread x0)) (arg1.view.readAt (Elt F) (Rect.unit (s := S1152x768) ![0, 256] S1152x256.size inb_S1152x768_S1152x256_0_256).toLoadRect (harg1.unread x0)) (arg1.view.readAt (Elt F) (Rect.unit (s := S1152x768) ![0, 512] S1152x256.size inb_S1152x768_S1152x256_0_512).toLoadRect (harg1.unread x0))
/-- The stores of the scale bytes. -/
def LS4 : List (View.Piece (Elt F) S6x216x768 .i32) := bytePieces i (G i arg8 harg8 arg9 harg9 arg18 harg18 x7 x8 xs0) (U i arg10 harg10 arg11 harg11 arg19 harg19 x9 x10 xs1) (arg1.view.readAt (Elt F) (Rect.unit (s := S1152x768) ![0, 0] S1152x256.size inb_S1152x768_S1152x256_0_0).toLoadRect (harg1.unread x0)) (arg1.view.readAt (Elt F) (Rect.unit (s := S1152x768) ![0, 256] S1152x256.size inb_S1152x768_S1152x256_0_256).toLoadRect (harg1.unread x0)) (arg1.view.readAt (Elt F) (Rect.unit (s := S1152x768) ![0, 512] S1152x256.size inb_S1152x768_S1152x256_0_512).toLoadRect (harg1.unread x0))
/-- The stores into the accumulator. -/
def LS3 : List (View.Piece (Elt F) S6x1152x768 .f32) := accPieces i (G i arg8 harg8 arg9 harg9 arg18 harg18 x7 x8 xs0) (U i arg10 harg10 arg11 harg11 arg19 harg19 x9 x10 xs1) (arg1.view.readAt (Elt F) (Rect.unit (s := S1152x768) ![0, 0] S1152x256.size inb_S1152x768_S1152x256_0_0).toLoadRect (harg1.unread x0)) (arg1.view.readAt (Elt F) (Rect.unit (s := S1152x768) ![0, 256] S1152x256.size inb_S1152x768_S1152x256_0_256).toLoadRect (harg1.unread x0)) (arg1.view.readAt (Elt F) (Rect.unit (s := S1152x768) ![0, 512] S1152x256.size inb_S1152x768_S1152x256_0_512).toLoadRect (harg1.unread x0)) (D i arg12 harg12 arg13 harg13 arg20 harg20 x11 x12 xs2) (arg21.view.readAt (Elt F) (Rect.unit (s := S6x1152x768) (k0_off6 i) S1x1152x256.size (k0_off6_inb i)).toLoadRect (harg21.unread xs3)) (arg21.view.readAt (Elt F) (Rect.unit (s := S6x1152x768) (k0_off9 i) S1x1152x256.size (k0_off9_inb i)).toLoadRect (harg21.unread xs3)) (arg21.view.readAt (Elt F) (Rect.unit (s := S6x1152x768) (k0_off11 i) S1x1152x256.size (k0_off11_inb i)).toLoadRect (harg21.unread xs3)) []

/-- The run's stores into the gate weights are those. -/
theorem run_LS0 : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4).2.2.2.1 = LS0 i arg8 harg8 arg9 harg9 x7 x8 := rfl
/-- The run's stores into the up weights are those. -/
theorem run_LS1 : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4).2.2.2.2.1 = LS1 i arg10 harg10 arg11 harg11 x9 x10 := rfl
/-- The run's stores into the down weights are those. -/
theorem run_LS2 : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4).2.2.2.2.2.1 = LS2 i arg12 harg12 arg13 harg13 x11 x12 := rfl
/-- The run's stores into the codes' window are those. -/
theorem run_L15 : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4).2.1 = L15 i arg1 harg1 arg8 harg8 arg9 harg9 arg10 harg10 arg11 harg11 arg18 harg18 arg19 harg19 x0 x7 x8 x9 x10 xs0 xs1 := rfl
/-- The run's stores into the scale bytes' buffer are those. -/
theorem run_LS4 : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4).2.2.2.2.2.2.2.1 = LS4 i arg1 harg1 arg8 harg8 arg9 harg9 arg10 harg10 arg11 harg11 arg18 harg18 arg19 harg19 x0 x7 x8 x9 x10 xs0 xs1 := rfl
/-- The run's stores into the accumulator are those. -/
theorem run_LS3 : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4).2.2.2.2.2.2.1 = LS3 i arg1 harg1 arg8 harg8 arg9 harg9 arg10 harg10 arg11 harg11 arg12 harg12 arg13 harg13 arg18 harg18 arg19 harg19 arg20 harg20 arg21 harg21 x0 x7 x8 x9 x10 x11 x12 xs0 xs1 xs2 xs3 := rfl
/-- The run's store into the output window is that. -/
theorem run_L14 : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4).1 = [⟨Rect.unit ![0, 0] S768x1152.size inb_S768x1152_S768x1152_0_0, k0_pay2 (arg21.view.readCov (LS3 i arg1 harg1 arg8 harg8 arg9 harg9 arg10 harg10 arg11 harg11 arg12 harg12 arg13 harg13 arg18 harg18 arg19 harg19 arg20 harg20 arg21 harg21 x0 x7 x8 x9 x10 x11 x12 xs0 xs1 xs2 xs3) (Rect.unit (s := S6x1152x768) (k0_off12 i) S1x1152x768.size (k0_off12_inb i hc2)).toLoadRect)⟩] := rfl
/-- The run's store into the scale bytes' window is that. -/
theorem run_L16 : (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4).2.2.1 = [⟨Rect.unit ![0, 0] S768x216.size inb_S768x216_S768x216_0_0, k0_pay3 (arg22.view.readAt (Elt F) (Rect.unit (s := S6x216x768) (k0_off13 i) S1x216x768.size (k0_off13_inb i hc2)).toLoadRect (arg22.view.writes (Elt F) (harg22.unread xs4) (LS4 i arg1 harg1 arg8 harg8 arg9 harg9 arg10 harg10 arg11 harg11 arg18 harg18 arg19 harg19 x0 x7 x8 x9 x10 xs0 xs1)))⟩] := rfl

end CaseD

end Cert.KernelIdeal.Run
-- ==== Proof.KernelIdeal.AfterD.lean ====
/-
  The step in case D: the last slice, after which the outputs are stored.
-/
module

public import proofs.«01_k».proof.Proof.KernelIdeal.Body
public import proofs.«01_k».proof.Proof.KernelIdeal.PiecesD

@[expose] public section

set_option maxRecDepth 16384

noncomputable section

namespace Cert.KernelIdeal.Run

open Cert.KernelIdeal.Gen Cert.KernelIdeal.Pure Cert.KernelIdeal.Buf Cert.Spec
open Idealize.ShloMosaic Idealize.ShloMosaic.TcCoe

namespace CaseD

variable (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : ¬cond0_0 i) (hc1 : ¬cond0_1 i) (hc2 : cond0_2 i) (x0 : Vec Ideal S1152x768 .bf16) (x1 : Vec Ideal S1152x768 .f32) (x2 : Vec Ideal S768x1152 .fp8e4m3) (x3 : Vec Ideal S768x36 .i8) (x4 : Vec Ideal S768x1152 .fp8e4m3) (x5 : Vec Ideal S768x36 .i8) (x6 : Vec Ideal S1152x768 .fp8e4m3) (x7 : Vec Ideal S128x1152 .fp8e4m3) (x8 : Vec Ideal S128x36 .i8) (x9 : Vec Ideal S128x1152 .fp8e4m3) (x10 : Vec Ideal S128x36 .i8) (x11 : Vec Ideal S192x768 .fp8e4m3) (x12 : Vec Ideal S192x216 .i8) (x13 : Vec Ideal S1152x216 .i8) (xs0 : Vec Ideal S2x768x1152 .bf16) (xs1 : Vec Ideal S2x768x1152 .bf16) (xs2 : Vec Ideal S2x1152x768 .bf16) (xs3 : Vec Ideal S6x1152x768 .f32) (xs4 : Vec Ideal S6x216x768 .i32)

set_option maxHeartbeats 1000000 in
/-- The step takes the buffers from what a step should find to what the next one should, and stores the layer's codes. -/
theorem after {a : In} {s : ℕ} (hs : (i 0).val = s) (h6 : 0 < s / 6) (h54 : s < 54) (B : Blk a s x0 x7 x8 x9 x10 x11 x12)
    (I : Inv a s xs0 xs1 xs2 xs3 xs4) :
    After a s (arg18.view.read (Elt Ideal) (arg18.view.writes (Elt Ideal) (harg18.unread xs0) (LS0 i arg8 harg8 arg9 harg9 x7 x8)))
      (arg19.view.read (Elt Ideal) (arg19.view.writes (Elt Ideal) (harg19.unread xs1) (LS1 i arg10 harg10 arg11 harg11 x9 x10)))
      (arg20.view.read (Elt Ideal) (arg20.view.writes (Elt Ideal) (harg20.unread xs2) (LS2 i arg12 harg12 arg13 harg13 x11 x12)))
      (arg21.view.read (Elt Ideal) (arg21.view.writes (Elt Ideal) (harg21.unread xs3) (LS3 i arg1 harg1 arg8 harg8 arg9 harg9 arg10 harg10 arg11 harg11 arg12 harg12 arg13 harg13 arg18 harg18 arg19 harg19 arg20 harg20 arg21 harg21 x0 x7 x8 x9 x10 x11 x12 xs0 xs1 xs2 xs3)))
      (arg22.view.read (Elt Ideal) (arg22.view.writes (Elt Ideal) (harg22.unread xs4) (LS4 i arg1 harg1 arg8 harg8 arg9 harg9 arg10 harg10 arg11 harg11 arg18 harg18 arg19 harg19 x0 x7 x8 x9 x10 xs0 xs1)))
      (L15 i arg1 harg1 arg8 harg8 arg9 harg9 arg10 harg10 arg11 harg11 arg18 harg18 arg19 harg19 x0 x7 x8 x9 x10 xs0 xs1) (LS3 i arg1 harg1 arg8 harg8 arg9 harg9 arg10 harg10 arg11 harg11 arg12 harg12 arg13 harg13 arg18 harg18 arg19 harg19 arg20 harg20 arg21 harg21 x0 x7 x8 x9 x10 x11 x12 xs0 xs1 xs2 xs3) := by
  obtain ⟨IW, I21, I22⟩ := I
  obtain ⟨I18, I19, I20⟩ := IW (by omega) (by omega)
  have r21 : arg21.view.read (Elt Ideal) (harg21.unread xs3) = xs3 := harg21.read_unread xs3
  have q : ∀ (T : Fin 6) (d : Fin 1152) (n : Fin 768), T.val = s % 6 → arg21.view.read (Elt Ideal) (harg21.unread xs3) (ix3 T d n) = a.part (s / 6) d.val (768 * (s % 6) + n.val) := fun T d n hT => by
    rw [r21, I21 T d n (by rw [hT, done_before]; exact h6), hT, done_before]
  exact Pure.after hs B (load_full _ _ _ _) (load_full _ _ _ _) (load_full _ _ _ _) (load_full _ _ _ _) (load_full _ _ _ _) (load_full _ _ _ _) arg1 harg1
    arg18.view (harg18.unread xs0) [] arg19.view (harg19.unread xs1) [] arg20.view (harg20.unread xs2) []
    arg21.view (harg21.unread xs3) [] arg22.view (harg22.unread xs4)
    (by rw [View.writes_nil, harg18.read_unread]; exact I18) (by rw [View.writes_nil, harg19.read_unread]; exact I19) (by rw [View.writes_nil, harg20.read_unread]; exact I20) (by rw [harg22.read_unread]; exact I22)
    (fun d n => acc_load hs arg21.view _ (k0_off6_inb i) (k0_off6_eq i) (by omega) _ (fun T d n hT _ => q T d n hT) d n)
    (fun d n => acc_load hs arg21.view _ (k0_off9_inb i) (k0_off9_eq i) (by omega) _ (fun T d n hT _ => q T d n hT) d n)
    (fun d n => acc_load hs arg21.view _ (k0_off11_inb i) (k0_off11_eq i) (by omega) _ (fun T d n hT _ => q T d n hT) d n)
    (fun T d n hT hd => by rw [View.writes_nil, r21]; exact I21 T d n hd)
    _ _ _ _ _ _ rfl rfl rfl rfl rfl rfl

end CaseD

end Cert.KernelIdeal.Run
-- ==== Proof.KernelIdeal.StoresD.lean ====
/-
  The run at the points of the last slice: what it stores is what the layer says.
-/
module

public import proofs.«01_k».proof.Proof.KernelIdeal.AfterD
public import proofs.«01_k».proof.Proof.KernelIdeal.Held

@[expose] public section

set_option maxRecDepth 16384

noncomputable section

namespace Cert.KernelIdeal.Run

open Cert.KernelIdeal.Gen Cert.KernelIdeal.Pure Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

namespace CaseD

variable (c : Dev nD) (i : grid0.Coords) (arg1 : Memref sig .tc .vmem S1152x768 .bf16) (harg1 : arg1.IsWhole) (arg2 : Memref sig .tc .vmem S1152x768 .f32) (harg2 : arg2.IsWhole) (arg3 : Memref sig .tc .vmem S768x1152 .fp8e4m3) (harg3 : arg3.IsWhole) (arg4 : Memref sig .tc .vmem S768x36 .i8) (harg4 : arg4.IsWhole) (arg5 : Memref sig .tc .vmem S768x1152 .fp8e4m3) (harg5 : arg5.IsWhole) (arg6 : Memref sig .tc .vmem S768x36 .i8) (harg6 : arg6.IsWhole) (arg7 : Memref sig .tc .vmem S1152x768 .fp8e4m3) (harg7 : arg7.IsWhole) (arg8 : Memref sig .tc .vmem S128x1152 .fp8e4m3) (harg8 : arg8.IsWhole) (arg9 : Memref sig .tc .vmem S128x36 .i8) (harg9 : arg9.IsWhole) (arg10 : Memref sig .tc .vmem S128x1152 .fp8e4m3) (harg10 : arg10.IsWhole) (arg11 : Memref sig .tc .vmem S128x36 .i8) (harg11 : arg11.IsWhole) (arg12 : Memref sig .tc .vmem S192x768 .fp8e4m3) (harg12 : arg12.IsWhole) (arg13 : Memref sig .tc .vmem S192x216 .i8) (harg13 : arg13.IsWhole) (arg14 : Memref sig .tc .vmem S1152x216 .i8) (harg14 : arg14.IsWhole) (arg15 : Memref sig .tc .vmem S768x1152 .bf16) (harg15 : arg15.IsWhole) (arg16 : Memref sig .tc .vmem S768x768 .fp8e4m3) (harg16 : arg16.IsWhole) (arg17 : Memref sig .tc .vmem S768x216 .i8) (harg17 : arg17.IsWhole) (arg18 : Memref sig .tc .vmem S2x768x1152 .bf16) (harg18 : arg18.IsWhole) (arg19 : Memref sig .tc .vmem S2x768x1152 .bf16) (harg19 : arg19.IsWhole) (arg20 : Memref sig .tc .vmem S2x1152x768 .bf16) (harg20 : arg20.IsWhole) (arg21 : Memref sig .tc .vmem S6x1152x768 .f32) (harg21 : arg21.IsWhole) (arg22 : Memref sig .tc .vmem S6x216x768 .i32) (harg22 : arg22.IsWhole) (hc0 : ¬cond0_0 i) (hc1 : ¬cond0_1 i) (hc2 : cond0_2 i) (x0 : Vec Ideal S1152x768 .bf16) (x1 : Vec Ideal S1152x768 .f32) (x2 : Vec Ideal S768x1152 .fp8e4m3) (x3 : Vec Ideal S768x36 .i8) (x4 : Vec Ideal S768x1152 .fp8e4m3) (x5 : Vec Ideal S768x36 .i8) (x6 : Vec Ideal S1152x768 .fp8e4m3) (x7 : Vec Ideal S128x1152 .fp8e4m3) (x8 : Vec Ideal S128x36 .i8) (x9 : Vec Ideal S128x1152 .fp8e4m3) (x10 : Vec Ideal S128x36 .i8) (x11 : Vec Ideal S192x768 .fp8e4m3) (x12 : Vec Ideal S192x216 .i8) (x13 : Vec Ideal S1152x216 .i8) (xs0 : Vec Ideal S2x768x1152 .bf16) (xs1 : Vec Ideal S2x768x1152 .bf16) (xs2 : Vec Ideal S2x1152x768 .bf16) (xs3 : Vec Ideal S6x1152x768 .f32) (xs4 : Vec Ideal S6x216x768 .i32)

set_option maxHeartbeats 1000000 in
/-- The step, of the pieces the body's run stores. -/
theorem after_run {a : In} {s : ℕ} (hs : (i 0).val = s) (h6 : 0 < s / 6) (h54 : s < 54) (B : Blk a s x0 x7 x8 x9 x10 x11 x12)

    (I : Inv a s xs0 xs1 xs2 xs3 xs4) : After a s (arg18.view.read (Elt Ideal) (arg18.view.writes (Elt Ideal) (harg18.unread xs0) ((kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4).2.2.2.1))) (arg19.view.read (Elt Ideal) (arg19.view.writes (Elt Ideal) (harg19.unread xs1) ((kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4).2.2.2.2.1))) (arg20.view.read (Elt Ideal) (arg20.view.writes (Elt Ideal) (harg20.unread xs2) ((kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4).2.2.2.2.2.1))) (arg21.view.read (Elt Ideal) (arg21.view.writes (Elt Ideal) (harg21.unread xs3) ((kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4).2.2.2.2.2.2.1))) (arg22.view.read (Elt Ideal) (arg22.view.writes (Elt Ideal) (harg22.unread xs4) ((kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4).2.2.2.2.2.2.2.1))) ((kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4).2.1) ((kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4).2.2.2.2.2.2.1) := by
  exact After.of_eq (run_LS0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4) (run_LS1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4) (run_LS2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4) (run_LS3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4) (run_LS4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4) (run_L15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 xs0 xs1 xs2 xs3 xs4)
    (after i arg1 harg1 arg8 harg8 arg9 harg9 arg10 harg10 arg11 harg11 arg12 harg12 arg13 harg13 arg18 harg18 arg19 harg19 arg20 harg20 arg21 harg21 arg22 harg22 x0 x7 x8 x9 x10 x11 x12 xs0 xs1 xs2 xs3 xs4 hs h6 h54 B  I)

end CaseD

set_option maxHeartbeats 4000000 in
/-- The run at the points of the last slice. -/
theorem stores_D (c : Dev nD) (t : Fin cfg0.N) (h0 : ¬t.val % 54 = 0) (h1 : ¬t.val < 6) (h2 : 48 ≤ t.val) (xs0 : Vec Ideal S2x768x1152 .bf16) (xs1 : Vec Ideal S2x768x1152 .bf16) (xs2 : Vec Ideal S2x1152x768 .bf16) (xs3 : Vec Ideal S6x1152x768 .f32) (xs4 : Vec Ideal S6x216x768 .i32) (hI : Inv (args m c) t.val xs0 xs1 xs2 xs3 xs4) : Stores m c t xs0 xs1 xs2 xs3 xs4 := by
  intro d14 d16
  have hN : t.val < 54 := lt_of_lt_of_eq t.isLt (show cfg0.N = 54 from N_0)
  have hA : After (args m c) t.val _ _ _ _ _ (CaseD.L15 (grid0.coords t) (ms0_0 t) (hs0_0 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 7 t) (iblk m c 8 t) (iblk m c 9 t) (iblk m c 10 t) xs0 xs1) (CaseD.LS3 (grid0.coords t) (ms0_0 t) (hs0_0 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (iblk m c 0 t) (iblk m c 7 t) (iblk m c 8 t) (iblk m c 9 t) (iblk m c 10 t) (iblk m c 11 t) (iblk m c 12 t) xs0 xs1 xs2 xs3) := CaseD.after (grid0.coords t) (ms0_0 t) (hs0_0 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 7 t) (iblk m c 8 t) (iblk m c 9 t) (iblk m c 10 t) (iblk m c 11 t) (iblk m c 12 t) xs0 xs1 xs2 xs3 xs4 (coords_val t) (by omega) (by omega) (blocks m c t) hI
  have hi := coords_val t
  have h8 : t.val / 6 = 8 := by omega
  refine ⟨iprop(∃ d, owns (c : Thread nD τ) (ms0_14 t) fullShare d), _, iprop(∃ d, owns (c : Thread nD τ) (ms0_16 t) fullShare d), _, _, _, _, _, _, _,
    fun K => (kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0 xs1 xs2 xs3 xs4).2.2.2.2.2.2.2.2 Set.univ K, ?_, ?_, ?_, ?_, ?_⟩
  · exact CaseD.after_run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0 xs1 xs2 xs3 xs4 (coords_val t) (by omega) (by omega) (blocks m c t) hI
  · iintro H; iexists _; iexact H
  · iintro H; iexists _; iexact H
  · rw [show (dats m 0 c).leavesExact 14 t = owns (c : Thread nD τ) (ms0_14 t) fullShare ((dats m 0 c).after 14 t) from by
      unfold Dat.leavesExact; rw [liveAt0_14_D t (fun h => h0 ((hcond0_0 t).mp h)) (fun h => h1 ((hcond0_1 t).mp h)) ((hcond0_2 t).mpr h2)], after0_14]
    iintro ⟨%f, H⟩
    unfold owns; iexists _; isplitr
    swap; · iexact H
    ipureintro
    funext y
    rw [eq_ix2 y]
    refine (congrArg (fun L => (ms0_14 t).view.read (Elt Ideal) ((ms0_14 t).view.writes (Elt Ideal) f L) (ix2 (y 0) (y 1))) (CaseD.run_L14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0 xs1 xs2 xs3 xs4)).trans ?_
    refine (congrFun (View.read_writes_full (ms0_14 t).view f _ _ _) _).trans ?_
    exact out_y hi h8 hA _ ((hcond0_2 t).mpr h2) _ _
  · rw [show (dats m 0 c).leavesExact 16 t = owns (c : Thread nD τ) (ms0_16 t) fullShare ((dats m 0 c).after 16 t) from by
      unfold Dat.leavesExact; rw [liveAt0_16_D t (fun h => h0 ((hcond0_0 t).mp h)) (fun h => h1 ((hcond0_1 t).mp h)) ((hcond0_2 t).mpr h2)], after0_16]
    iintro ⟨%f, H⟩
    unfold owns; iexists _; isplitr
    swap; · iexact H
    ipureintro
    funext y
    rw [eq_ix2 y]
    refine (congrArg (fun L => (ms0_16 t).view.read (Elt Ideal) ((ms0_16 t).view.writes (Elt Ideal) f L) (ix2 (y 0) (y 1))) (CaseD.run_L16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0 xs1 xs2 xs3 xs4)).trans ?_
    refine (congrFun (View.read_writes_full (ms0_16 t).view f _ _ _) _).trans ?_
    exact out_gs hi h8 _ _ hA.inv.2.2 ((hcond0_2 t).mpr h2) _ _

end Cert.KernelIdeal.Run
-- ==== Proof.KernelIdeal.Launch.lean ====
/-
  The launch: every execution ends with the result arrays at the layer's results.
-/
module

public import proofs.«01_k».proof.Proof.KernelIdeal.StoresA
public import proofs.«01_k».proof.Proof.KernelIdeal.StoresB
public import proofs.«01_k».proof.Proof.KernelIdeal.StoresC
public import proofs.«01_k».proof.Proof.KernelIdeal.StoresD

@[expose] public section

set_option maxRecDepth 16384

noncomputable section

namespace Cert.KernelIdeal.Run

open Cert.KernelIdeal.Gen Cert.KernelIdeal.Pure Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 54 := lt_of_lt_of_eq t.isLt (show cfg0.N = 54 from N_0)
  refine sound_of m c t fun xs0 xs1 xs2 xs3 xs4 hI => ?_
  by_cases h0 : t.val % 54 = 0
  · exact stores_A m c t h0 (by omega) (by omega) xs0 xs1 xs2 xs3 xs4 hI
  · by_cases h1 : t.val < 6
    · exact stores_B m c t h0 h1 (by omega) xs0 xs1 xs2 xs3 xs4 hI
    · by_cases h2 : 48 ≤ t.val
      · exact stores_D m c t h0 h1 h2 xs0 xs1 xs2 xs3 xs4 hI
      · exact stores_C m c t h0 h1 h2 xs0 xs1 xs2 xs3 xs4 hI

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- Before the first point the buffers may hold anything. -/
theorem hin (c : Dev nD) : Pipeline.ΦA spec0 c ⊢ (dats m 0 c).Φ 0 := by
  rw [show (dats m 0 c).Φ 0 = Held m c 0 from rfl, PhiA0_eq]
  unfold Held
  iintro ⟨⟨⟨%x0, HS0⟩, ⟨%x1, HS1⟩, ⟨%x2, HS2⟩, ⟨%x3, HS3⟩, ⟨%x4, HS4⟩⟩, Hg⟩
  iexists x0
  iexists x1
  iexists x2
  iexists x3
  iexists x4
  isplitr; · ipureintro; exact Inv.zero _ _ _ _ _ _
  isplitl [HS0 HS1 HS2 HS3 HS4]
  · isplitl [HS0]; · iexact HS0
    isplitl [HS1]; · iexact HS1
    isplitl [HS2]; · iexact HS2
    isplitl [HS3]; · iexact HS3
    iexact HS4
  iexact Hg

/-- After the last point what they hold is forgotten. -/
theorem hout (c : Dev nD) : (dats m 0 c).Φ (Fin.last cfg0.N) ⊢ Pipeline.ΦA spec0 c := by
  rw [show (dats m 0 c).Φ (Fin.last cfg0.N) = Held m c (Fin.last cfg0.N).val from rfl, PhiA0_eq]
  unfold Held
  iintro ⟨%x0, %x1, %x2, %x3, %x4, -, ⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-! ## The run -/

-- the launch theorem's implicit arguments are found by unifying its conclusion with this one, which takes unfolding plain definitions in a metavariable's type
set_option backward.isDefEq.respectTransparency.types false in
/-- The launch: every execution terminates, with the pipeline's arrays at what the proof data say and every semaphore at zero. -/
theorem run_main : θ_run defs (onTc (τ := τ) (main (F := Ideal))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

end Cert.KernelIdeal.Run
-- ==== Proof.Results.lean ====
/-
  The layer's three results as arrays: the output, the activation's codes and its scale bytes, tokens by columns.
-/
module

public import proofs.«01_k».proof.Proof.Spec

@[expose] public section

noncomputable section

namespace Cert.Spec

open Idealize.ShloMosaic

/-- The layer's output: the residual plus the down product over all nine slices of 768 features. -/
def resY (a : In) : (⟨2, ![4608, 1152]⟩ : Shape).Idx → EReal := fun y => a.part 9 (y (1 : Fin 2)).val (y (0 : Fin 2)).val
/-- The activation's codes. -/
def resC (a : In) : (⟨2, ![4608, 6912]⟩ : Shape).Idx → EReal := fun y => a.code (y (1 : Fin 2)).val (y (0 : Fin 2)).val
/-- The activation's scale bytes. -/
def resS (a : In) : (⟨2, ![4608, 216]⟩ : Shape).Idx → BitVec 8 := fun y => (a.byte (y (1 : Fin 2)).val (y (0 : Fin 2)).val).setWidth 8

end Cert.Spec
-- ==== Proof.KernelIdeal.Result.lean ====
/-
  The kernel's run: its three result arrays are the layer's results, its arguments are as launched.
-/
module

public import proofs.«01_k».proof.Proof.KernelIdeal.Launch
public import proofs.«01_k».proof.Proof.Results

@[expose] public section

set_option maxRecDepth 16384

noncomputable section

namespace Cert.KernelIdeal.Run

open Cert.KernelIdeal.Gen Cert.Spec
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The output's window is written back at the last six points only. -/
theorem flush_14 : ∀ t : Fin cfg0.N, (cfg0.win 14).flush t = true → 48 ≤ t.val := by decide +kernel

/-- So is the scale bytes' window. -/
theorem flush_16 : ∀ t : Fin cfg0.N, (cfg0.win 16).flush t = true → 48 ≤ t.val := by decide +kernel

/-- The output array after the run. -/
theorem final_14 (c : Dev nD) : (dats m 0 c).arrAt 14 cfg0.N = resY (args m c) := by
  refine (dats m 0 c).arrAt_eq_of_covers 14 _ (by decide +kernel) fun t hf y => ?_
  have h48 := flush_14 t hf
  have hN : t.val < 54 := lt_of_lt_of_eq t.isLt (show cfg0.N = 54 from N_0)
  blk_simp
  rw [after0_14]
  refine congrArg₂ ((args m c).part 9) ?_ ?_
  · blk_simp [index_14]
    try omega
  · blk_simp [index_14]
    try omega

/-- The codes' array after the run. -/
theorem final_15 (c : Dev nD) : (dats m 0 c).arrAt 15 cfg0.N = resC (args m c) := by
  refine (dats m 0 c).arrAt_eq_of_covers 15 _ (by decide +kernel) fun t hf y => ?_
  blk_simp
  rw [after0_15]
  refine congrArg₂ (args m c).code ?_ ?_
  · blk_simp [index_15]
    try omega
  · blk_simp [index_15]
    try omega

/-- The scale bytes' array after the run. -/
theorem final_16 (c : Dev nD) : (dats m 0 c).arrAt 16 cfg0.N = resS (args m c) := by
  refine (dats m 0 c).arrAt_eq_of_covers 16 _ (by decide +kernel) fun t hf y => ?_
  have h48 := flush_16 t hf
  have hN : t.val < 54 := lt_of_lt_of_eq t.isLt (show cfg0.N = 54 from N_0)
  blk_simp
  rw [after0_16]
  refine congrArg (BitVec.setWidth 8) (congrArg₂ (args m c).byte ?_ ?_)
  · blk_simp [index_16]
    try omega
  · blk_simp [index_16]
    try omega

/-- What the run leaves in the argument arrays is what was there. -/
theorem kept (r : PUnit × MemSt nD τ sig (Elt Ideal)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  have h := h c
  ⟨(h.1 0).trans (((dats m 0 c).arrAt_in 0 rfl _).trans ((A_eq m c 0).trans (V_main_arg0 m c))),
    (h.1 1).trans (((dats m 0 c).arrAt_in 1 rfl _).trans ((A_eq m c 1).trans (V_main_arg1 m c))),
    (h.1 7).trans (((dats m 0 c).arrAt_in 7 rfl _).trans ((A_eq m c 7).trans (V_main_arg2 m c))),
    (h.1 8).trans (((dats m 0 c).arrAt_in 8 rfl _).trans ((A_eq m c 8).trans (V_main_arg3 m c))),
    (h.1 9).trans (((dats m 0 c).arrAt_in 9 rfl _).trans ((A_eq m c 9).trans (V_main_arg4 m c))),
    (h.1 10).trans (((dats m 0 c).arrAt_in 10 rfl _).trans ((A_eq m c 10).trans (V_main_arg5 m c))),
    (h.1 11).trans (((dats m 0 c).arrAt_in 11 rfl _).trans ((A_eq m c 11).trans (V_main_arg6 m c))),
    (h.1 13).trans (((dats m 0 c).arrAt_in 13 rfl _).trans ((A_eq m c 13).trans (V_main_arg7 m c)))⟩

/-- Every execution of the kernel ends with the layer's three results and with its arguments as launched. -/
theorem run : θ_run defs (onTc (τ := τ) (main (F := Ideal))) ⟨m, fun _ => 0, ρ⟩ fun r => ∀ c : Dev nD,
      r.2.mem ((c.tc : Thread nD τ).loc main_v0_0) = resY (args m c)
      ∧ r.2.mem ((c.tc : Thread nD τ).loc main_v0_1) = resC (args m c)
      ∧ r.2.mem ((c.tc : Thread nD τ).loc main_v0_2) = resS (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h.1.out_eq c 14).trans (final_14 m c), (h.1.out_eq c 15).trans (final_15 m c), (h.1.out_eq c 16).trans (final_16 m c), kept m r h.1 c⟩)
    (run_main m ρ)

/-- Every execution of the kernel ends with its arguments as launched and every semaphore at zero. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run defs _ _).mono (fun r h => ⟨kept m r h.1, h.2⟩) (run_main m ρ)

end Cert.KernelIdeal.Run
-- ==== Proof.Exponent.lean ====
/-
  Powers of two by their exponent field, and the two ways of finding the exponent of a number: eight halving steps, and a
  count of the powers of two that do not exceed it.
-/
module

public import proofs.«01_k».proof.Proof.Spec

@[expose] public section

noncomputable section

namespace Cert.Spec

open Idealize.ShloMosaic

/-! ## The powers of two -/

/-- The power with exponent field `k`. -/
def P (k : ℕ) : EReal := pow2 (BitVec.ofNat 32 k)

/-- The fields of the pattern: no sign, exponent `k`, no fraction. -/
theorem fields (k : ℕ) (hk : k ≤ 255) :
    ((BitVec.ofNat 32 k <<< (23 : Nat)).extractLsb' 31 1 == 1#1) = false
      ∧ ((BitVec.ofNat 32 k <<< (23 : Nat)).extractLsb' 23 8).toNat = k
      ∧ ((BitVec.ofNat 32 k <<< (23 : Nat)).extractLsb' 0 23).toNat = 0 :=
  (by decide +kernel : ∀ k : Fin 256, ((BitVec.ofNat 32 k.val <<< (23 : Nat)).extractLsb' 31 1 == 1#1) = false
      ∧ ((BitVec.ofNat 32 k.val <<< (23 : Nat)).extractLsb' 23 8).toNat = k.val
      ∧ ((BitVec.ofNat 32 k.val <<< (23 : Nat)).extractLsb' 0 23).toNat = 0) ⟨k, by omega⟩

/-- At field 0 it is zero. -/
theorem P_zero : P 0 = 0 := by
  obtain ⟨h1, h2, h3⟩ := fields 0 (by omega)
  simp only [P, pow2, Ideal.ofBits, Ideal.ieee]
  rw [h1, h2, h3]
  norm_num

/-- At field 255 it is infinity. -/
theorem P_top : P 255 = ⊤ := by
  obtain ⟨h1, h2, h3⟩ := fields 255 (by omega)
  simp only [P, pow2, Ideal.ofBits, Ideal.ieee]
  rw [h1, h2, h3]
  norm_num

/-- Between them it is 2 ^ (k - 127). -/
theorem P_mid (k : ℕ) (h0 : 0 < k) (h1 : k < 255) : P k = (((2 : ℝ) ^ ((k : ℤ) - 127) : ℝ) : EReal) := by
  obtain ⟨e1, e2, e3⟩ := fields k (by omega)
  simp only [P, pow2, Ideal.ofBits, Ideal.ieee]
  rw [e1, e2, e3]
  rw [if_neg (by omega), if_neg (by omega)]
  refine congrArg (fun r : ℝ => (r : EReal)) ?_
  rw [show ((k : ℤ) - 127) = 23 + ((k : ℤ) - 127 - 23) by ring, zpow_add₀ (by norm_num)]
  norm_num

/-- The powers grow with the field. -/
theorem P_lt {j k : ℕ} (hjk : j < k) (hk : k ≤ 255) : P j < P k := by
  rcases Nat.eq_zero_or_pos j with rfl | hj
  · rw [P_zero]
    rcases Nat.lt_or_ge k 255 with h | h
    · rw [P_mid k hjk h]
      exact_mod_cast zpow_pos (by norm_num : (0 : ℝ) < 2) _
    · rw [show k = 255 by omega, P_top]
      exact EReal.zero_lt_top
  · rw [P_mid j hj (by omega)]
    rcases Nat.lt_or_ge k 255 with h | h
    · rw [P_mid k (by omega) h]
      exact EReal.coe_lt_coe_iff.mpr (zpow_lt_zpow_right₀ (by norm_num : (1 : ℝ) < 2) (show (j : ℤ) - 127 < (k : ℤ) - 127 by omega))
    · rw [show k = 255 by omega, P_top]
      exact EReal.coe_lt_top _

/-- The power as a function of the field spells it out: zero at 0, infinity at 255, else 2 ^ (e - 127). -/
def power (e : BitVec 32) : EReal :=
  Scalar.select (IntOp.cmpi .eq e 0#32) (0 : EReal) (Scalar.select (IntOp.cmpi .eq e 255#32) (Ideal.ofBits .f32 0x7F800000#32) (Ideal.exp2 (((e - 127#32).toInt : ℝ) : EReal)))

/-- The two spellings agree. -/
theorem power_eq (k : ℕ) (hk : k ≤ 255) : power (BitVec.ofNat 32 k) = pow2 (BitVec.ofNat 32 k) := by
  have c0 : IntOp.cmpi .eq (BitVec.ofNat 32 k) 0#32 = if k = 0 then 1#1 else 0#1 :=
    (by decide +kernel : ∀ k : Fin 256, IntOp.cmpi .eq (BitVec.ofNat 32 k.val) 0#32 = if k.val = 0 then 1#1 else 0#1) ⟨k, by omega⟩
  have c1 : IntOp.cmpi .eq (BitVec.ofNat 32 k) 255#32 = if k = 255 then 1#1 else 0#1 :=
    (by decide +kernel : ∀ k : Fin 256, IntOp.cmpi .eq (BitVec.ofNat 32 k.val) 255#32 = if k.val = 255 then 1#1 else 0#1) ⟨k, by omega⟩
  have c2 : (BitVec.ofNat 32 k - 127#32).toInt = (k : ℤ) - 127 :=
    (by decide +kernel : ∀ k : Fin 256, (BitVec.ofNat 32 k.val - 127#32).toInt = (k.val : ℤ) - 127) ⟨k, by omega⟩
  show _ = P k
  unfold power
  rw [c0, c1, c2]
  rcases Nat.eq_zero_or_pos k with rfl | h
  · rw [P_zero]; rfl
  rcases Nat.lt_or_ge k 255 with h' | h'
  · rw [if_neg (by omega), if_neg (by omega), P_mid k h h']
    refine (if_neg (by decide)).trans ((if_neg (by decide)).trans ?_)
    rw [Ideal.exp2_coe]
    exact congrArg (fun r : ℝ => (r : EReal)) (Real.rpow_intCast 2 _)
  · rw [show k = 255 by omega, P_top]
    show Ideal.ofBits .f32 0x7F800000#32 = ⊤
    exact P_top

/-! ## The search -/

/-- What holds of a lower bound `E` of the exponent while `w` values are left. -/
def Left (a : EReal) (E w : ℕ) : Prop := E + w ≤ 256 ∧ P E ≤ a ∧ (E + w ≤ 255 → a < P (E + w))

/-- One step halves what is left. -/
theorem bit_spec (a : EReal) (E b : ℕ) (h : Left a E (b + b)) : ∃ E', bit a (BitVec.ofNat 32 E) (BitVec.ofNat 32 b) = BitVec.ofNat 32 E' ∧ Left a E' b := by
  obtain ⟨h1, h2, h3⟩ := h
  have e : BitVec.ofNat 32 E + BitVec.ofNat 32 b = BitVec.ofNat 32 (E + b) := (BitVec.ofNat_add E b).symm
  unfold bit
  rw [e]
  by_cases hlt : a < pow2 (BitVec.ofNat 32 (E + b))
  · exact ⟨E, if_pos hlt, by omega, h2, fun _ => hlt⟩
  · exact ⟨E + b, if_neg hlt, by omega, not_lt.mp hlt, fun h => by rw [Nat.add_assoc]; exact h3 (by omega)⟩

/-- The search's result is the exponent: the largest whose power does not exceed the number. -/
theorem expo_spec (a : EReal) (ha : 0 ≤ a) : ∃ E, expo a = BitVec.ofNat 32 E ∧ Left a E 1 := by
  have s0 : Left a 0 (128 + 128) := ⟨by omega, by rw [P_zero]; exact ha, fun h => by omega⟩
  obtain ⟨E1, e1, s1⟩ := bit_spec a 0 128 s0
  obtain ⟨E2, e2, s2⟩ := bit_spec a E1 64 s1
  obtain ⟨E3, e3, s3⟩ := bit_spec a E2 32 s2
  obtain ⟨E4, e4, s4⟩ := bit_spec a E3 16 s3
  obtain ⟨E5, e5, s5⟩ := bit_spec a E4 8 s4
  obtain ⟨E6, e6, s6⟩ := bit_spec a E5 4 s5
  obtain ⟨E7, e7, s7⟩ := bit_spec a E6 2 s6
  obtain ⟨E8, e8, s8⟩ := bit_spec a E7 1 s7
  refine ⟨E8, ?_, s8⟩
  unfold expo
  rw [e1, e2, e3, e4, e5, e6, e7, e8]

/-! ## The count -/

/-- A sum of words that are small numbers is the number's sum. -/
theorem fold_addi {ι : Type} [DecidableEq ι] (s : Finset ι) (f : ι → ℕ) : s.fold IntOp.addi 0#32 (fun k => BitVec.ofNat 32 (f k)) = BitVec.ofNat 32 (∑ k ∈ s, f k) := by
  induction s using Finset.induction_on with
  | empty => simp
  | insert x s hx ih =>
    rw [Finset.fold_insert hx, Finset.sum_insert hx, ih]
    exact (BitVec.ofNat_add _ _).symm

/-- Counting the powers 1 to 255 that do not exceed a number gives its exponent. -/
theorem count_eq (a : EReal) (E : ℕ) (h : Left a E 1) : (∑ k : Fin 255, if P (1 + k.val) ≤ a then 1 else 0) = E := by
  obtain ⟨h1, h2, h3⟩ := h
  have e : ∀ k : Fin 255, (if P (1 + k.val) ≤ a then (1 : ℕ) else 0) = if k.val < E then 1 else 0 := fun k => by
    by_cases hk : k.val < E
    · rw [if_pos hk, if_pos]
      rcases Nat.lt_or_ge (1 + k.val) E with h | h
      · exact (P_lt h (by omega)).le.trans h2
      · rw [show 1 + k.val = E by omega]; exact h2
    · rw [if_neg hk, if_neg]
      have hE : a < P (E + 1) := h3 (by omega)
      rcases Nat.lt_or_ge (E + 1) (1 + k.val) with h | h
      · exact not_le.mpr (hE.trans (P_lt h (by omega)))
      · rw [show 1 + k.val = E + 1 by omega]; exact not_le.mpr hE
  simp only [e]
  have c : ∀ E, E ≤ 255 → (∑ k : Fin 255, if k.val < E then (1 : ℕ) else 0) = E := fun E hE =>
    (by decide +kernel : ∀ E : Fin 256, (∑ k : Fin 255, if k.val < E.val then (1 : ℕ) else 0) = E.val) ⟨E, by omega⟩
  exact c E (by omega)

/-- The count as a sum of words: the powers are spelt out, each comparison is a bit widened to a word. -/
def count (a : EReal) : BitVec 32 :=
  Finset.univ.fold IntOp.addi 0#32 fun k : Fin 255 => BitVec.setWidth 32 (BitVec.ofBool (decide (power (IntOp.addi 1#32 (BitVec.ofNat 32 k.val)) ≤ a)))

/-- The count and the search find the same exponent. -/
theorem count_expo (a : EReal) (ha : 0 ≤ a) : count a = expo a := by
  obtain ⟨E, e, h⟩ := expo_spec a ha
  have hk : ∀ k : Fin 255, BitVec.setWidth 32 (BitVec.ofBool (decide (power (IntOp.addi 1#32 (BitVec.ofNat 32 k.val)) ≤ a))) = BitVec.ofNat 32 (if P (1 + k.val) ≤ a then 1 else 0) := fun k => by
    have h1 : IntOp.addi 1#32 (BitVec.ofNat 32 k.val) = BitVec.ofNat 32 (1 + k.val) := (BitVec.ofNat_add 1 k.val).symm
    have h2 : power (BitVec.ofNat 32 (1 + k.val)) = P (1 + k.val) := power_eq _ (by omega)
    rw [h1, h2]
    by_cases hp : P (1 + k.val) ≤ a
    · rw [if_pos hp, decide_eq_true hp]; rfl
    · rw [if_neg hp, decide_eq_false hp]; rfl
  unfold count
  simp only [hk]
  rw [fold_addi, count_eq a E h, e]

/-! ## The scale from the exponent -/

/-- The scale's exponent: the exponent less the bias and 9, clipped. -/
def xexp (e : BitVec 32) : BitVec 32 := IntOp.minsi 127#32 (IntOp.maxsi 4294967169#32 (Scalar.select (IntOp.cmpi .eq e 0#32) 0#32 ((e - 126#32) - 9#32)))

/-- It is the scale byte less 127, and the byte and its mirror lie among the exponent fields. -/
theorem xexp_facts (E : ℕ) (hE : E ≤ 255) : xexp (BitVec.ofNat 32 E) + 127#32 = toByte (BitVec.ofNat 32 E)
    ∧ 127#32 - xexp (BitVec.ofNat 32 E) = 254#32 - toByte (BitVec.ofNat 32 E)
    ∧ (toByte (BitVec.ofNat 32 E)).toNat ≤ 255 ∧ (254#32 - toByte (BitVec.ofNat 32 E)).toNat ≤ 255 :=
  (by decide +kernel : ∀ E : Fin 256, xexp (BitVec.ofNat 32 E.val) + 127#32 = toByte (BitVec.ofNat 32 E.val)
    ∧ 127#32 - xexp (BitVec.ofNat 32 E.val) = 254#32 - toByte (BitVec.ofNat 32 E.val)
    ∧ (toByte (BitVec.ofNat 32 E.val)).toNat ≤ 255 ∧ (254#32 - toByte (BitVec.ofNat 32 E.val)).toNat ≤ 255) ⟨E, by omega⟩

end Cert.Spec
-- ==== Proof.ReferenceIdeal.Read.lean ====
/-
  The reference's vectors at their indices, over the extended reals.
-/
module

public import proofs.«01_k».proof.Proof.Gen.ReferenceIdeal.Value
public import proofs.«01_k».proof.Proof.Exponent

@[expose] public section

set_option maxRecDepth 16384

noncomputable section

namespace Cert.ReferenceIdeal.Read

open Cert.ReferenceIdeal.Gen
open Idealize.ShloMosaic Cert.Spec

/-- The group of 32 an index along 1152 falls in. -/
def g36 (k : Fin 1152) : Fin 36 := ⟨k.val / 32, by omega⟩

/-- The transposed tokens. -/
theorem pay2_apply (v : Vec Ideal S1152x4608 .bf16) (n : Fin 4608) (k : Fin 1152) : k0_pay2 (F := Ideal) v (ix2 n k) = v (ix2 k n) := by
  pointwise [k0_pay2]

/-- A factor chosen to be zero makes the product zero. -/
theorem select_mul (c : BitVec 1) (a b d : EReal) : Scalar.select c 0 (a * (b * d)) = a * (b * Scalar.select c 0 d) := by
  unfold Scalar.select
  split
  · rw [mul_zero, mul_zero]
  · rfl

/-- The same with one factor before it. -/
theorem select_one (c : BitVec 1) (a d : EReal) : Scalar.select c 0 (a * d) = a * Scalar.select c 0 d := by
  unfold Scalar.select
  split
  · rw [mul_zero]
  · rfl

/-- The same under a second choice. -/
theorem select_two (c e : BitVec 1) (a b d : EReal) : Scalar.select c 0 (Scalar.select e 0 (a * (b * d))) = Scalar.select e 0 (a * (b * Scalar.select c 0 d)) := by
  unfold Scalar.select
  split <;> split
  · rfl
  · rw [mul_zero, mul_zero]
  · rfl
  · rfl

/-- The gate's product. -/
theorem pay3_apply (v0 : Vec Ideal S1152x4608 .bf16) (v2 : Vec Ideal S6912x1152 .fp8e4m3) (v3 : Vec Ideal S6912x36 .i8) (n : Fin 4608) (f : Fin 6912) :
    k0_pay3 (F := Ideal) v0 v2 v3 (ix2 n f) = ∑ k : Fin 1152, (v0 (ix2 k n) : EReal) * ((v2 (ix2 f k) : EReal) * power (BitVec.setWidth 32 (v3 (ix2 f (g36 k))))) := by
  pointwise [k0_pay3, k0_pay2]
  exact Finset.sum_congr rfl fun k _ => select_mul _ _ _ _

/-- The activation. -/
theorem pay8_apply (v1 : FVec Ideal S4608x1152 .bf16) (v24 : FVec Ideal S4608x6912 .f32) (v25 : Vec Ideal S6912x1152 .fp8e4m3) (v26 : Vec Ideal S6912x36 .i8) (n : Fin 4608) (g : Fin 216) (j : Fin 32) (f : Fin 6912)
    (hf : f.val = 32 * g.val + j.val) :
    k0_pay8 (F := Ideal) v1 v24 v25 (k0_pay5 v26) (k0_pay6 v26) k0_pay7 (ix3 n g j)
      = v24 (ix2 n f) * Ideal.div 1 (1 + Ideal.exp (-v24 (ix2 n f))) * ∑ k : Fin 1152, (v1 (ix2 n k) : EReal) * ((v25 (ix2 f k) : EReal) * power (BitVec.setWidth 32 (v26 (ix2 f (g36 k))))) := by
  have b : g.val * 32 + j.val < 6912 := by clear hf; omega
  have e : f = (⟨g.val * 32 + j.val, b⟩ : Fin 6912) := Fin.ext (by show f.val = g.val * 32 + j.val; omega)
  subst e
  pointwise [k0_pay8, k0_pay7, k0_pay6, k0_pay5, k0_pay4]
  exact congrArg₂ (· * ·) rfl (Finset.sum_congr rfl fun k _ => select_mul _ _ _ _)

/-- The largest magnitude of a group of 32. -/
def top (X : FVec Ideal S4608x216x32 .f32) (n : Fin 4608) (g : Fin 216) : EReal :=
  Finset.univ.fold max (Ideal.ofBits .f32 0xFF800000#32) fun j : Fin 32 => FloatOps.absf (F := Ideal) (φ := .f32) (X (ix3 n g j))

/-- The exponent less bias and 9, not below -127. -/
theorem pay9_apply (v1 : FVec Ideal S4608x1152 .bf16) (v24 : FVec Ideal S4608x6912 .f32) (v25 : Vec Ideal S6912x1152 .fp8e4m3) (v29 : IVec S6912x36 1) (v37 v38 : FVec Ideal S6912x36 .f32) (n : Fin 4608) (g : Fin 216)
    (e : BitVec 32) (he : count (top (k0_pay8 (F := Ideal) v1 v24 v25 v29 v37 v38) n g) = e) :
    k0_pay9 (F := Ideal) v1 v24 v25 v29 v37 v38 (ix2 n g) = IntOp.maxsi 4294967169#32 (Scalar.select (IntOp.cmpi .eq e 0#32) 0#32 ((e - 126#32) - 9#32)) := by
  subst he
  unfold k0_pay9
  generalize k0_pay8 (F := Ideal) v1 v24 v25 v29 v37 v38 = X
  pointwise []
  rfl

/-- The exponent clipped from above. -/
theorem pay10_apply (v : IVec S4608x216 32) (n : Fin 4608) (g : Fin 216) : k0_pay10 127#32 v (ix2 n g) = IntOp.minsi 127#32 (v (ix2 n g)) := rfl

/-- The scale byte. -/
theorem pay13_apply (v : IVec S4608x216 32) (n : Fin 4608) (g : Fin 216) : k0_pay13 127#32 v (ix2 n g) = (IntOp.minsi 127#32 (v (ix2 n g)) + 127#32).setWidth 8 := rfl

/-- The scale the byte stands for. -/
theorem scale_apply (v : IVec S4608x216 32) (n : Fin 4608) (g : Fin 216) :
    Scalar.select (k0_pay14 127#32 v (ix2 n g)) (0 : EReal) (k0_pay15 (F := Ideal) 127#32 v (ix2 n g)) = power (IntOp.minsi 127#32 (v (ix2 n g)) + 127#32) := by
  pointwise [k0_pay14, k0_pay15, k0_pay12, k0_pay10]
  rfl

/-- The group of 32 a feature falls in. -/
def g216 (f : Fin 6912) : Fin 216 := ⟨f.val / 32, by omega⟩

/-- A feature's place in its group. -/
def j32 (f : Fin 6912) : Fin 32 := ⟨f.val % 32, by omega⟩

/-- The codes. -/
theorem pay11_apply (X : FVec Ideal S4608x216x32 .f32) (v : IVec S4608x216 32) (n : Fin 4608) (f : Fin 6912) :
    k0_pay11 (F := Ideal) X 127#32 v (ix2 n f)
      = min (Ideal.ofBits .f32 0x43E00000#32) (max (Ideal.ofBits .f32 0xC3E00000#32) ((X (ix3 n (g216 f) (j32 f)) : EReal) * power (127#32 - IntOp.minsi 127#32 (v (ix2 n (g216 f)))))) := by
  pointwise [k0_pay11, k0_pay10]
  refine congrArg (fun z => min (Ideal.ofBits .f32 0x43E00000#32) (max (Ideal.ofBits .f32 0xC3E00000#32) z)) ?_
  exact select_one _ _ _

/-- The result. -/
theorem pay1_apply (v108 : FVec Ideal S4608x6912 .fp8e4m3) (v115 : IVec S4608x216 1) (v123 : FVec Ideal S4608x216 .f32) (v133 : Vec Ideal S1152x6912 .fp8e4m3) (v134 : Vec Ideal S1152x216 .i8) (v156 : Vec Ideal S1152x4608 .f32)
    (n : Fin 4608) (d : Fin 1152) :
    k0_pay1 (F := Ideal) v108 v115 v123 (Scalar.ofBits .f32 0#32) v133 v134 v156 (ix2 n d)
      = (v156 (ix2 d n) : EReal) + ∑ f : Fin 6912, ((v108 (ix2 n f) : EReal) * Scalar.select (v115 (ix2 n (g216 f))) 0 (v123 (ix2 n (g216 f)))) * ((v133 (ix2 d f) : EReal) * power (BitVec.setWidth 32 (v134 (ix2 d (g216 f))))) := by
  pointwise [k0_pay1]
  refine congrArg (fun z => (v156 (ix2 d n) : EReal) + z) (Finset.sum_congr rfl fun f _ => ?_)
  exact select_two _ _ _ _ _

end Cert.ReferenceIdeal.Read
-- ==== Proof.ReferenceIdeal.Result.lean ====
/-
  The reference's three results are the layer's: its products, activation, exponent, codes and output, read at their indices, are the
  plain functions of numbers.
-/
module

public import proofs.«01_k».proof.Proof.ReferenceIdeal.Read
public import proofs.«01_k».proof.Proof.Results

@[expose] public section

set_option maxRecDepth 16384

noncomputable section

namespace Cert.ReferenceIdeal.Result

open Cert.ReferenceIdeal.Gen Cert.ReferenceIdeal.Read
open Idealize.ShloMosaic Idealize.ShloMosaic.Pipeline Idealize.SL.Sem Cert.Spec

/-- At a word among the exponent fields the two spellings of the power agree. -/
theorem power_word (w : BitVec 32) (h : w.toNat ≤ 255) : power w = pow2 w := by
  have e := power_eq w.toNat h
  rwa [BitVec.ofNat_toNat, BitVec.setWidth_eq] at e

/-- At a byte too. -/
theorem power_byte (b : BitVec 8) : power (BitVec.setWidth 32 b) = sc b :=
  power_word _ (by rw [BitVec.toNat_setWidth]; have := b.isLt; omega)

/-- The power of the scale's exponent plus the bias is the power of the scale byte. -/
theorem power_scale (a : EReal) (ha : 0 ≤ a) : power (xexp (expo a) + 127#32) = pow2 (toByte (expo a)) := by
  obtain ⟨E, e, h⟩ := expo_spec a ha
  obtain ⟨f1, f2, f3, f4⟩ := xexp_facts E (by have := h.1; omega)
  rw [e, f1, power_word _ f3]

/-- The power of the bias less the scale's exponent is the power of the mirrored scale byte. -/
theorem power_inv (a : EReal) (ha : 0 ≤ a) : power (127#32 - xexp (expo a)) = pow2 (254#32 - toByte (expo a)) := by
  obtain ⟨E, e, h⟩ := expo_spec a ha
  obtain ⟨f1, f2, f3, f4⟩ := xexp_facts E (by have := h.1; omega)
  rw [e, f2, power_word _ f4]

/-- The scale's exponent plus the bias is the scale byte. -/
theorem word_scale (a : EReal) (ha : 0 ≤ a) : xexp (expo a) + 127#32 = toByte (expo a) := by
  obtain ⟨E, e, h⟩ := expo_spec a ha
  rw [e, (xexp_facts E (by have := h.1; omega)).1]

/-- A magnitude is not negative. -/
theorem absf_nonneg (x : EReal) : 0 ≤ FloatOps.absf (F := Ideal) (φ := .f32) x := by
  show (0 : EReal) ≤ max x (-x)
  rcases le_total 0 x with h | h
  · exact le_max_of_le_left h
  · exact le_max_of_le_right (EReal.neg_nonneg.mpr h)

/-- A group's largest magnitude is not negative. -/
theorem amax_nonneg (a : In) (g n : ℕ) : 0 ≤ a.amax g n :=
  (Finset.le_fold_max _).mpr (Or.inr ⟨0, Finset.mem_univ _, absf_nonneg _⟩)

/-- A sum over slices of 768 is the sum over all. -/
theorem sum_slices (h : ℕ → EReal) (C : ℕ) : ∑ c ∈ Finset.range C, ∑ j : Fin 768, h (768 * c + j.val) = ∑ f ∈ Finset.range (768 * C), h f := by
  induction C with
  | zero => simp
  | succ C ih =>
    rw [Finset.sum_range_succ, ih, Nat.mul_succ, Finset.sum_range_add, Finset.sum_range (fun j => h (768 * C + j))]

variable (a0 : Vec Ideal S1152x4608 .bf16) (a1 : Vec Ideal S1152x4608 .f32) (a2 : Vec Ideal S6912x1152 .fp8e4m3) (a3 : Vec Ideal S6912x36 .i8)
  (a4 : Vec Ideal S6912x1152 .fp8e4m3) (a5 : Vec Ideal S6912x36 .i8) (a6 : Vec Ideal S1152x6912 .fp8e4m3) (a7 : Vec Ideal S1152x216 .i8)

/-- The gate product. -/
theorem gate_apply (n : Fin 4608) (f : Fin 6912) : k0_pay17 (F := Ideal) a0 a1 a2 a3 a4 a5 a6 a7 (ix2 n f) = (In.of a0 a1 a2 a3 a4 a5 a6 a7).gate f.val n.val := by
  unfold k0_pay17
  rw [View.ld_unit_zero (S := S1152x4608) Value.hz0 _ a0, View.ld_unit_zero (S := S6912x1152) Value.hz0 _ a2, View.ld_unit_zero (S := S6912x36) Value.hz0 _ a3, pay3_apply]
  refine Finset.sum_congr rfl fun k _ => ?_
  rw [power_byte, mul_comm]
  exact congrArg₂ (· * ·) (congrArg₂ (· * ·) (at2_of a2 0 _ _ _ rfl rfl) (congrArg sc (at2_of a3 0 _ _ _ rfl rfl))) (at2_of a0 0 _ _ _ rfl rfl)

/-- The gated activation. -/
theorem act_apply (n : Fin 4608) (g : Fin 216) (j : Fin 32) : k0_pay21 (F := Ideal) a0 a1 a2 a3 a4 a5 a6 a7 (ix3 n g j) = (In.of a0 a1 a2 a3 a4 a5 a6 a7).act (32 * g.val + j.val) n.val := by
  unfold k0_pay21 k0_pay16 k0_pay18 k0_pay19 k0_pay20
  rw [View.ld_unit_zero (S := S1152x4608) Value.hz0 _ a0, View.ld_unit_zero (S := S6912x1152) Value.hz0 _ a4, View.ld_unit_zero (S := S6912x36) Value.hz0 _ a5,
    pay8_apply _ _ _ _ n g j ⟨32 * g.val + j.val, by omega⟩ rfl, gate_apply]
  unfold In.act
  rw [zero_sub]
  refine congrArg₂ (· * ·) rfl (Finset.sum_congr rfl fun k _ => ?_)
  rw [pay2_apply, power_byte, mul_comm]
  exact congrArg₂ (· * ·) (congrArg₂ (· * ·) (at2_of a4 0 _ _ _ rfl rfl) (congrArg sc (at2_of a5 0 _ _ _ rfl rfl))) (at2_of a0 0 _ _ _ rfl rfl)

/-- A group's largest magnitude. -/
theorem top_apply (n : Fin 4608) (g : Fin 216) : top (k0_pay21 (F := Ideal) a0 a1 a2 a3 a4 a5 a6 a7) n g = (In.of a0 a1 a2 a3 a4 a5 a6 a7).amax g.val n.val := by
  unfold top In.amax
  simp only [act_apply]

/-- The scale's exponent. -/
theorem xexp_apply (n : Fin 4608) (g : Fin 216) :
    IntOp.minsi 127#32 (k0_pay22 (F := Ideal) a0 a1 a2 a3 a4 a5 a6 a7 (ix2 n g)) = xexp (expo ((In.of a0 a1 a2 a3 a4 a5 a6 a7).amax g.val n.val)) := by
  refine congrArg (IntOp.minsi 127#32) (pay9_apply _ _ _ _ _ _ n g _ ?_)
  exact (congrArg count (top_apply a0 a1 a2 a3 a4 a5 a6 a7 n g)).trans (count_expo _ (amax_nonneg _ _ _))

/-- The codes. -/
theorem code_apply (n : Fin 4608) (f : Fin 6912) : Value.G9 (F := Ideal) a0 a1 a2 a3 a4 a5 a6 a7 (ix2 n f) = (In.of a0 a1 a2 a3 a4 a5 a6 a7).code f.val n.val := by
  show k0_pay11 (F := Ideal) _ _ _ _ = _
  rw [pay11_apply, xexp_apply, power_inv _ (amax_nonneg _ _ _), act_apply]
  have e : 32 * (g216 f).val + (j32 f).val = f.val := by show 32 * (f.val / 32) + f.val % 32 = f.val; omega
  rw [e]
  rfl

/-- The output. -/
theorem out_apply (n : Fin 4608) (d : Fin 1152) : Value.G8 (F := Ideal) a0 a1 a2 a3 a4 a5 a6 a7 (ix2 n d) = (In.of a0 a1 a2 a3 a4 a5 a6 a7).part 9 d.val n.val := by
  show k0_pay1 (F := Ideal) _ _ _ _ _ _ _ _ = _
  rw [pay1_apply]
  unfold In.part
  refine congrArg₂ (· + ·) (at2_of a1 0 _ _ _ rfl rfl) ?_
  rw [sum_slices (fun f => (In.of a0 a1 a2 a3 a4 a5 a6 a7).Wd d.val f * (In.of a0 a1 a2 a3 a4 a5 a6 a7).dec f n.val) 9, Finset.sum_range]
  refine Finset.sum_congr rfl fun f _ => ?_
  rw [scale_apply, xexp_apply, power_scale _ (amax_nonneg _ _ _), power_byte, mul_comm]
  exact congrArg₂ (· * ·) (congrArg₂ (· * ·) (at2_of a6 0 _ _ _ rfl rfl) (congrArg sc (at2_of a7 0 _ _ _ rfl rfl)))
    (congrArg₂ (· * ·) (code_apply a0 a1 a2 a3 a4 a5 a6 a7 n f) rfl)

/-- The output array. -/
theorem out_eq : Value.G8 (F := Ideal) a0 a1 a2 a3 a4 a5 a6 a7 = resY (In.of a0 a1 a2 a3 a4 a5 a6 a7) := by
  funext y
  rw [eq_ix2 y]
  exact out_apply a0 a1 a2 a3 a4 a5 a6 a7 (y 0) (y 1)

/-- The codes' array. -/
theorem codes_eq : Value.G9 (F := Ideal) a0 a1 a2 a3 a4 a5 a6 a7 = resC (In.of a0 a1 a2 a3 a4 a5 a6 a7) := by
  funext y
  rw [eq_ix2 y]
  exact code_apply a0 a1 a2 a3 a4 a5 a6 a7 (y 0) (y 1)

/-- The scale bytes. -/
theorem byte_apply (n : Fin 4608) (g : Fin 216) : Value.G10 (F := Ideal) a0 a1 a2 a3 a4 a5 a6 a7 (ix2 n g) = ((In.of a0 a1 a2 a3 a4 a5 a6 a7).byte g.val n.val).setWidth 8 := by
  refine (pay13_apply _ n g).trans ?_
  rw [xexp_apply, word_scale _ (amax_nonneg _ _ _)]
  rfl

/-- The scale bytes' array. -/
theorem scales_eq : Value.G10 (F := Ideal) a0 a1 a2 a3 a4 a5 a6 a7 = resS (In.of a0 a1 a2 a3 a4 a5 a6 a7) := by
  funext y
  rw [eq_ix2 y]
  exact byte_apply a0 a1 a2 a3 a4 a5 a6 a7 (y 0) (y 1)

variable (m : (ℓ : Loc nD τ sig) → Buf (Elt Ideal) ℓ) (ρ : Dev nD → PrngReg)

/-- The layer's arrays as the reference finds them. -/
def args (c : Dev nD) : In := In.of (m ((c.tc : Thread nD τ).loc main_arg0)) (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6)) (m ((c.tc : Thread nD τ).loc main_arg7))

/-- Every execution of the reference ends with the layer's three results and with its arguments as launched. -/
theorem run : θ_run defs (onTc (τ := τ) (main (F := Ideal))) ⟨m, fun _ => 0, ρ⟩ fun r => ∀ c : Dev nD,
      r.2.mem ((c.tc : Thread nD τ).loc main_v0_0) = resY (args m c)
      ∧ r.2.mem ((c.tc : Thread nD τ).loc main_v0_1) = resC (args m c)
      ∧ r.2.mem ((c.tc : Thread nD τ).loc main_v0_2) = resS (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (out_eq _ _ _ _ _ _ _ _), (h c).2.1.trans (codes_eq _ _ _ _ _ _ _ _), (h c).2.2.1.trans (scales_eq _ _ _ _ _ _ _ _), (h c).2.2.2⟩) (Value.run m ρ)

end Cert.ReferenceIdeal.Result
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Frame
public import proofs.«01_k».proof.Proof.KernelIdeal.Result
public import proofs.«01_k».proof.Proof.ReferenceIdeal.Result
public import Idealize.ShloMosaic.Adequacy
public import Idealize.ShloMosaic.Init

@[expose] public section

noncomputable section

namespace Cert.Proof

open Idealize.ShloMosaic Idealize.SL.Sem Cert.Kernel

/-- The same arguments are the same arrays for the kernel and for the reference. -/
theorem args_eq {x0 x0' x1 x1' : (⟨2, ![1152, 4608]⟩ : Shape).Idx → EReal} {x2 x2' x4 x4' : (⟨2, ![6912, 1152]⟩ : Shape).Idx → EReal}
    {x3 x3' x5 x5' : (⟨2, ![6912, 36]⟩ : Shape).Idx → BitVec 8} {x6 x6' : (⟨2, ![1152, 6912]⟩ : Shape).Idx → EReal} {x7 x7' : (⟨2, ![1152, 216]⟩ : Shape).Idx → BitVec 8}
    (h : x0' = x0 ∧ x1' = x1 ∧ x2' = x2 ∧ x3' = x3 ∧ x4' = x4 ∧ x5' = x5 ∧ x6' = x6 ∧ x7' = x7) :
    Cert.Spec.In.of x0' x1' x2' x3' x4' x5' x6' x7' = Cert.Spec.In.of x0 x1 x2 x3 x4 x5 x6 x7 := by
  obtain ⟨rfl, rfl, rfl, rfl, rfl, rfl, rfl, rfl⟩ := h
  rfl

/-- From the same arguments both programs end with the layer's three results. -/
theorem algebraic [hK : Cert.KernelIdeal.Facts] [hR : Cert.ReferenceIdeal.Facts] : Cert.algebraic_KernelIdeal_ReferenceIdeal := by
  intro m ρ m' ρ' _ h
  have e : ∀ c, Cert.ReferenceIdeal.Result.args m' c = Cert.KernelIdeal.Run.args m c := fun c => args_eq (h c)
  exact ⟨fun c => Cert.Spec.resY (Cert.KernelIdeal.Run.args m c), fun c => Cert.Spec.resC (Cert.KernelIdeal.Run.args m c), fun c => Cert.Spec.resS (Cert.KernelIdeal.Run.args m c),
    Cert.KernelIdeal.Run.run m ρ,
    (θ_run Cert.ReferenceIdeal.defs _ _).mono (fun r hr c => ⟨(hr c).1.trans (congrArg Cert.Spec.resY (e c)), (hr c).2.1.trans (congrArg Cert.Spec.resC (e c)),
      (hr c).2.2.1.trans (congrArg Cert.Spec.resS (e c)), (hr c).2.2.2⟩) (Cert.ReferenceIdeal.Result.run m' ρ')⟩

/-- All the claims of the certificate. -/
theorem claim : Cert.Claim := ⟨Cert.Kernel.Gen.facts, Cert.KernelIdeal.Gen.facts, Cert.ReferenceIdeal.Gen.facts,
  fun m ρ _ => Cert.Kernel.Run.frame m ρ,
  fun m ρ _ => Cert.KernelIdeal.Run.frame m ρ,
  fun m ρ _ => Cert.ReferenceIdeal.Gen.frame m ρ,
  trivial,
  algebraic⟩

end Cert.Proof

end
